-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaIdeal_finite [hPre_finite : Cert.Pre_finite.Facts] (m : (ℓ : Loc Cert.AdaIdeal.nD Cert.AdaIdeal.τ Cert.AdaIdeal.sig) → Buf (Elt Ideal) ℓ) : Prop :=
  ∀ c : Dev Cert.AdaIdeal.nD,
    (Cert.Pre_finite.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))).1 = (fun _ => 1#1)
    ∧ (Cert.Pre_finite.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))).2 = (fun _ => 1#1)

def Pre_AdaRefIdeal (m : (ℓ : Loc Cert.AdaRefIdeal.nD Cert.AdaRefIdeal.τ Cert.AdaRefIdeal.sig) → Buf (Elt Ideal) ℓ) : Prop :=
  True

def Pre_AdaRefIdeal_finite [hPre_finite : Cert.Pre_finite.Facts] (m : (ℓ : Loc Cert.AdaRefIdeal.nD Cert.AdaRefIdeal.τ Cert.AdaRefIdeal.sig) → Buf (Elt Ideal) ℓ) : Prop :=
  ∀ c : Dev Cert.AdaRefIdeal.nD,
    (Cert.Pre_finite.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2))).1 = (fun _ => 1#1)
    ∧ (Cert.Pre_finite.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2))).2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaIdeal_pre_finite [hAdaIdeal : Cert.AdaIdeal.Facts] [hPre_finite : Cert.Pre_finite.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal_finite m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_AdaRefIdeal_pre_finite [hAdaRefIdeal : Cert.AdaRefIdeal.Facts] [hPre_finite : Cert.Pre_finite.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal_finite m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def preserves_Proj_ProjIdeal : Prop :=
  IdealRules.named_const.Statement Cert.ProjIdeal.κ "log2e" .f32 0x3FB8AA3B#32 (((Real.log 2)⁻¹ : ℝ) : EReal)
  ∧ IdealRules.named_const.Statement Cert.ProjIdeal.κ "q_scale" .f32 0x3E0293EE#32 (((Real.sqrt 128)⁻¹ * (Real.log 2)⁻¹ : ℝ) : EReal)

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)) (v3 : (c : Dev Cert.ProjIdeal.nD) → Buf (Elt Ideal) ((c.tc : Thread Cert.ProjIdeal.nD Cert.ProjIdeal.τ).loc Cert.ProjIdeal.main_v0_3)) (v4 : (c : Dev Cert.ProjIdeal.nD) → Buf (Elt Ideal) ((c.tc : Thread Cert.ProjIdeal.nD Cert.ProjIdeal.τ).loc Cert.ProjIdeal.main_v0_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_v0_3) = v3 c
          ∧ r.2.mem ((c.tc : Thread Cert.ProjIdeal.nD Cert.ProjIdeal.τ).loc Cert.ProjIdeal.main_v0_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v128) = v0 c
          ∧ r.2.mem ((c.tc : Thread Cert.ProjRefIdeal.nD Cert.ProjRefIdeal.τ).loc Cert.ProjRefIdeal.main_v130) = v1 c
          ∧ r.2.mem ((c.tc : Thread Cert.ProjRefIdeal.nD Cert.ProjRefIdeal.τ).loc Cert.ProjRefIdeal.main_v132) = v2 c
          ∧ r.2.mem ((c.tc : Thread Cert.ProjRefIdeal.nD Cert.ProjRefIdeal.τ).loc Cert.ProjRefIdeal.main_v133) = v3 c
          ∧ r.2.mem ((c.tc : Thread Cert.ProjRefIdeal.nD Cert.ProjRefIdeal.τ).loc Cert.ProjRefIdeal.main_v134) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v11) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Ada_AdaIdeal : Prop :=
  True

def algebraic_AdaIdeal_AdaRefIdeal_pre_finite [hAdaIdeal : Cert.AdaIdeal.Facts] [hAdaRefIdeal : Cert.AdaRefIdeal.Facts] [hPre_finite : Cert.Pre_finite.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal_finite m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Mix_MixIdeal : Prop :=
  True

def Claim : Prop :=
  ∃ (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hAda : Cert.Ada.Facts) (hAdaIdeal : Cert.AdaIdeal.Facts) (hAdaRefIdeal : Cert.AdaRefIdeal.Facts) (hMix : Cert.Mix.Facts) (hMixIdeal : Cert.MixIdeal.Facts) (hPre_finite : Cert.Pre_finite.Facts),
    quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Ada (hAda := hAda)
    ∧ quiescent_AdaIdeal (hAdaIdeal := hAdaIdeal)
    ∧ quiescent_AdaIdeal_pre_finite (hAdaIdeal := hAdaIdeal) (hPre_finite := hPre_finite)
    ∧ quiescent_AdaRefIdeal (hAdaRefIdeal := hAdaRefIdeal)
    ∧ quiescent_AdaRefIdeal_pre_finite (hAdaRefIdeal := hAdaRefIdeal) (hPre_finite := hPre_finite)
    ∧ quiescent_Mix (hMix := hMix)
    ∧ quiescent_MixIdeal (hMixIdeal := hMixIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Ada_AdaIdeal
    ∧ algebraic_AdaIdeal_AdaRefIdeal_pre_finite (hAdaIdeal := hAdaIdeal) (hAdaRefIdeal := hAdaRefIdeal) (hPre_finite := hPre_finite)
    ∧ preserves_Mix_MixIdeal
-- ==== Pre_finite.lean ====
abbrev S8x2048 : Shape := ⟨2, ![8, 2048]⟩
abbrev S1x2048x6144 : Shape := ⟨3, ![1, 2048, 6144]⟩
abbrev S1x6144 : Shape := ⟨2, ![1, 6144]⟩
abbrev S_ : Shape := ⟨0, ![]⟩

class Facts : Prop where
  bcast_S_S8x2048 : S_.BroadcastsInDim S8x2048 (![] : Fin 0 → Fin S8x2048.rank)
  bcast_S_S1x2048x6144 : S_.BroadcastsInDim S1x2048x6144 (![] : Fin 0 → Fin S1x2048x6144.rank)

variable [Facts]

def fn {F : FTy → Type} [FloatOps F] (main_arg0 : FVec F S8x2048 .f32) (main_arg1 : FVec F S1x2048x6144 .f32) (main_arg2 : FVec F S1x6144 .f32) : IVec S8x2048 1 × IVec S1x2048x6144 1 :=
  let main_v0 : FVec F S8x2048 .f32 := Host.absf main_arg0
  let main_cst : FVec F S_ .f32 := constant S_ .f32 0x7F800000#32
  let main_v1 : FVec F S8x2048 .f32 := broadcastInDim S8x2048 ![] bcast_S_S8x2048 main_cst
  let main_v2 : IVec S8x2048 1 := cmpf .olt main_v0 main_v1
  let main_v3 : FVec F S1x2048x6144 .f32 := Host.absf main_arg1
  let main_cst_0 : FVec F S_ .f32 := constant S_ .f32 0x7F800000#32
  let main_v4 : FVec F S1x2048x6144 .f32 := broadcastInDim S1x2048x6144 ![] bcast_S_S1x2048x6144 main_cst_0
  let main_v5 : IVec S1x2048x6144 1 := cmpf .olt main_v3 main_v4
  (main_v2, main_v5)
-- ==== Proj.lean ====
abbrev S8192x2048 : Shape := ⟨2, ![8192, 2048]⟩
abbrev S4x1x6144 : Shape := ⟨3, ![4, 1, 6144]⟩
abbrev S1x2048 : Shape := ⟨2, ![1, 2048]⟩
abbrev S2048x8192 : Shape := ⟨2, ![2048, 8192]⟩
abbrev S1x128 : Shape := ⟨2, ![1, 128]⟩
abbrev S2x1024 : Shape := ⟨2, ![2, 1024]⟩
abbrev S2048x2048 : Shape := ⟨2, ![2048, 2048]⟩
abbrev S8192x4096 : Shape := ⟨2, ![8192, 4096]⟩
abbrev S8192x1024 : Shape := ⟨2, ![8192, 1024]⟩
abbrev S256x2048 : Shape := ⟨2, ![256, 2048]⟩
abbrev S1x1x2048 : Shape := ⟨3, ![1, 1, 2048]⟩
abbrev S2048x128 : Shape := ⟨2, ![2048, 128]⟩
abbrev S2x128 : Shape := ⟨2, ![2, 128]⟩
abbrev S32x2048 : Shape := ⟨2, ![32, 2048]⟩
abbrev S1024x256 : Shape := ⟨2, ![1024, 256]⟩
abbrev S1024x512 : Shape := ⟨2, ![1024, 512]⟩
abbrev S1024x128 : Shape := ⟨2, ![1024, 128]⟩
abbrev S1024x2048 : Shape := ⟨2, ![1024, 2048]⟩
abbrev S4x2048x1024 : Shape := ⟨3, ![4, 2048, 1024]⟩
abbrev S1x2048x128 : Shape := ⟨3, ![1, 2048, 128]⟩
abbrev S256 : Shape := ⟨1, ![256]⟩
abbrev S256x1 : Shape := ⟨2, ![256, 1]⟩
abbrev S1x2048x1024 : Shape := ⟨3, ![1, 2048, 1024]⟩
abbrev S2048x1024 : Shape := ⟨2, ![2048, 1024]⟩
abbrev S1024x1024 : Shape := ⟨2, ![1024, 1024]⟩
abbrev S128 : Shape := ⟨1, ![128]⟩
abbrev S1024 : Shape := ⟨1, ![1024]⟩
abbrev S1024x1 : Shape := ⟨2, ![1024, 1]⟩

abbrev nBuf : Space → Nat
  | .hbm => 13
  | .vmem => 42
  | .smem => 0
  | _ => 0

abbrev bufTy : (tb : Table) → Fin (tcTables nBuf tb) → BufTy
  | .hbm, ⟨0, _⟩ => ⟨S8192x2048, .f32⟩
  | .hbm, ⟨1, _⟩ => ⟨S4x1x6144, .f32⟩
  | .hbm, ⟨2, _⟩ => ⟨S1x2048, .f32⟩
  | .hbm, ⟨3, _⟩ => ⟨S2048x8192, .f32⟩
  | .hbm, ⟨4, _⟩ => ⟨S1x128, .f32⟩
  | .hbm, ⟨5, _⟩ => ⟨S1x128, .f32⟩
  | .hbm, ⟨6, _⟩ => ⟨S2x1024, .f32⟩
  | .hbm, ⟨7, _⟩ => ⟨S2048x2048, .f32⟩
  | .hbm, ⟨8, _⟩ => ⟨S8192x2048, .bf16⟩
  | .hbm, ⟨9, _⟩ => ⟨S8192x2048, .bf16⟩
  | .hbm, ⟨10, _⟩ => ⟨S8192x4096, .bf16⟩
  | .hbm, ⟨11, _⟩ => ⟨S8192x1024, .f32⟩
  | .hbm, ⟨12, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S1x128, .f32⟩
  | .local _ .vmem, ⟨24, _⟩ => ⟨S1x128, .f32⟩
  | .local _ .vmem, ⟨25, _⟩ => ⟨S2x128, .f32⟩
  | .local _ .vmem, ⟨26, _⟩ => ⟨S2x128, .f32⟩
  | .local _ .vmem, ⟨27, _⟩ => ⟨S32x2048, .f32⟩
  | .local _ .vmem, ⟨28, _⟩ => ⟨S32x2048, .f32⟩
  | .local _ .vmem, ⟨29, _⟩ => ⟨S1024x256, .bf16⟩
  | .local _ .vmem, ⟨30, _⟩ => ⟨S1024x256, .bf16⟩
  | .local _ .vmem, ⟨31, _⟩ => ⟨S1024x256, .bf16⟩
  | .local _ .vmem, ⟨32, _⟩ => ⟨S1024x256, .bf16⟩
  | .local _ .vmem, ⟨33, _⟩ => ⟨S1024x512, .bf16⟩
  | .local _ .vmem, ⟨34, _⟩ => ⟨S1024x512, .bf16⟩
  | .local _ .vmem, ⟨35, _⟩ => ⟨S1024x128, .f32⟩
  | .local _ .vmem, ⟨36, _⟩ => ⟨S1024x128, .f32⟩
  | .local _ .vmem, ⟨37, _⟩ => ⟨S32x2048, .bf16⟩
  | .local _ .vmem, ⟨38, _⟩ => ⟨S32x2048, .bf16⟩
  | .local _ .vmem, ⟨39, _⟩ => ⟨S1024x2048, .bf16⟩
  | .local _ .vmem, ⟨40, _⟩ => ⟨S1024x2048, .bf16⟩
  | .local _ .vmem, ⟨41, _⟩ => ⟨S4x2048x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38

abbrev nD : Nat := 1
abbrev τ : Topo := Topo.v7x

variable {F : FTy → Type} [FloatOps F]

abbrev grid0 : Pipeline.Grid := ⟨3, ![2, 9, 4], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let arg1 : BitVec 32 := BitVec.ofNat 32 (i 1).val
  let c0_i32_0 : BitVec 32 := 0#32
  let v3 : BitVec 1 := Scalar.cmpi .eq arg1 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def k0_off1 (i : grid0.Coords) : Fin 3 → Nat :=
  let arg2 : BitVec 32 := BitVec.ofNat 32 (i 2).val
  let v54 : Index := Scalar.indexCast arg2
  let c0_27 : Index := 0#32
  let c0_28 : Index := 0#32
  ![v54.toNat, 0, 0]
def k0_off2 (i : grid0.Coords) : Fin 3 → Nat :=
  let arg2 : BitVec 32 := BitVec.ofNat 32 (i 2).val
  let v60 : Index := Scalar.indexCast arg2
  let c0_31 : Index := 0#32
  let c128 : Index := 128#32
  ![v60.toNat, 0, 128]
def k0_off3 (i : grid0.Coords) : Fin 3 → Nat :=
  let arg2 : BitVec 32 := BitVec.ofNat 32 (i 2).val
  let v66 : Index := Scalar.indexCast arg2
  let c0_34 : Index := 0#32
  let c256 : Index := 256#32
  ![v66.toNat, 0, 256]
def k0_off4 (i : grid0.Coords) : Fin 3 → Nat :=
  let arg2 : BitVec 32 := BitVec.ofNat 32 (i 2).val
  let v72 : Index := Scalar.indexCast arg2
  let c0_37 : Index := 0#32
  let c384 : Index := 384#32
  ![v72.toNat, 0, 384]
def k0_off5 (i : grid0.Coords) : Fin 3 → Nat :=
  let arg2 : BitVec 32 := BitVec.ofNat 32 (i 2).val
  let v78 : Index := Scalar.indexCast arg2
  let c0_40 : Index := 0#32
  let c512 : Index := 512#32
  ![v78.toNat, 0, 512]
def k0_off6 (i : grid0.Coords) : Fin 3 → Nat :=
  let arg2 : BitVec 32 := BitVec.ofNat 32 (i 2).val
  let v84 : Index := Scalar.indexCast arg2
  let c0_43 : Index := 0#32
  let c640 : Index := 640#32
  ![v84.toNat, 0, 640]
def k0_off7 (i : grid0.Coords) : Fin 3 → Nat :=
  let arg2 : BitVec 32 := BitVec.ofNat 32 (i 2).val
  let v90 : Index := Scalar.indexCast arg2
  let c0_46 : Index := 0#32
  let c768 : Index := 768#32
  ![v90.toNat, 0, 768]
def k0_off8 (i : grid0.Coords) : Fin 3 → Nat :=
  let arg2 : BitVec 32 := BitVec.ofNat 32 (i 2).val
  let v96 : Index := Scalar.indexCast arg2
  let c0_49 : Index := 0#32
  let c896 : Index := 896#32
  ![v96.toNat, 0, 896]
def k0_cond2 (i : grid0.Coords) : BitVec 1 :=
  let arg1 : BitVec 32 := BitVec.ofNat 32 (i 1).val
  let c8_i32 : BitVec 32 := 8#32
  let v7 : BitVec 1 := Scalar.cmpi .eq arg1 c8_i32
  let arg0 : BitVec 32 := BitVec.ofNat 32 (i 0).val
  let c1_i32 : BitVec 32 := 1#32
  let v8 : BitVec 1 := Scalar.cmpi .slt arg0 c1_i32
  let v9 : BitVec 1 := Scalar.andi v7 v8
  let arg2 : BitVec 32 := BitVec.ofNat 32 (i 2).val
  let c1_i32_2 : BitVec 32 := 1#32
  let v10 : BitVec 1 := Scalar.cmpi .sge arg2 c1_i32_2
  let v11 : BitVec 1 := Scalar.andi v9 v10
  let v12 : BitVec 32 := Scalar.extui v11
  let c0_i32_3 : BitVec 32 := 0#32
  let v13 : BitVec 1 := Scalar.cmpi .ne v12 c0_i32_3
  v13

def k0_off9 (i : grid0.Coords) : Fin 3 → Nat :=
  let arg2 : BitVec 32 := BitVec.ofNat 32 (i 2).val
  let c1_i32_26 : BitVec 32 := 1#32
  let v52 : BitVec 32 := Scalar.subi arg2 c1_i32_26
  let v55 : Index := Scalar.indexCast v52
  let c0_28 : Index := 0#32
  let c0_29 : Index := 0#32
  ![v55.toNat, 0, 0]
def k0_off10 (i : grid0.Coords) : Fin 3 → Nat :=
  let arg2 : BitVec 32 := BitVec.ofNat 32 (i 2).val
  let c1_i32_26 : BitVec 32 := 1#32
  let v52 : BitVec 32 := Scalar.subi arg2 c1_i32_26
  let v61 : Index := Scalar.indexCast v52
  let c0_32 : Index := 0#32
  let c128 : Index := 128#32
  ![v61.toNat, 0, 128]
def k0_off11 (i : grid0.Coords) : Fin 3 → Nat :=
  let arg2 : BitVec 32 := BitVec.ofNat 32 (i 2).val
  let c1_i32_26 : BitVec 32 := 1#32
  let v52 : BitVec 32 := Scalar.subi arg2 c1_i32_26
  let v67 : Index := Scalar.indexCast v52
  let c0_35 : Index := 0#32
  let c256 : Index := 256#32
  ![v67.toNat, 0, 256]
def k0_off12 (i : grid0.Coords) : Fin 3 → Nat :=
  let arg2 : BitVec 32 := BitVec.ofNat 32 (i 2).val
  let c1_i32_26 : BitVec 32 := 1#32
  let v52 : BitVec 32 := Scalar.subi arg2 c1_i32_26
  let v73 : Index := Scalar.indexCast v52
  let c0_38 : Index := 0#32
  let c384 : Index := 384#32
  ![v73.toNat, 0, 384]
def k0_off13 (i : grid0.Coords) : Fin 3 → Nat :=
  let arg2 : BitVec 32 := BitVec.ofNat 32 (i 2).val
  let c1_i32_26 : BitVec 32 := 1#32
  let v52 : BitVec 32 := Scalar.subi arg2 c1_i32_26
  let v79 : Index := Scalar.indexCast v52
  let c0_41 : Index := 0#32
  let c512 : Index := 512#32
  ![v79.toNat, 0, 512]
def k0_off14 (i : grid0.Coords) : Fin 3 → Nat :=
  let arg2 : BitVec 32 := BitVec.ofNat 32 (i 2).val
  let c1_i32_26 : BitVec 32 := 1#32
  let v52 : BitVec 32 := Scalar.subi arg2 c1_i32_26
  let v85 : Index := Scalar.indexCast v52
  let c0_44 : Index := 0#32
  let c640 : Index := 640#32
  ![v85.toNat, 0, 640]
def k0_off15 (i : grid0.Coords) : Fin 3 → Nat :=
  let arg2 : BitVec 32 := BitVec.ofNat 32 (i 2).val
  let c1_i32_26 : BitVec 32 := 1#32
  let v52 : BitVec 32 := Scalar.subi arg2 c1_i32_26
  let v91 : Index := Scalar.indexCast v52
  let c0_47 : Index := 0#32
  let c768 : Index := 768#32
  ![v91.toNat, 0, 768]
def k0_off16 (i : grid0.Coords) : Fin 3 → Nat :=
  let arg2 : BitVec 32 := BitVec.ofNat 32 (i 2).val
  let c1_i32_26 : BitVec 32 := 1#32
  let v52 : BitVec 32 := Scalar.subi arg2 c1_i32_26
  let v97 : Index := Scalar.indexCast v52
  let c0_50 : Index := 0#32
  let c896 : Index := 896#32
  ![v97.toNat, 0, 896]
def k0_cond4 (i : grid0.Coords) : BitVec 1 :=
  let arg1 : BitVec 32 := BitVec.ofNat 32 (i 1).val
  let c0_i32_8 : BitVec 32 := 0#32
  let v21 : BitVec 1 := Scalar.cmpi .eq arg1 c0_i32_8
  let v22 : BitVec 32 := Scalar.extui v21
  let c0_i32_9 : BitVec 32 := 0#32
  let v23 : BitVec 1 := Scalar.cmpi .ne v22 c0_i32_9
  v23

def k0_off17 (i : grid0.Coords) : Fin 2 → Nat :=
  let arg2 : BitVec 32 := BitVec.ofNat 32 (i 2).val
  let c256_i32 : BitVec 32 := 256#32
  let v0 : BitVec 32 := Scalar.muli arg2 c256_i32
  let v1 : BitVec 32 := v0
  let v76 : Index := Scalar.indexCast v1
  let c0_38 : Index := 0#32
  ![v76.toNat, 0]
def k0_cond5 (i : grid0.Coords) : BitVec 1 :=
  let arg1 : BitVec 32 := BitVec.ofNat 32 (i 1).val
  let c2_i32 : BitVec 32 := 2#32
  let c0_i32_10 : BitVec 32 := 0#32
  let v24 : BitVec 1 := Scalar.cmpi .eq c2_i32 c0_i32_10
  let c1_i32_11 : BitVec 32 := 1#32
  let v25 : BitVec 32 := Scalar.select v24 c1_i32_11 c2_i32
  let v26 : BitVec 32 := Scalar.remsi arg1 v25
  let c0_i32_13 : BitVec 32 := 0#32
  let v28 : BitVec 1 := Scalar.cmpi .slt v26 c0_i32_13
  let c0_i32_14 : BitVec 32 := 0#32
  let v29 : BitVec 1 := Scalar.cmpi .slt v25 c0_i32_14
  let v30 : BitVec 1 := Scalar.xori v28 v29
  let c0_i32_12 : BitVec 32 := 0#32
  let v27 : BitVec 1 := Scalar.cmpi .ne v26 c0_i32_12
  let v31 : BitVec 1 := Scalar.andi v30 v27
  let v32 : BitVec 32 := Scalar.addi v26 v25
  let v33 : BitVec 32 := Scalar.select v31 v32 v26
  let c1_i32_15 : BitVec 32 := 1#32
  let v34 : BitVec 1 := Scalar.cmpi .eq v33 c1_i32_15
  let v35 : BitVec 32 := Scalar.extui v34
  let c0_i32_16 : BitVec 32 := 0#32
  let v36 : BitVec 1 := Scalar.cmpi .ne v35 c0_i32_16
  v36

def k0_off18 (i : grid0.Coords) : Fin 2 → Nat :=
  let arg2 : BitVec 32 := BitVec.ofNat 32 (i 2).val
  let c256_i32 : BitVec 32 := 256#32
  let v0 : BitVec 32 := Scalar.muli arg2 c256_i32
  let v1 : BitVec 32 := v0
  let v76 : Index := Scalar.indexCast v1
  let c0_38 : Index := 0#32
  ![v76.toNat, 0]
def k0_off19 (i : grid0.Coords) : Fin 3 → Nat :=
  let arg2 : BitVec 32 := BitVec.ofNat 32 (i 2).val
  let v84 : Index := Scalar.indexCast arg2
  let c0_45 : Index := 0#32
  let c0_46 : Index := 0#32
  ![v84.toNat, 0, 0]
def k0_cond6 (i : grid0.Coords) : BitVec 1 :=
  let arg1 : BitVec 32 := BitVec.ofNat 32 (i 1).val
  let c0_i32_17 : BitVec 32 := 0#32
  let v37 : BitVec 1 := Scalar.cmpi .sgt arg1 c0_i32_17
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi arg1 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let c0_i32_24 : BitVec 32 := 0#32
  let v48 : BitVec 1 := Scalar.cmpi .eq v47 c0_i32_24
  let v49 : BitVec 1 := Scalar.andi v37 v48
  let v50 : BitVec 32 := Scalar.extui v49
  let c0_i32_25 : BitVec 32 := 0#32
  let v51 : BitVec 1 := Scalar.cmpi .ne v50 c0_i32_25
  v51

def k0_off20 (i : grid0.Coords) : Fin 2 → Nat :=
  let arg2 : BitVec 32 := BitVec.ofNat 32 (i 2).val
  let c256_i32 : BitVec 32 := 256#32
  let v0 : BitVec 32 := Scalar.muli arg2 c256_i32
  let v1 : BitVec 32 := v0
  let v76 : Index := Scalar.indexCast v1
  let c0_38 : Index := 0#32
  ![v76.toNat, 0]
def k0_off21 (i : grid0.Coords) : Fin 3 → Nat :=
  let arg2 : BitVec 32 := BitVec.ofNat 32 (i 2).val
  let v84 : Index := Scalar.indexCast arg2
  let c0_45 : Index := 0#32
  let c0_46 : Index := 0#32
  ![v84.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg1 c7_i32
  let c4_i32 : BitVec 32 := 4#32
  let v1 : BitVec 32 := Scalar.muli v0 c4_i32
  let v2 : BitVec 32 := Scalar.addi v1 arg2
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg1 c7_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.minsi arg1 c7_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let c0_i32 : BitVec 32 := 0#32
  let v3 : BitVec 1 := Scalar.cmpi .eq arg0 c0_i32
  let c0_i32_1 : BitVec 32 := 0#32
  let v4 : BitVec 1 := Scalar.cmpi .eq arg1 c0_i32_1
  let v5 : BitVec 1 := Scalar.andi v3 v4
  let c8_i32 : BitVec 32 := 8#32
  let v6 : BitVec 1 := Scalar.cmpi .eq arg1 c8_i32
  let c1_i32_2 : BitVec 32 := 1#32
  let v7 : BitVec 1 := Scalar.cmpi .slt arg0 c1_i32_2
  let v8 : BitVec 1 := Scalar.andi v6 v7
  let c1_i32_3 : BitVec 32 := 1#32
  let v9 : BitVec 1 := Scalar.cmpi .sge arg2 c1_i32_3
  let v10 : BitVec 1 := Scalar.andi v8 v9
  let c1_i32_4 : BitVec 32 := 1#32
  let v11 : BitVec 32 := Scalar.addi arg0 c1_i32_4
  let c4_i32_5 : BitVec 32 := 4#32
  let v12 : BitVec 32 := Scalar.muli v11 c4_i32_5
  let v13 : BitVec 32 := Scalar.addi v12 arg2
  let c1_i32_6 : BitVec 32 := 1#32
  let v14 : BitVec 32 := Scalar.subi v13 c1_i32_6
  let v15 : BitVec 32 := Scalar.select v10 v14 v2
  let v16 : BitVec 32 := Scalar.select v5 arg2 v15
  let c0_i32_7 : BitVec 32 := 0#32
  let v17 : BitVec 32 := Scalar.addi c0_i32_7 v16
  let c0_i32_8 : BitVec 32 := 0#32
  let c0_i32_9 : BitVec 32 := 0#32
  ![c0_i32_8.toNat, v17.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let c0_i32 : BitVec 32 := 0#32
  let v3 : BitVec 1 := Scalar.cmpi .eq arg0 c0_i32
  let c0_i32_1 : BitVec 32 := 0#32
  let v4 : BitVec 1 := Scalar.cmpi .eq arg1 c0_i32_1
  let v5 : BitVec 1 := Scalar.andi v3 v4
  let c8_i32 : BitVec 32 := 8#32
  let v6 : BitVec 1 := Scalar.cmpi .eq arg1 c8_i32
  let c1_i32_2 : BitVec 32 := 1#32
  let v7 : BitVec 1 := Scalar.cmpi .slt arg0 c1_i32_2
  let v8 : BitVec 1 := Scalar.andi v6 v7
  let c1_i32_3 : BitVec 32 := 1#32
  let v9 : BitVec 1 := Scalar.cmpi .sge arg2 c1_i32_3
  let v10 : BitVec 1 := Scalar.andi v8 v9
  let c1_i32_4 : BitVec 32 := 1#32
  let v11 : BitVec 32 := Scalar.addi arg0 c1_i32_4
  let c4_i32_5 : BitVec 32 := 4#32
  let v12 : BitVec 32 := Scalar.muli v11 c4_i32_5
  let v13 : BitVec 32 := Scalar.addi v12 arg2
  let c1_i32_6 : BitVec 32 := 1#32
  let v14 : BitVec 32 := Scalar.subi v13 c1_i32_6
  let v15 : BitVec 32 := Scalar.select v10 v14 v2
  let v16 : BitVec 32 := Scalar.select v5 arg2 v15
  let c8_i32_7 : BitVec 32 := 8#32
  let v17 : BitVec 32 := Scalar.addi c8_i32_7 v16
  let c0_i32_8 : BitVec 32 := 0#32
  let c0_i32_9 : BitVec 32 := 0#32
  ![c0_i32_8.toNat, v17.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let c0_i32 : BitVec 32 := 0#32
  let v3 : BitVec 1 := Scalar.cmpi .eq arg0 c0_i32
  let c0_i32_1 : BitVec 32 := 0#32
  let v4 : BitVec 1 := Scalar.cmpi .eq arg1 c0_i32_1
  let v5 : BitVec 1 := Scalar.andi v3 v4
  let c8_i32 : BitVec 32 := 8#32
  let v6 : BitVec 1 := Scalar.cmpi .eq arg1 c8_i32
  let c1_i32_2 : BitVec 32 := 1#32
  let v7 : BitVec 1 := Scalar.cmpi .slt arg0 c1_i32_2
  let v8 : BitVec 1 := Scalar.andi v6 v7
  let c1_i32_3 : BitVec 32 := 1#32
  let v9 : BitVec 1 := Scalar.cmpi .sge arg2 c1_i32_3
  let v10 : BitVec 1 := Scalar.andi v8 v9
  let c1_i32_4 : BitVec 32 := 1#32
  let v11 : BitVec 32 := Scalar.addi arg0 c1_i32_4
  let c4_i32_5 : BitVec 32 := 4#32
  let v12 : BitVec 32 := Scalar.muli v11 c4_i32_5
  let v13 : BitVec 32 := Scalar.addi v12 arg2
  let c1_i32_6 : BitVec 32 := 1#32
  let v14 : BitVec 32 := Scalar.subi v13 c1_i32_6
  let v15 : BitVec 32 := Scalar.select v10 v14 v2
  let v16 : BitVec 32 := Scalar.select v5 arg2 v15
  let c16_i32 : BitVec 32 := 16#32
  let v17 : BitVec 32 := Scalar.addi c16_i32 v16
  let c0_i32_7 : BitVec 32 := 0#32
  let c0_i32_8 : BitVec 32 := 0#32
  ![c0_i32_7.toNat, v17.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let c0_i32 : BitVec 32 := 0#32
  let v3 : BitVec 1 := Scalar.cmpi .eq arg0 c0_i32
  let c0_i32_1 : BitVec 32 := 0#32
  let v4 : BitVec 1 := Scalar.cmpi .eq arg1 c0_i32_1
  let v5 : BitVec 1 := Scalar.andi v3 v4
  let c8_i32 : BitVec 32 := 8#32
  let v6 : BitVec 1 := Scalar.cmpi .eq arg1 c8_i32
  let c1_i32_2 : BitVec 32 := 1#32
  let v7 : BitVec 1 := Scalar.cmpi .slt arg0 c1_i32_2
  let v8 : BitVec 1 := Scalar.andi v6 v7
  let c1_i32_3 : BitVec 32 := 1#32
  let v9 : BitVec 1 := Scalar.cmpi .sge arg2 c1_i32_3
  let v10 : BitVec 1 := Scalar.andi v8 v9
  let c1_i32_4 : BitVec 32 := 1#32
  let v11 : BitVec 32 := Scalar.addi arg0 c1_i32_4
  let c4_i32_5 : BitVec 32 := 4#32
  let v12 : BitVec 32 := Scalar.muli v11 c4_i32_5
  let v13 : BitVec 32 := Scalar.addi v12 arg2
  let c1_i32_6 : BitVec 32 := 1#32
  let v14 : BitVec 32 := Scalar.subi v13 c1_i32_6
  let v15 : BitVec 32 := Scalar.select v10 v14 v2
  let v16 : BitVec 32 := Scalar.select v5 arg2 v15
  let c24_i32 : BitVec 32 := 24#32
  let v17 : BitVec 32 := Scalar.addi c24_i32 v16
  let c0_i32_7 : BitVec 32 := 0#32
  let c0_i32_8 : BitVec 32 := 0#32
  ![c0_i32_7.toNat, v17.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let c0_i32 : BitVec 32 := 0#32
  let v3 : BitVec 1 := Scalar.cmpi .eq arg0 c0_i32
  let c0_i32_1 : BitVec 32 := 0#32
  let v4 : BitVec 1 := Scalar.cmpi .eq arg1 c0_i32_1
  let v5 : BitVec 1 := Scalar.andi v3 v4
  let c8_i32 : BitVec 32 := 8#32
  let v6 : BitVec 1 := Scalar.cmpi .eq arg1 c8_i32
  let c1_i32_2 : BitVec 32 := 1#32
  let v7 : BitVec 1 := Scalar.cmpi .slt arg0 c1_i32_2
  let v8 : BitVec 1 := Scalar.andi v6 v7
  let c1_i32_3 : BitVec 32 := 1#32
  let v9 : BitVec 1 := Scalar.cmpi .sge arg2 c1_i32_3
  let v10 : BitVec 1 := Scalar.andi v8 v9
  let c1_i32_4 : BitVec 32 := 1#32
  let v11 : BitVec 32 := Scalar.addi arg0 c1_i32_4
  let c4_i32_5 : BitVec 32 := 4#32
  let v12 : BitVec 32 := Scalar.muli v11 c4_i32_5
  let v13 : BitVec 32 := Scalar.addi v12 arg2
  let c1_i32_6 : BitVec 32 := 1#32
  let v14 : BitVec 32 := Scalar.subi v13 c1_i32_6
  let v15 : BitVec 32 := Scalar.select v10 v14 v2
  let v16 : BitVec 32 := Scalar.select v5 arg2 v15
  let c32_i32 : BitVec 32 := 32#32
  let v17 : BitVec 32 := Scalar.addi c32_i32 v16
  let c0_i32_7 : BitVec 32 := 0#32
  let c0_i32_8 : BitVec 32 := 0#32
  ![c0_i32_7.toNat, v17.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let c0_i32 : BitVec 32 := 0#32
  let v3 : BitVec 1 := Scalar.cmpi .eq arg0 c0_i32
  let c0_i32_1 : BitVec 32 := 0#32
  let v4 : BitVec 1 := Scalar.cmpi .eq arg1 c0_i32_1
  let v5 : BitVec 1 := Scalar.andi v3 v4
  let c8_i32 : BitVec 32 := 8#32
  let v6 : BitVec 1 := Scalar.cmpi .eq arg1 c8_i32
  let c1_i32_2 : BitVec 32 := 1#32
  let v7 : BitVec 1 := Scalar.cmpi .slt arg0 c1_i32_2
  let v8 : BitVec 1 := Scalar.andi v6 v7
  let c1_i32_3 : BitVec 32 := 1#32
  let v9 : BitVec 1 := Scalar.cmpi .sge arg2 c1_i32_3
  let v10 : BitVec 1 := Scalar.andi v8 v9
  let c1_i32_4 : BitVec 32 := 1#32
  let v11 : BitVec 32 := Scalar.addi arg0 c1_i32_4
  let c4_i32_5 : BitVec 32 := 4#32
  let v12 : BitVec 32 := Scalar.muli v11 c4_i32_5
  let v13 : BitVec 32 := Scalar.addi v12 arg2
  let c1_i32_6 : BitVec 32 := 1#32
  let v14 : BitVec 32 := Scalar.subi v13 c1_i32_6
  let v15 : BitVec 32 := Scalar.select v10 v14 v2
  let v16 : BitVec 32 := Scalar.select v5 arg2 v15
  let c40_i32 : BitVec 32 := 40#32
  let v17 : BitVec 32 := Scalar.addi c40_i32 v16
  let c0_i32_7 : BitVec 32 := 0#32
  let c0_i32_8 : BitVec 32 := 0#32
  ![c0_i32_7.toNat, v17.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let c0_i32 : BitVec 32 := 0#32
  let v3 : BitVec 1 := Scalar.cmpi .eq arg0 c0_i32
  let c0_i32_1 : BitVec 32 := 0#32
  let v4 : BitVec 1 := Scalar.cmpi .eq arg1 c0_i32_1
  let v5 : BitVec 1 := Scalar.andi v3 v4
  let c8_i32 : BitVec 32 := 8#32
  let v6 : BitVec 1 := Scalar.cmpi .eq arg1 c8_i32
  let c1_i32_2 : BitVec 32 := 1#32
  let v7 : BitVec 1 := Scalar.cmpi .slt arg0 c1_i32_2
  let v8 : BitVec 1 := Scalar.andi v6 v7
  let c1_i32_3 : BitVec 32 := 1#32
  let v9 : BitVec 1 := Scalar.cmpi .sge arg2 c1_i32_3
  let v10 : BitVec 1 := Scalar.andi v8 v9
  let c1_i32_4 : BitVec 32 := 1#32
  let v11 : BitVec 32 := Scalar.addi arg0 c1_i32_4
  let c4_i32_5 : BitVec 32 := 4#32
  let v12 : BitVec 32 := Scalar.muli v11 c4_i32_5
  let v13 : BitVec 32 := Scalar.addi v12 arg2
  let c1_i32_6 : BitVec 32 := 1#32
  let v14 : BitVec 32 := Scalar.subi v13 c1_i32_6
  let v15 : BitVec 32 := Scalar.select v10 v14 v2
  let v16 : BitVec 32 := Scalar.select v5 arg2 v15
  let c48_i32 : BitVec 32 := 48#32
  let v17 : BitVec 32 := Scalar.addi c48_i32 v16
  let c0_i32_7 : BitVec 32 := 0#32
  let c0_i32_8 : BitVec 32 := 0#32
  ![c0_i32_7.toNat, v17.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let c0_i32 : BitVec 32 := 0#32
  let v3 : BitVec 1 := Scalar.cmpi .eq arg0 c0_i32
  let c0_i32_1 : BitVec 32 := 0#32
  let v4 : BitVec 1 := Scalar.cmpi .eq arg1 c0_i32_1
  let v5 : BitVec 1 := Scalar.andi v3 v4
  let c8_i32 : BitVec 32 := 8#32
  let v6 : BitVec 1 := Scalar.cmpi .eq arg1 c8_i32
  let c1_i32_2 : BitVec 32 := 1#32
  let v7 : BitVec 1 := Scalar.cmpi .slt arg0 c1_i32_2
  let v8 : BitVec 1 := Scalar.andi v6 v7
  let c1_i32_3 : BitVec 32 := 1#32
  let v9 : BitVec 1 := Scalar.cmpi .sge arg2 c1_i32_3
  let v10 : BitVec 1 := Scalar.andi v8 v9
  let c1_i32_4 : BitVec 32 := 1#32
  let v11 : BitVec 32 := Scalar.addi arg0 c1_i32_4
  let c4_i32_5 : BitVec 32 := 4#32
  let v12 : BitVec 32 := Scalar.muli v11 c4_i32_5
  let v13 : BitVec 32 := Scalar.addi v12 arg2
  let c1_i32_6 : BitVec 32 := 1#32
  let v14 : BitVec 32 := Scalar.subi v13 c1_i32_6
  let v15 : BitVec 32 := Scalar.select v10 v14 v2
  let v16 : BitVec 32 := Scalar.select v5 arg2 v15
  let c56_i32 : BitVec 32 := 56#32
  let v17 : BitVec 32 := Scalar.addi c56_i32 v16
  let c0_i32_7 : BitVec 32 := 0#32
  let c0_i32_8 : BitVec 32 := 0#32
  ![c0_i32_7.toNat, v17.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![c0_i32.toNat, v1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let v4 : BitVec 32 := Scalar.muli v3 c4_i32
  let c0_i32_0 : BitVec 32 := 0#32
  let v5 : BitVec 1 := Scalar.cmpi .eq arg1 c0_i32_0
  let c0_i32_1 : BitVec 32 := 0#32
  let v6 : BitVec 32 := Scalar.select v5 c0_i32_1 arg2
  let v7 : BitVec 32 := Scalar.addi v4 v6
  let c0_i32_2 : BitVec 32 := 0#32
  let c0_i32_3 : BitVec 32 := 0#32
  ![v7.toNat, c0_i32_2.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 1 := Scalar.cmpi .eq arg1 c0_i32_0
  let c0_i32_1 : BitVec 32 := 0#32
  let v3 : BitVec 32 := Scalar.select v2 c0_i32_1 arg2
  let c4_i32 : BitVec 32 := 4#32
  let v4 : BitVec 32 := Scalar.muli arg0 c4_i32
  let v5 : BitVec 32 := Scalar.addi v4 v3
  let c0_i32_2 : BitVec 32 := 0#32
  ![v1.toNat, v5.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 1 := Scalar.cmpi .eq arg1 c0_i32_0
  let c0_i32_1 : BitVec 32 := 0#32
  let v3 : BitVec 32 := Scalar.select v2 c0_i32_1 arg2
  let c4_i32 : BitVec 32 := 4#32
  let v4 : BitVec 32 := Scalar.muli arg0 c4_i32
  let v5 : BitVec 32 := Scalar.addi v4 v3
  let c0_i32_2 : BitVec 32 := 0#32
  ![v1.toNat, v5.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 1 := Scalar.cmpi .eq arg1 c0_i32_0
  let c0_i32_1 : BitVec 32 := 0#32
  let v3 : BitVec 32 := Scalar.select v2 c0_i32_1 arg2
  let c4_i32 : BitVec 32 := 4#32
  let v4 : BitVec 32 := Scalar.muli arg0 c4_i32
  let v5 : BitVec 32 := Scalar.addi v4 v3
  let c0_i32_2 : BitVec 32 := 0#32
  ![v1.toNat, v5.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let v2 : BitVec 1 := Scalar.cmpi .eq arg1 c0_i32_0
  let c0_i32_1 : BitVec 32 := 0#32
  let v3 : BitVec 32 := Scalar.select v2 c0_i32_1 arg2
  let c4_i32 : BitVec 32 := 4#32
  let v4 : BitVec 32 := Scalar.muli arg0 c4_i32
  let v5 : BitVec 32 := Scalar.addi v4 v3
  let c0_i32_2 : BitVec 32 := 0#32
  ![v1.toNat, v5.toNat]

def cc0_transform_20 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let v4 : BitVec 32 := Scalar.muli v3 c4_i32
  let c0_i32_0 : BitVec 32 := 0#32
  let v5 : BitVec 1 := Scalar.cmpi .eq arg1 c0_i32_0
  let c0_i32_1 : BitVec 32 := 0#32
  let v6 : BitVec 32 := Scalar.select v5 c0_i32_1 arg2
  let v7 : BitVec 32 := Scalar.addi v4 v6
  let c0_i32_2 : BitVec 32 := 0#32
  let c0_i32_3 : BitVec 32 := 0#32
  ![v7.toNat, c0_i32_2.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 2 → Memref sig .tc .vmem S2x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false, true]

abbrev stage0_15 : Fin 2 → Memref sig .tc .vmem S32x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]

abbrev stage0_19 : Fin 2 → Memref sig .tc .vmem S1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 2 → Memref sig .tc .vmem S32x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, true]
-- ==== ProjIdeal.lean ====
variable {F : FTy → Type} [FloatOps F] [Named F]
def κ : String → Option EReal := fun
  | "log2e" => some (((Real.log 2)⁻¹ : ℝ) : EReal)
  | "q_scale" => some (((Real.sqrt 128)⁻¹ * (Real.log 2)⁻¹ : ℝ) : EReal)
  | _ => none
-- ==== ProjRefIdeal.lean ====
abbrev S8192x2048 : Shape := ⟨2, ![8192, 2048]⟩
abbrev S4x1x6144 : Shape := ⟨3, ![4, 1, 6144]⟩
abbrev S1x2048 : Shape := ⟨2, ![1, 2048]⟩
abbrev S2048x8192 : Shape := ⟨2, ![2048, 8192]⟩
abbrev S1x128 : Shape := ⟨2, ![1, 128]⟩
abbrev S2x1024 : Shape := ⟨2, ![2, 1024]⟩
abbrev S2048x2048 : Shape := ⟨2, ![2048, 2048]⟩
abbrev S4x2048x2048 : Shape := ⟨3, ![4, 2048, 2048]⟩
abbrev S_ : Shape := ⟨0, ![]⟩
abbrev S1024 : Shape := ⟨1, ![1024]⟩
abbrev S1x1024 : Shape := ⟨2, ![1, 1024]⟩
abbrev S4x6144 : Shape := ⟨2, ![4, 6144]⟩
abbrev S4x2048 : Shape := ⟨2, ![4, 2048]⟩
abbrev S2048 : Shape := ⟨1, ![2048]⟩
abbrev S4x2048x1 : Shape := ⟨3, ![4, 2048, 1]⟩
abbrev S1x1x2048 : Shape := ⟨3, ![1, 1, 2048]⟩
abbrev S4x1x2048 : Shape := ⟨3, ![4, 1, 2048]⟩
abbrev S4x2048x8192 : Shape := ⟨3, ![4, 2048, 8192]⟩
abbrev S4x2048x1024 : Shape := ⟨3, ![4, 2048, 1024]⟩
abbrev S4x2048x8x128 : Shape := ⟨4, ![4, 2048, 8, 128]⟩
abbrev S128 : Shape := ⟨1, ![128]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S4x2048x8x256 : Shape := ⟨4, ![4, 2048, 8, 256]⟩
abbrev S1x1x1024 : Shape := ⟨3, ![1, 1, 1024]⟩
abbrev S4x2048x8x512 : Shape := ⟨4, ![4, 2048, 8, 512]⟩
abbrev S8192x4096 : Shape := ⟨2, ![8192, 4096]⟩
abbrev S8192x1024 : Shape := ⟨2, ![8192, 1024]⟩

abbrev nBuf : Space → Nat
  | .hbm => 190
  | .vmem => 0
  | .smem => 0
  | _ => 0

abbrev hbmTy0_0 (i : Nat) : BufTy := match i % 128 with
  | 0 => ⟨S8192x2048, .f32⟩
  | 1 => ⟨S4x1x6144, .f32⟩
  | 2 => ⟨S1x2048, .f32⟩
  | 3 => ⟨S2048x8192, .f32⟩
  | 4 => ⟨S1x128, .f32⟩
  | 5 => ⟨S1x128, .f32⟩
  | 6 => ⟨S2x1024, .f32⟩
  | 7 => ⟨S2048x2048, .f32⟩
  | 8 => ⟨S4x2048x2048, .f32⟩
  | 9 => ⟨S_, .f32⟩
  | 10 => ⟨S1024, .f32⟩
  | 11 => ⟨S_, .f32⟩
  | 12 => ⟨S1024, .f32⟩
  | 13 => ⟨S1024, .f32⟩
  | 14 => ⟨S1x1024, .f32⟩
  | 15 => ⟨S2x1024, .f32⟩
  | 16 => ⟨S2x1024, .f32⟩
  | 17 => ⟨S2x1024, .f32⟩
  | 18 => ⟨S_, .f32⟩
  | 19 => ⟨S1024, .f32⟩
  | 20 => ⟨S1x1024, .f32⟩
  | 21 => ⟨S2x1024, .f32⟩
  | 22 => ⟨S2x1024, .f32⟩
  | 23 => ⟨S_, .f32⟩
  | 24 => ⟨S_, .f32⟩
  | 25 => ⟨S2x1024, .f32⟩
  | 26 => ⟨S4x6144, .f32⟩
  | 27 => ⟨S4x2048, .f32⟩
  | 28 => ⟨S4x2048, .f32⟩
  | 29 => ⟨S4x2048, .f32⟩
  | 30 => ⟨S2048, .f32⟩
  | 31 => ⟨S4x2048x2048, .f32⟩
  | 32 => ⟨S_, .f32⟩
  | 33 => ⟨S4x2048, .f32⟩
  | 34 => ⟨S4x2048x1, .f32⟩
  | 35 => ⟨S_, .f32⟩
  | 36 => ⟨S4x2048x1, .f32⟩
  | 37 => ⟨S4x2048x1, .f32⟩
  | 38 => ⟨S_, .f32⟩
  | 39 => ⟨S4x2048x1, .f32⟩
  | 40 => ⟨S4x2048x1, .f32⟩
  | 41 => ⟨S4x2048x1, .f32⟩
  | 42 => ⟨S4x2048x2048, .f32⟩
  | 43 => ⟨S4x2048x2048, .f32⟩
  | 44 => ⟨S1x1x2048, .f32⟩
  | 45 => ⟨S4x2048x2048, .f32⟩
  | 46 => ⟨S4x2048x2048, .f32⟩
  | 47 => ⟨S4x1x2048, .f32⟩
  | 48 => ⟨S_, .f32⟩
  | 49 => ⟨S4x1x2048, .f32⟩
  | 50 => ⟨S4x1x2048, .f32⟩
  | 51 => ⟨S4x2048x2048, .f32⟩
  | 52 => ⟨S4x2048x2048, .f32⟩
  | 53 => ⟨S4x1x2048, .f32⟩
  | 54 => ⟨S4x2048x2048, .f32⟩
  | 55 => ⟨S4x2048x2048, .f32⟩
  | 56 => ⟨S4x2048x8192, .f32⟩
  | 57 => ⟨S4x2048x1024, .f32⟩
  | 58 => ⟨S4x2048x1024, .f32⟩
  | 59 => ⟨S4x2048x1024, .f32⟩
  | 60 => ⟨S4x2048x1024, .f32⟩
  | 61 => ⟨S4x2048x1024, .f32⟩
  | 62 => ⟨S4x2048x1024, .f32⟩
  | 63 => ⟨S4x2048x1024, .f32⟩
  | 64 => ⟨S4x2048x1024, .f32⟩
  | 65 => ⟨S_, .f32⟩
  | 66 => ⟨S_, .f32⟩
  | 67 => ⟨S4x2048x8x128, .f32⟩
  | 68 => ⟨S128, .f32⟩
  | 69 => ⟨S4x2048x8x128, .f32⟩
  | 70 => ⟨S_, .f32⟩
  | 71 => ⟨S4x2048x8, .f32⟩
  | 72 => ⟨S4x2048x8x1, .f32⟩
  | 73 => ⟨S_, .f32⟩
  | 74 => ⟨S4x2048x8x1, .f32⟩
  | 75 => ⟨S4x2048x8x1, .f32⟩
  | 76 => ⟨S_, .f32⟩
  | 77 => ⟨S4x2048x8x1, .f32⟩
  | 78 => ⟨S4x2048x8x1, .f32⟩
  | 79 => ⟨S4x2048x8x1, .f32⟩
  | 80 => ⟨S4x2048x8x128, .f32⟩
  | 81 => ⟨S4x2048x8x128, .f32⟩
  | 82 => ⟨S1x1x1x128, .f32⟩
  | 83 => ⟨S4x2048x8x128, .f32⟩
  | 84 => ⟨S4x2048x8x128, .f32⟩
  | 85 => ⟨S_, .f32⟩
  | 86 => ⟨S_, .f32⟩
  | 87 => ⟨S4x2048x8x128, .f32⟩
  | 88 => ⟨S4x2048x8x128, .f32⟩
  | 89 => ⟨S4x2048x8x128, .f32⟩
  | 90 => ⟨S4x2048x8x128, .f32⟩
  | 91 => ⟨S4x2048x8x128, .f32⟩
  | 92 => ⟨S128, .f32⟩
  | 93 => ⟨S4x2048x8x128, .f32⟩
  | 94 => ⟨S_, .f32⟩
  | 95 => ⟨S4x2048x8, .f32⟩
  | 96 => ⟨S4x2048x8x1, .f32⟩
  | 97 => ⟨S_, .f32⟩
  | 98 => ⟨S4x2048x8x1, .f32⟩
  | 99 => ⟨S4x2048x8x1, .f32⟩
  | 100 => ⟨S_, .f32⟩
  | 101 => ⟨S4x2048x8x1, .f32⟩
  | 102 => ⟨S4x2048x8x1, .f32⟩
  | 103 => ⟨S4x2048x8x1, .f32⟩
  | 104 => ⟨S4x2048x8x128, .f32⟩
  | 105 => ⟨S4x2048x8x128, .f32⟩
  | 106 => ⟨S1x1x1x128, .f32⟩
  | 107 => ⟨S4x2048x8x128, .f32⟩
  | 108 => ⟨S4x2048x8x128, .f32⟩
  | 109 => ⟨S4x2048x1024, .f32⟩
  | 110 => ⟨S4x2048x1024, .f32⟩
  | 111 => ⟨S_, .f32⟩
  | 112 => ⟨S4x2048x1024, .f32⟩
  | 113 => ⟨S4x2048x1024, .f32⟩
  | 114 => ⟨S_, .f32⟩
  | 115 => ⟨S4x2048x1024, .f32⟩
  | 116 => ⟨S4x2048x1024, .f32⟩
  | 117 => ⟨S4x2048x1024, .f32⟩
  | 118 => ⟨S4x2048x8x128, .f32⟩
  | 119 => ⟨S4x2048x8x256, .f32⟩
  | 120 => ⟨S4x2048x8x128, .f32⟩
  | 121 => ⟨S4x2048x8x256, .f32⟩
  | 122 => ⟨S1x1024, .f32⟩
  | 123 => ⟨S1024, .f32⟩
  | 124 => ⟨S_, .f32⟩
  | 125 => ⟨S1024, .f32⟩
  | 126 => ⟨S1024, .f32⟩
  | 127 => ⟨S4x2048x1024, .f32⟩
  | _ => ⟨S8192x2048, .f32⟩

abbrev hbmTy0_1 (i : Nat) : BufTy := match i % 128 with
  | 0 => ⟨S4x2048x1024, .f32⟩
  | 1 => ⟨S_, .f32⟩
  | 2 => ⟨S4x2048x1024, .f32⟩
  | 3 => ⟨S4x2048x1024, .f32⟩
  | 4 => ⟨S_, .f32⟩
  | 5 => ⟨S4x2048x1024, .f32⟩
  | 6 => ⟨S4x2048x1024, .f32⟩
  | 7 => ⟨S1x1x1024, .f32⟩
  | 8 => ⟨S4x2048x1024, .f32⟩
  | 9 => ⟨S4x2048x1024, .f32⟩
  | 10 => ⟨S1x1x1024, .f32⟩
  | 11 => ⟨S4x2048x1024, .f32⟩
  | 12 => ⟨S4x2048x1024, .f32⟩
  | 13 => ⟨S4x2048x1024, .f32⟩
  | 14 => ⟨S4x2048x1024, .f32⟩
  | 15 => ⟨S4x2048x1024, .f32⟩
  | 16 => ⟨S_, .f32⟩
  | 17 => ⟨S1024, .f32⟩
  | 18 => ⟨S1024, .f32⟩
  | 19 => ⟨S4x2048x1024, .f32⟩
  | 20 => ⟨S4x2048x1024, .f32⟩
  | 21 => ⟨S4x2048x1024, .f32⟩
  | 22 => ⟨S_, .f32⟩
  | 23 => ⟨S4x2048x1024, .f32⟩
  | 24 => ⟨S4x2048x1024, .f32⟩
  | 25 => ⟨S_, .f32⟩
  | 26 => ⟨S4x2048x1024, .f32⟩
  | 27 => ⟨S4x2048x1024, .f32⟩
  | 28 => ⟨S1x1x1024, .f32⟩
  | 29 => ⟨S4x2048x1024, .f32⟩
  | 30 => ⟨S4x2048x1024, .f32⟩
  | 31 => ⟨S4x2048x1024, .f32⟩
  | 32 => ⟨S4x2048x1024, .f32⟩
  | 33 => ⟨S_, .f32⟩
  | 34 => ⟨S4x2048x1024, .f32⟩
  | 35 => ⟨S4x2048x1024, .f32⟩
  | 36 => ⟨S_, .f32⟩
  | 37 => ⟨S4x2048x1024, .f32⟩
  | 38 => ⟨S4x2048x1024, .f32⟩
  | 39 => ⟨S4x2048x1024, .f32⟩
  | 40 => ⟨S4x2048x8x128, .f32⟩
  | 41 => ⟨S4x2048x8x128, .f32⟩
  | 42 => ⟨S4x2048x8x128, .f32⟩
  | 43 => ⟨S4x2048x1024, .f32⟩
  | 44 => ⟨S4x2048x1024, .f32⟩
  | 45 => ⟨S_, .f32⟩
  | 46 => ⟨S4x2048x1024, .f32⟩
  | 47 => ⟨S4x2048x1024, .f32⟩
  | 48 => ⟨S_, .f32⟩
  | 49 => ⟨S4x2048x1024, .f32⟩
  | 50 => ⟨S4x2048x1024, .f32⟩
  | 51 => ⟨S4x2048x1024, .f32⟩
  | 52 => ⟨S4x2048x8x128, .f32⟩
  | 53 => ⟨S4x2048x8x512, .f32⟩
  | 54 => ⟨S8192x2048, .f32⟩
  | 55 => ⟨S8192x2048, .bf16⟩
  | 56 => ⟨S8192x2048, .f32⟩
  | 57 => ⟨S8192x2048, .bf16⟩
  | 58 => ⟨S8192x4096, .f32⟩
  | 59 => ⟨S8192x4096, .bf16⟩
  | 60 => ⟨S8192x1024, .f32⟩
  | 61 => ⟨S2048x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_call0_cst : Ref sig .tc := ⟨.hbm, 23, rfl⟩
abbrev main_call0_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_cst_12 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call1_v0 : Ref sig .tc := ⟨.hbm, 109, rfl⟩
abbrev main_call1_v1 : Ref sig .tc := ⟨.hbm, 110, rfl⟩
abbrev main_call1_cst : Ref sig .tc := ⟨.hbm, 111, rfl⟩
abbrev main_call1_v2 : Ref sig .tc := ⟨.hbm, 112, rfl⟩
abbrev main_call1_v3 : Ref sig .tc := ⟨.hbm, 113, rfl⟩
abbrev main_call1_cst_0 : Ref sig .tc := ⟨.hbm, 114, rfl⟩
abbrev main_call1_v4 : Ref sig .tc := ⟨.hbm, 115, rfl⟩
abbrev main_call1_v5 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_14 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_15 : Ref sig .tc := ⟨.hbm, 129, rfl⟩
abbrev main_v95 : Ref sig .tc := ⟨.hbm, 130, rfl⟩
abbrev main_v96 : Ref sig .tc := ⟨.hbm, 131, rfl⟩
abbrev main_cst_16 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_17 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_18 : Ref sig .tc := ⟨.hbm, 150, rfl⟩
abbrev main_v113 : Ref sig .tc := ⟨.hbm, 151, rfl⟩
abbrev main_v114 : Ref sig .tc := ⟨.hbm, 152, rfl⟩
abbrev main_cst_19 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_call2_v0 : Ref sig .tc := ⟨.hbm, 159, rfl⟩
abbrev main_call2_v1 : Ref sig .tc := ⟨.hbm, 160, rfl⟩
abbrev main_call2_cst : Ref sig .tc := ⟨.hbm, 161, rfl⟩
abbrev main_call2_v2 : Ref sig .tc := ⟨.hbm, 162, rfl⟩
abbrev main_call2_v3 : Ref sig .tc := ⟨.hbm, 163, rfl⟩
abbrev main_call2_cst_0 : Ref sig .tc := ⟨.hbm, 164, rfl⟩
abbrev main_call2_v4 : Ref sig .tc := ⟨.hbm, 165, rfl⟩
abbrev main_call2_v5 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_call3_v0 : Ref sig .tc := ⟨.hbm, 171, rfl⟩
abbrev main_call3_v1 : Ref sig .tc := ⟨.hbm, 172, rfl⟩
abbrev main_call3_cst : Ref sig .tc := ⟨.hbm, 173, rfl⟩
abbrev main_call3_v2 : Ref sig .tc := ⟨.hbm, 174, rfl⟩
abbrev main_call3_v3 : Ref sig .tc := ⟨.hbm, 175, rfl⟩
abbrev main_call3_cst_0 : Ref sig .tc := ⟨.hbm, 176, rfl⟩
abbrev main_call3_v4 : Ref sig .tc := ⟨.hbm, 177, rfl⟩
abbrev main_call3_v5 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S4x1x6144 : Shape := ⟨3, ![4, 1, 6144]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S4x1x6144, .f32⟩
  | .hbm, ⟨4, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S8192x2048 : Shape := ⟨2, ![8192, 2048]⟩
abbrev S2048x2048 : Shape := ⟨2, ![2048, 2048]⟩
abbrev S4x1x6144 : Shape := ⟨3, ![4, 1, 6144]⟩
abbrev S4x1x2048 : Shape := ⟨3, ![4, 1, 2048]⟩
abbrev S4x2048 : Shape := ⟨2, ![4, 2048]⟩
abbrev S4x2048x2048 : Shape := ⟨3, ![4, 2048, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S4x1x6144, .f32⟩
  | .hbm, ⟨4, _⟩ => ⟨S4x1x2048, .f32⟩
  | .hbm, ⟨5, _⟩ => ⟨S4x2048, .f32⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S4x2048x2048, .f32⟩
  | .hbm, ⟨10, _⟩ => ⟨S4x2048x2048, .f32⟩
  | .hbm, ⟨11, _⟩ => ⟨S4x1x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Ada.lean ====
abbrev S8x2048 : Shape := ⟨2, ![8, 2048]⟩
abbrev S1x2048x6144 : Shape := ⟨3, ![1, 2048, 6144]⟩
abbrev S1x6144 : Shape := ⟨2, ![1, 6144]⟩
abbrev S8x6144 : Shape := ⟨2, ![8, 6144]⟩
abbrev S8x256 : Shape := ⟨2, ![8, 256]⟩
abbrev S1x256x6144 : Shape := ⟨3, ![1, 256, 6144]⟩
abbrev S256x6144 : Shape := ⟨2, ![256, 6144]⟩
abbrev S16x256 : Shape := ⟨2, ![16, 256]⟩
abbrev S16x6144 : Shape := ⟨2, ![16, 6144]⟩

abbrev nBuf : Space → Nat
  | .hbm => 4
  | .vmem => 6
  | .smem => 0
  | _ => 0

abbrev bufTy : (tb : Table) → Fin (tcTables nBuf tb) → BufTy
  | .hbm, ⟨0, _⟩ => ⟨S8x2048, .f32⟩
  | .hbm, ⟨1, _⟩ => ⟨S1x2048x6144, .f32⟩
  | .hbm, ⟨2, _⟩ => ⟨S1x6144, .f32⟩
  | .hbm, ⟨3, _⟩ => ⟨S8x6144, .f32⟩
  | .local _ .vmem, ⟨0, _⟩ => ⟨S8x256, .f32⟩
  | .local _ .vmem, ⟨1, _⟩ => ⟨S8x256, .f32⟩
  | .local _ .vmem, ⟨2, _⟩ => ⟨S1x256x6144, .f32⟩
  | .local _ .vmem, ⟨3, _⟩ => ⟨S1x256x6144, .f32⟩
  | .local _ .vmem, ⟨4, _⟩ => ⟨S1x6144, .f32⟩
  | .local _ .vmem, ⟨5, _⟩ => ⟨S8x6144, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== AdaRefIdeal.lean ====
abbrev S8x2048 : Shape := ⟨2, ![8, 2048]⟩
abbrev S1x2048x6144 : Shape := ⟨3, ![1, 2048, 6144]⟩
abbrev S1x6144 : Shape := ⟨2, ![1, 6144]⟩
abbrev S_ : Shape := ⟨0, ![]⟩
abbrev S2048x6144 : Shape := ⟨2, ![2048, 6144]⟩
abbrev S8x6144 : Shape := ⟨2, ![8, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x6144, .f32⟩
  | .hbm, ⟨2, _⟩ => ⟨S1x6144, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048x6144, .f32⟩
  | .hbm, ⟨13, _⟩ => ⟨S8x6144, .f32⟩
  | .hbm, ⟨14, _⟩ => ⟨S6144, .f32⟩
  | .hbm, ⟨15, _⟩ => ⟨S1x6144, .f32⟩
  | .hbm, ⟨16, _⟩ => ⟨S8x6144, .f32⟩
  | .hbm, ⟨17, _⟩ => ⟨S8x6144, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Mix.lean ====
abbrev S8x257 : Shape := ⟨2, ![8, 257]⟩
abbrev S8192x2048 : Shape := ⟨2, ![8192, 2048]⟩
abbrev S8192x4096 : Shape := ⟨2, ![8192, 4096]⟩
abbrev S8192x1024 : Shape := ⟨2, ![8192, 1024]⟩
abbrev S1x128 : Shape := ⟨2, ![1, 128]⟩
abbrev S256x2048 : Shape := ⟨2, ![256, 2048]⟩
abbrev S256x4096 : Shape := ⟨2, ![256, 4096]⟩
abbrev S256x1024 : Shape := ⟨2, ![256, 1024]⟩
abbrev S8x256x768 : Shape := ⟨3, ![8, 256, 768]⟩
abbrev S8x128x128 : Shape := ⟨3, ![8, 128, 128]⟩
abbrev S256x256 : Shape := ⟨2, ![256, 256]⟩
abbrev S8x1 : Shape := ⟨2, ![8, 1]⟩
abbrev S8x256 : Shape := ⟨2, ![8, 256]⟩
abbrev S1x256 : Shape := ⟨2, ![1, 256]⟩
abbrev S64x256 : Shape := ⟨2, ![64, 256]⟩
abbrev S1x1 : Shape := ⟨2, ![1, 1]⟩
abbrev S64x768 : Shape := ⟨2, ![64, 768]⟩
abbrev S1x64x768 : Shape := ⟨3, ![1, 64, 768]⟩
abbrev S64x320 : Shape := ⟨2, ![64, 320]⟩
abbrev S1x64x320 : Shape := ⟨3, ![1, 64, 320]⟩
abbrev S1x64x256 : Shape := ⟨3, ![1, 64, 256]⟩
abbrev S64x128 : Shape := ⟨2, ![64, 128]⟩
abbrev S1x1024 : Shape := ⟨2, ![1, 1024]⟩
abbrev S64x1024 : Shape := ⟨2, ![64, 1024]⟩
abbrev S128x1024 : Shape := ⟨2, ![128, 1024]⟩
abbrev S8x1024 : Shape := ⟨2, ![8, 1024]⟩
abbrev S1x8x1024 : Shape := ⟨3, ![1, 8, 1024]⟩
abbrev S1 : Shape := ⟨1, ![1]⟩
abbrev S1x1x1 : Shape := ⟨3, ![1, 1, 1]⟩
abbrev S256x128 : Shape := ⟨2, ![256, 128]⟩
abbrev S128x128 : Shape := ⟨2, ![128, 128]⟩
abbrev S1x128x128 : Shape := ⟨3, ![1, 128, 128]⟩
abbrev S192x128 : Shape := ⟨2, ![192, 128]⟩
abbrev S192x384 : Shape := ⟨2, ![192, 384]⟩
abbrev S256x384 : Shape := ⟨2, ![256, 384]⟩
abbrev S192x256 : Shape := ⟨2, ![192, 256]⟩
abbrev S256x512 : Shape := ⟨2, ![256, 512]⟩
abbrev S512x256 : Shape := ⟨2, ![512, 256]⟩
abbrev S128x256 : Shape := ⟨2, ![128, 256]⟩
abbrev S256 : Shape := ⟨1, ![256]⟩
abbrev S256x1 : Shape := ⟨2, ![256, 1]⟩
abbrev S1x256x256 : Shape := ⟨3, ![1, 256, 256]⟩
abbrev S64 : Shape := ⟨1, ![64]⟩
abbrev S64x1 : Shape := ⟨2, ![64, 1]⟩
abbrev S1x256x512 : Shape := ⟨3, ![1, 256, 512]⟩
abbrev S256x768 : Shape := ⟨2, ![256, 768]⟩
abbrev S1x256x768 : Shape := ⟨3, ![1, 256, 768]⟩

abbrev nBuf : Space → Nat
  | .hbm => 7
  | .vmem => 24
  | .smem => 0
  | _ => 0

abbrev bufTy : (tb : Table) → Fin (tcTables nBuf tb) → BufTy
  | .hbm, ⟨0, _⟩ => ⟨S8x257, .f32⟩
  | .hbm, ⟨1, _⟩ => ⟨S8192x2048, .bf16⟩
  | .hbm, ⟨2, _⟩ => ⟨S8192x2048, .bf16⟩
  | .hbm, ⟨3, _⟩ => ⟨S8192x4096, .bf16⟩
  | .hbm, ⟨4, _⟩ => ⟨S8192x1024, .f32⟩
  | .hbm, ⟨5, _⟩ => ⟨S1x128, .f32⟩
  | .hbm, ⟨6, _⟩ => ⟨S8192x2048, .bf16⟩
  | .local _ .vmem, ⟨0, _⟩ => ⟨S8x257, .f32⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x4096, .bf16⟩
  | .local _ .vmem, ⟨10, _⟩ => ⟨S256x4096, .bf16⟩
  | .local _ .vmem, ⟨11, _⟩ => ⟨S256x1024, .f32⟩
  | .local _ .vmem, ⟨12, _⟩ => ⟨S256x1024, .f32⟩
  | .local _ .vmem, ⟨13, _⟩ => ⟨S1x128, .f32⟩
  | .local _ .vmem, ⟨14, _⟩ => ⟨S256x2048, .bf16⟩
  | .local _ .vmem, ⟨15, _⟩ => ⟨S256x2048, .bf16⟩
  | .local _ .vmem, ⟨16, _⟩ => ⟨S8x256x768, .f32⟩
  | .local _ .vmem, ⟨17, _⟩ => ⟨S8x128x128, .f32⟩
  | .local _ .vmem, ⟨18, _⟩ => ⟨S8x128x128, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | _, _ => ⟨S8x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c0_i32_4 : BitVec 32 := 0#32
  let v8 : BitVec 1 := Scalar.cmpi .eq arg1 c0_i32_4
  let v9 : BitVec 32 := Scalar.extui v8
  let c0_i32_5 : BitVec 32 := 0#32
  let v10 : BitVec 1 := Scalar.cmpi .ne v9 c0_i32_5
  v10

@[reducible] def k0_t1_loop : Scf.Loop 32 :=
  let c0_i32_517 : BitVec 32 := 0#32
  let c256_i32 : BitVec 32 := 256#32
  let v1637 : BitVec 32 := Scalar.addi c0_i32_517 c256_i32
  let c1_i32_518 : BitVec 32 := 1#32
  ⟨c0_i32_517, v1637, c1_i32_518⟩
def k0_mult1 (k0_t1 : Fin k0_t1_loop.trips) : BitVec 32 :=
  let c0_i32_517 : BitVec 32 := 0#32
  let c1_i32_518 : BitVec 32 := 1#32
  let arg19 : BitVec 32 := Scf.iv c0_i32_517 c1_i32_518 k0_t1
  let c0_i32_729 : BitVec 32 := 0#32
  let v2407 : BitVec 1 := Scalar.cmpi .sgt arg19 c0_i32_729
  let v2408 : BitVec 32 := Scalar.extui v2407
  let c0_i32_730 : BitVec 32 := 0#32
  let v2409 : BitVec 1 := Scalar.cmpi .slt arg19 c0_i32_730
  let v2410 : BitVec 32 := Scalar.extui v2409
  let v2411 : BitVec 32 := Scalar.subi v2408 v2410
  let c64_i32_728 : BitVec 32 := 64#32
  let c0_i32_731 : BitVec 32 := 0#32
  let v2412 : BitVec 1 := Scalar.cmpi .sgt c64_i32_728 c0_i32_731
  let v2413 : BitVec 32 := Scalar.extui v2412
  let c0_i32_732 : BitVec 32 := 0#32
  let v2414 : BitVec 1 := Scalar.cmpi .slt c64_i32_728 c0_i32_732
  let v2415 : BitVec 32 := Scalar.extui v2414
  let v2416 : BitVec 32 := Scalar.subi v2413 v2415
  let v2417 : BitVec 1 := Scalar.cmpi .ne v2411 v2416
  let v2418 : BitVec 32 := Scalar.remsi arg19 c64_i32_728
  let c0_i32_733 : BitVec 32 := 0#32
  let v2419 : BitVec 1 := Scalar.cmpi .ne v2418 c0_i32_733
  let v2420 : BitVec 1 := Scalar.andi v2417 v2419
  let v2406 : BitVec 32 := Scalar.divsi arg19 c64_i32_728
  let c1_i32_734 : BitVec 32 := 1#32
  let v2421 : BitVec 32 := Scalar.subi v2406 c1_i32_734
  let v2422 : BitVec 32 := Scalar.select v2420 v2421 v2406
  let c64_i32_735 : BitVec 32 := 64#32
  let v2423 : BitVec 32 := Scalar.muli v2422 c64_i32_735
  v2423
def k0_off1 (k0_t1 : Fin k0_t1_loop.trips) : Fin 2 → Nat :=
  let c0_i32_517 : BitVec 32 := 0#32
  let c1_i32_518 : BitVec 32 := 1#32
  let arg19 : BitVec 32 := Scf.iv c0_i32_517 c1_i32_518 k0_t1
  let v2425 : Index := Scalar.indexCast arg19
  let c0_736 : Index := 0#32
  ![v2425.toNat, 0]
def k0_off2 (k0_t1 : Fin k0_t1_loop.trips) : Fin 2 → Nat :=
  let c0_i32_517 : BitVec 32 := 0#32
  let c1_i32_518 : BitVec 32 := 1#32
  let arg19 : BitVec 32 := Scf.iv c0_i32_517 c1_i32_518 k0_t1
  let c0_i32_729 : BitVec 32 := 0#32
  let v2407 : BitVec 1 := Scalar.cmpi .sgt arg19 c0_i32_729
  let v2408 : BitVec 32 := Scalar.extui v2407
  let c0_i32_730 : BitVec 32 := 0#32
  let v2409 : BitVec 1 := Scalar.cmpi .slt arg19 c0_i32_730
  let v2410 : BitVec 32 := Scalar.extui v2409
  let v2411 : BitVec 32 := Scalar.subi v2408 v2410
  let c64_i32_728 : BitVec 32 := 64#32
  let c0_i32_731 : BitVec 32 := 0#32
  let v2412 : BitVec 1 := Scalar.cmpi .sgt c64_i32_728 c0_i32_731
  let v2413 : BitVec 32 := Scalar.extui v2412
  let c0_i32_732 : BitVec 32 := 0#32
  let v2414 : BitVec 1 := Scalar.cmpi .slt c64_i32_728 c0_i32_732
  let v2415 : BitVec 32 := Scalar.extui v2414
  let v2416 : BitVec 32 := Scalar.subi v2413 v2415
  let v2417 : BitVec 1 := Scalar.cmpi .ne v2411 v2416
  let v2418 : BitVec 32 := Scalar.remsi arg19 c64_i32_728
  let c0_i32_733 : BitVec 32 := 0#32
  let v2419 : BitVec 1 := Scalar.cmpi .ne v2418 c0_i32_733
  let v2420 : BitVec 1 := Scalar.andi v2417 v2419
  let v2406 : BitVec 32 := Scalar.divsi arg19 c64_i32_728
  let c1_i32_734 : BitVec 32 := 1#32
  let v2421 : BitVec 32 := Scalar.subi v2406 c1_i32_734
  let v2422 : BitVec 32 := Scalar.select v2420 v2421 v2406
  let c64_i32_735 : BitVec 32 := 64#32
  let v2423 : BitVec 32 := Scalar.muli v2422 c64_i32_735
  let v2424 : BitVec 32 := v2423
  let v2431 : Index := Scalar.indexCast v2424
  let c0_739 : Index := 0#32
  ![v2431.toNat, 0]
def k0_off3 (k0_t1 : Fin k0_t1_loop.trips) : Fin 2 → Nat :=
  let c0_i32_517 : BitVec 32 := 0#32
  let c1_i32_518 : BitVec 32 := 1#32
  let arg19 : BitVec 32 := Scf.iv c0_i32_517 c1_i32_518 k0_t1
  let c0_i32_729 : BitVec 32 := 0#32
  let v2407 : BitVec 1 := Scalar.cmpi .sgt arg19 c0_i32_729
  let v2408 : BitVec 32 := Scalar.extui v2407
  let c0_i32_730 : BitVec 32 := 0#32
  let v2409 : BitVec 1 := Scalar.cmpi .slt arg19 c0_i32_730
  let v2410 : BitVec 32 := Scalar.extui v2409
  let v2411 : BitVec 32 := Scalar.subi v2408 v2410
  let c64_i32_728 : BitVec 32 := 64#32
  let c0_i32_731 : BitVec 32 := 0#32
  let v2412 : BitVec 1 := Scalar.cmpi .sgt c64_i32_728 c0_i32_731
  let v2413 : BitVec 32 := Scalar.extui v2412
  let c0_i32_732 : BitVec 32 := 0#32
  let v2414 : BitVec 1 := Scalar.cmpi .slt c64_i32_728 c0_i32_732
  let v2415 : BitVec 32 := Scalar.extui v2414
  let v2416 : BitVec 32 := Scalar.subi v2413 v2415
  let v2417 : BitVec 1 := Scalar.cmpi .ne v2411 v2416
  let v2418 : BitVec 32 := Scalar.remsi arg19 c64_i32_728
  let c0_i32_733 : BitVec 32 := 0#32
  let v2419 : BitVec 1 := Scalar.cmpi .ne v2418 c0_i32_733
  let v2420 : BitVec 1 := Scalar.andi v2417 v2419
  let v2406 : BitVec 32 := Scalar.divsi arg19 c64_i32_728
  let c1_i32_734 : BitVec 32 := 1#32
  let v2421 : BitVec 32 := Scalar.subi v2406 c1_i32_734
  let v2422 : BitVec 32 := Scalar.select v2420 v2421 v2406
  let c64_i32_735 : BitVec 32 := 64#32
  let v2423 : BitVec 32 := Scalar.muli v2422 c64_i32_735
  let v2424 : BitVec 32 := v2423
  let v2463 : Index := Scalar.indexCast v2424
  let c128_746 : Index := 128#32
  ![v2463.toNat, 128]
def k0_off4 (k0_t1 : Fin k0_t1_loop.trips) : Fin 2 → Nat :=
  let c0_i32_517 : BitVec 32 := 0#32
  let c1_i32_518 : BitVec 32 := 1#32
  let arg19 : BitVec 32 := Scf.iv c0_i32_517 c1_i32_518 k0_t1
  let c0_i32_729 : BitVec 32 := 0#32
  let v2407 : BitVec 1 := Scalar.cmpi .sgt arg19 c0_i32_729
  let v2408 : BitVec 32 := Scalar.extui v2407
  let c0_i32_730 : BitVec 32 := 0#32
  let v2409 : BitVec 1 := Scalar.cmpi .slt arg19 c0_i32_730
  let v2410 : BitVec 32 := Scalar.extui v2409
  let v2411 : BitVec 32 := Scalar.subi v2408 v2410
  let c64_i32_728 : BitVec 32 := 64#32
  let c0_i32_731 : BitVec 32 := 0#32
  let v2412 : BitVec 1 := Scalar.cmpi .sgt c64_i32_728 c0_i32_731
  let v2413 : BitVec 32 := Scalar.extui v2412
  let c0_i32_732 : BitVec 32 := 0#32
  let v2414 : BitVec 1 := Scalar.cmpi .slt c64_i32_728 c0_i32_732
  let v2415 : BitVec 32 := Scalar.extui v2414
  let v2416 : BitVec 32 := Scalar.subi v2413 v2415
  let v2417 : BitVec 1 := Scalar.cmpi .ne v2411 v2416
  let v2418 : BitVec 32 := Scalar.remsi arg19 c64_i32_728
  let c0_i32_733 : BitVec 32 := 0#32
  let v2419 : BitVec 1 := Scalar.cmpi .ne v2418 c0_i32_733
  let v2420 : BitVec 1 := Scalar.andi v2417 v2419
  let v2406 : BitVec 32 := Scalar.divsi arg19 c64_i32_728
  let c1_i32_734 : BitVec 32 := 1#32
  let v2421 : BitVec 32 := Scalar.subi v2406 c1_i32_734
  let v2422 : BitVec 32 := Scalar.select v2420 v2421 v2406
  let c64_i32_735 : BitVec 32 := 64#32
  let v2423 : BitVec 32 := Scalar.muli v2422 c64_i32_735
  let v2424 : BitVec 32 := v2423
  let v2495 : Index := Scalar.indexCast v2424
  let c256_753 : Index := 256#32
  ![v2495.toNat, 256]
def k0_off5 (k0_t1 : Fin k0_t1_loop.trips) : Fin 2 → Nat :=
  let c0_i32_517 : BitVec 32 := 0#32
  let c1_i32_518 : BitVec 32 := 1#32
  let arg19 : BitVec 32 := Scf.iv c0_i32_517 c1_i32_518 k0_t1
  let c0_i32_729 : BitVec 32 := 0#32
  let v2407 : BitVec 1 := Scalar.cmpi .sgt arg19 c0_i32_729
  let v2408 : BitVec 32 := Scalar.extui v2407
  let c0_i32_730 : BitVec 32 := 0#32
  let v2409 : BitVec 1 := Scalar.cmpi .slt arg19 c0_i32_730
  let v2410 : BitVec 32 := Scalar.extui v2409
  let v2411 : BitVec 32 := Scalar.subi v2408 v2410
  let c64_i32_728 : BitVec 32 := 64#32
  let c0_i32_731 : BitVec 32 := 0#32
  let v2412 : BitVec 1 := Scalar.cmpi .sgt c64_i32_728 c0_i32_731
  let v2413 : BitVec 32 := Scalar.extui v2412
  let c0_i32_732 : BitVec 32 := 0#32
  let v2414 : BitVec 1 := Scalar.cmpi .slt c64_i32_728 c0_i32_732
  let v2415 : BitVec 32 := Scalar.extui v2414
  let v2416 : BitVec 32 := Scalar.subi v2413 v2415
  let v2417 : BitVec 1 := Scalar.cmpi .ne v2411 v2416
  let v2418 : BitVec 32 := Scalar.remsi arg19 c64_i32_728
  let c0_i32_733 : BitVec 32 := 0#32
  let v2419 : BitVec 1 := Scalar.cmpi .ne v2418 c0_i32_733
  let v2420 : BitVec 1 := Scalar.andi v2417 v2419
  let v2406 : BitVec 32 := Scalar.divsi arg19 c64_i32_728
  let c1_i32_734 : BitVec 32 := 1#32
  let v2421 : BitVec 32 := Scalar.subi v2406 c1_i32_734
  let v2422 : BitVec 32 := Scalar.select v2420 v2421 v2406
  let c64_i32_735 : BitVec 32 := 64#32
  let v2423 : BitVec 32 := Scalar.muli v2422 c64_i32_735
  let v2424 : BitVec 32 := v2423
  let v2527 : Index := Scalar.indexCast v2424
  let c384_760 : Index := 384#32
  ![v2527.toNat, 384]
def k0_off6 (k0_t1 : Fin k0_t1_loop.trips) : Fin 2 → Nat :=
  let c0_i32_517 : BitVec 32 := 0#32
  let c1_i32_518 : BitVec 32 := 1#32
  let arg19 : BitVec 32 := Scf.iv c0_i32_517 c1_i32_518 k0_t1
  let c0_i32_729 : BitVec 32 := 0#32
  let v2407 : BitVec 1 := Scalar.cmpi .sgt arg19 c0_i32_729
  let v2408 : BitVec 32 := Scalar.extui v2407
  let c0_i32_730 : BitVec 32 := 0#32
  let v2409 : BitVec 1 := Scalar.cmpi .slt arg19 c0_i32_730
  let v2410 : BitVec 32 := Scalar.extui v2409
  let v2411 : BitVec 32 := Scalar.subi v2408 v2410
  let c64_i32_728 : BitVec 32 := 64#32
  let c0_i32_731 : BitVec 32 := 0#32
  let v2412 : BitVec 1 := Scalar.cmpi .sgt c64_i32_728 c0_i32_731
  let v2413 : BitVec 32 := Scalar.extui v2412
  let c0_i32_732 : BitVec 32 := 0#32
  let v2414 : BitVec 1 := Scalar.cmpi .slt c64_i32_728 c0_i32_732
  let v2415 : BitVec 32 := Scalar.extui v2414
  let v2416 : BitVec 32 := Scalar.subi v2413 v2415
  let v2417 : BitVec 1 := Scalar.cmpi .ne v2411 v2416
  let v2418 : BitVec 32 := Scalar.remsi arg19 c64_i32_728
  let c0_i32_733 : BitVec 32 := 0#32
  let v2419 : BitVec 1 := Scalar.cmpi .ne v2418 c0_i32_733
  let v2420 : BitVec 1 := Scalar.andi v2417 v2419
  let v2406 : BitVec 32 := Scalar.divsi arg19 c64_i32_728
  let c1_i32_734 : BitVec 32 := 1#32
  let v2421 : BitVec 32 := Scalar.subi v2406 c1_i32_734
  let v2422 : BitVec 32 := Scalar.select v2420 v2421 v2406
  let c64_i32_735 : BitVec 32 := 64#32
  let v2423 : BitVec 32 := Scalar.muli v2422 c64_i32_735
  let v2424 : BitVec 32 := v2423
  let v2559 : Index := Scalar.indexCast v2424
  let c512_767 : Index := 512#32
  ![v2559.toNat, 512]
def k0_off7 (k0_t1 : Fin k0_t1_loop.trips) : Fin 2 → Nat :=
  let c0_i32_517 : BitVec 32 := 0#32
  let c1_i32_518 : BitVec 32 := 1#32
  let arg19 : BitVec 32 := Scf.iv c0_i32_517 c1_i32_518 k0_t1
  let c0_i32_729 : BitVec 32 := 0#32
  let v2407 : BitVec 1 := Scalar.cmpi .sgt arg19 c0_i32_729
  let v2408 : BitVec 32 := Scalar.extui v2407
  let c0_i32_730 : BitVec 32 := 0#32
  let v2409 : BitVec 1 := Scalar.cmpi .slt arg19 c0_i32_730
  let v2410 : BitVec 32 := Scalar.extui v2409
  let v2411 : BitVec 32 := Scalar.subi v2408 v2410
  let c64_i32_728 : BitVec 32 := 64#32
  let c0_i32_731 : BitVec 32 := 0#32
  let v2412 : BitVec 1 := Scalar.cmpi .sgt c64_i32_728 c0_i32_731
  let v2413 : BitVec 32 := Scalar.extui v2412
  let c0_i32_732 : BitVec 32 := 0#32
  let v2414 : BitVec 1 := Scalar.cmpi .slt c64_i32_728 c0_i32_732
  let v2415 : BitVec 32 := Scalar.extui v2414
  let v2416 : BitVec 32 := Scalar.subi v2413 v2415
  let v2417 : BitVec 1 := Scalar.cmpi .ne v2411 v2416
  let v2418 : BitVec 32 := Scalar.remsi arg19 c64_i32_728
  let c0_i32_733 : BitVec 32 := 0#32
  let v2419 : BitVec 1 := Scalar.cmpi .ne v2418 c0_i32_733
  let v2420 : BitVec 1 := Scalar.andi v2417 v2419
  let v2406 : BitVec 32 := Scalar.divsi arg19 c64_i32_728
  let c1_i32_734 : BitVec 32 := 1#32
  let v2421 : BitVec 32 := Scalar.subi v2406 c1_i32_734
  let v2422 : BitVec 32 := Scalar.select v2420 v2421 v2406
  let c64_i32_735 : BitVec 32 := 64#32
  let v2423 : BitVec 32 := Scalar.muli v2422 c64_i32_735
  let v2424 : BitVec 32 := v2423
  let v2591 : Index := Scalar.indexCast v2424
  let c640_774 : Index := 640#32
  ![v2591.toNat, 640]
def k0_off8 (k0_t1 : Fin k0_t1_loop.trips) : Fin 2 → Nat :=
  let c0_i32_517 : BitVec 32 := 0#32
  let c1_i32_518 : BitVec 32 := 1#32
  let arg19 : BitVec 32 := Scf.iv c0_i32_517 c1_i32_518 k0_t1
  let c0_i32_729 : BitVec 32 := 0#32
  let v2407 : BitVec 1 := Scalar.cmpi .sgt arg19 c0_i32_729
  let v2408 : BitVec 32 := Scalar.extui v2407
  let c0_i32_730 : BitVec 32 := 0#32
  let v2409 : BitVec 1 := Scalar.cmpi .slt arg19 c0_i32_730
  let v2410 : BitVec 32 := Scalar.extui v2409
  let v2411 : BitVec 32 := Scalar.subi v2408 v2410
  let c64_i32_728 : BitVec 32 := 64#32
  let c0_i32_731 : BitVec 32 := 0#32
  let v2412 : BitVec 1 := Scalar.cmpi .sgt c64_i32_728 c0_i32_731
  let v2413 : BitVec 32 := Scalar.extui v2412
  let c0_i32_732 : BitVec 32 := 0#32
  let v2414 : BitVec 1 := Scalar.cmpi .slt c64_i32_728 c0_i32_732
  let v2415 : BitVec 32 := Scalar.extui v2414
  let v2416 : BitVec 32 := Scalar.subi v2413 v2415
  let v2417 : BitVec 1 := Scalar.cmpi .ne v2411 v2416
  let v2418 : BitVec 32 := Scalar.remsi arg19 c64_i32_728
  let c0_i32_733 : BitVec 32 := 0#32
  let v2419 : BitVec 1 := Scalar.cmpi .ne v2418 c0_i32_733
  let v2420 : BitVec 1 := Scalar.andi v2417 v2419
  let v2406 : BitVec 32 := Scalar.divsi arg19 c64_i32_728
  let c1_i32_734 : BitVec 32 := 1#32
  let v2421 : BitVec 32 := Scalar.subi v2406 c1_i32_734
  let v2422 : BitVec 32 := Scalar.select v2420 v2421 v2406
  let c64_i32_735 : BitVec 32 := 64#32
  let v2423 : BitVec 32 := Scalar.muli v2422 c64_i32_735
  let v2424 : BitVec 32 := v2423
  let v2623 : Index := Scalar.indexCast v2424
  let c768_781 : Index := 768#32
  ![v2623.toNat, 768]
def k0_off9 (k0_t1 : Fin k0_t1_loop.trips) : Fin 2 → Nat :=
  let c0_i32_517 : BitVec 32 := 0#32
  let c1_i32_518 : BitVec 32 := 1#32
  let arg19 : BitVec 32 := Scf.iv c0_i32_517 c1_i32_518 k0_t1
  let c0_i32_729 : BitVec 32 := 0#32
  let v2407 : BitVec 1 := Scalar.cmpi .sgt arg19 c0_i32_729
  let v2408 : BitVec 32 := Scalar.extui v2407
  let c0_i32_730 : BitVec 32 := 0#32
  let v2409 : BitVec 1 := Scalar.cmpi .slt arg19 c0_i32_730
  let v2410 : BitVec 32 := Scalar.extui v2409
  let v2411 : BitVec 32 := Scalar.subi v2408 v2410
  let c64_i32_728 : BitVec 32 := 64#32
  let c0_i32_731 : BitVec 32 := 0#32
  let v2412 : BitVec 1 := Scalar.cmpi .sgt c64_i32_728 c0_i32_731
  let v2413 : BitVec 32 := Scalar.extui v2412
  let c0_i32_732 : BitVec 32 := 0#32
  let v2414 : BitVec 1 := Scalar.cmpi .slt c64_i32_728 c0_i32_732
  let v2415 : BitVec 32 := Scalar.extui v2414
  let v2416 : BitVec 32 := Scalar.subi v2413 v2415
  let v2417 : BitVec 1 := Scalar.cmpi .ne v2411 v2416
  let v2418 : BitVec 32 := Scalar.remsi arg19 c64_i32_728
  let c0_i32_733 : BitVec 32 := 0#32
  let v2419 : BitVec 1 := Scalar.cmpi .ne v2418 c0_i32_733
  let v2420 : BitVec 1 := Scalar.andi v2417 v2419
  let v2406 : BitVec 32 := Scalar.divsi arg19 c64_i32_728
  let c1_i32_734 : BitVec 32 := 1#32
  let v2421 : BitVec 32 := Scalar.subi v2406 c1_i32_734
  let v2422 : BitVec 32 := Scalar.select v2420 v2421 v2406
  let c64_i32_735 : BitVec 32 := 64#32
  let v2423 : BitVec 32 := Scalar.muli v2422 c64_i32_735
  let v2424 : BitVec 32 := v2423
  let v2655 : Index := Scalar.indexCast v2424
  let c896_788 : Index := 896#32
  ![v2655.toNat, 896]
def k0_cond5 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_6 : BitVec 32 := 0#32
  let v13 : BitVec 1 := Scalar.cmpi .ne v12 c0_i32_6
  v13

@[reducible] def k0_t2_loop : Scf.Loop 32 :=
  let c0_i32_565 : BitVec 32 := 0#32
  let c256_i32 : BitVec 32 := 256#32
  let v1709 : BitVec 32 := Scalar.addi c0_i32_565 c256_i32
  let c1_i32_566 : BitVec 32 := 1#32
  ⟨c0_i32_565, v1709, c1_i32_566⟩
def k0_mult2 (k0_t2 : Fin k0_t2_loop.trips) : BitVec 32 :=
  let c0_i32_565 : BitVec 32 := 0#32
  let c1_i32_566 : BitVec 32 := 1#32
  let arg19 : BitVec 32 := Scf.iv c0_i32_565 c1_i32_566 k0_t2
  let c0_i32_777 : BitVec 32 := 0#32
  let v2479 : BitVec 1 := Scalar.cmpi .sgt arg19 c0_i32_777
  let v2480 : BitVec 32 := Scalar.extui v2479
  let c0_i32_778 : BitVec 32 := 0#32
  let v2481 : BitVec 1 := Scalar.cmpi .slt arg19 c0_i32_778
  let v2482 : BitVec 32 := Scalar.extui v2481
  let v2483 : BitVec 32 := Scalar.subi v2480 v2482
  let c64_i32_776 : BitVec 32 := 64#32
  let c0_i32_779 : BitVec 32 := 0#32
  let v2484 : BitVec 1 := Scalar.cmpi .sgt c64_i32_776 c0_i32_779
  let v2485 : BitVec 32 := Scalar.extui v2484
  let c0_i32_780 : BitVec 32 := 0#32
  let v2486 : BitVec 1 := Scalar.cmpi .slt c64_i32_776 c0_i32_780
  let v2487 : BitVec 32 := Scalar.extui v2486
  let v2488 : BitVec 32 := Scalar.subi v2485 v2487
  let v2489 : BitVec 1 := Scalar.cmpi .ne v2483 v2488
  let v2490 : BitVec 32 := Scalar.remsi arg19 c64_i32_776
  let c0_i32_781 : BitVec 32 := 0#32
  let v2491 : BitVec 1 := Scalar.cmpi .ne v2490 c0_i32_781
  let v2492 : BitVec 1 := Scalar.andi v2489 v2491
  let v2478 : BitVec 32 := Scalar.divsi arg19 c64_i32_776
  let c1_i32_782 : BitVec 32 := 1#32
  let v2493 : BitVec 32 := Scalar.subi v2478 c1_i32_782
  let v2494 : BitVec 32 := Scalar.select v2492 v2493 v2478
  let c64_i32_783 : BitVec 32 := 64#32
  let v2495 : BitVec 32 := Scalar.muli v2494 c64_i32_783
  v2495
def k0_off10 (k0_t2 : Fin k0_t2_loop.trips) : Fin 2 → Nat :=
  let c0_i32_565 : BitVec 32 := 0#32
  let c1_i32_566 : BitVec 32 := 1#32
  let arg19 : BitVec 32 := Scf.iv c0_i32_565 c1_i32_566 k0_t2
  let v2497 : Index := Scalar.indexCast arg19
  let c0_784 : Index := 0#32
  ![v2497.toNat, 0]
def k0_off11 (k0_t2 : Fin k0_t2_loop.trips) : Fin 2 → Nat :=
  let c0_i32_565 : BitVec 32 := 0#32
  let c1_i32_566 : BitVec 32 := 1#32
  let arg19 : BitVec 32 := Scf.iv c0_i32_565 c1_i32_566 k0_t2
  let c0_i32_777 : BitVec 32 := 0#32
  let v2479 : BitVec 1 := Scalar.cmpi .sgt arg19 c0_i32_777
  let v2480 : BitVec 32 := Scalar.extui v2479
  let c0_i32_778 : BitVec 32 := 0#32
  let v2481 : BitVec 1 := Scalar.cmpi .slt arg19 c0_i32_778
  let v2482 : BitVec 32 := Scalar.extui v2481
  let v2483 : BitVec 32 := Scalar.subi v2480 v2482
  let c64_i32_776 : BitVec 32 := 64#32
  let c0_i32_779 : BitVec 32 := 0#32
  let v2484 : BitVec 1 := Scalar.cmpi .sgt c64_i32_776 c0_i32_779
  let v2485 : BitVec 32 := Scalar.extui v2484
  let c0_i32_780 : BitVec 32 := 0#32
  let v2486 : BitVec 1 := Scalar.cmpi .slt c64_i32_776 c0_i32_780
  let v2487 : BitVec 32 := Scalar.extui v2486
  let v2488 : BitVec 32 := Scalar.subi v2485 v2487
  let v2489 : BitVec 1 := Scalar.cmpi .ne v2483 v2488
  let v2490 : BitVec 32 := Scalar.remsi arg19 c64_i32_776
  let c0_i32_781 : BitVec 32 := 0#32
  let v2491 : BitVec 1 := Scalar.cmpi .ne v2490 c0_i32_781
  let v2492 : BitVec 1 := Scalar.andi v2489 v2491
  let v2478 : BitVec 32 := Scalar.divsi arg19 c64_i32_776
  let c1_i32_782 : BitVec 32 := 1#32
  let v2493 : BitVec 32 := Scalar.subi v2478 c1_i32_782
  let v2494 : BitVec 32 := Scalar.select v2492 v2493 v2478
  let c64_i32_783 : BitVec 32 := 64#32
  let v2495 : BitVec 32 := Scalar.muli v2494 c64_i32_783
  let v2496 : BitVec 32 := v2495
  let v2503 : Index := Scalar.indexCast v2496
  let c0_787 : Index := 0#32
  ![v2503.toNat, 0]
def k0_off12 (k0_t2 : Fin k0_t2_loop.trips) : Fin 2 → Nat :=
  let c0_i32_565 : BitVec 32 := 0#32
  let c1_i32_566 : BitVec 32 := 1#32
  let arg19 : BitVec 32 := Scf.iv c0_i32_565 c1_i32_566 k0_t2
  let c0_i32_777 : BitVec 32 := 0#32
  let v2479 : BitVec 1 := Scalar.cmpi .sgt arg19 c0_i32_777
  let v2480 : BitVec 32 := Scalar.extui v2479
  let c0_i32_778 : BitVec 32 := 0#32
  let v2481 : BitVec 1 := Scalar.cmpi .slt arg19 c0_i32_778
  let v2482 : BitVec 32 := Scalar.extui v2481
  let v2483 : BitVec 32 := Scalar.subi v2480 v2482
  let c64_i32_776 : BitVec 32 := 64#32
  let c0_i32_779 : BitVec 32 := 0#32
  let v2484 : BitVec 1 := Scalar.cmpi .sgt c64_i32_776 c0_i32_779
  let v2485 : BitVec 32 := Scalar.extui v2484
  let c0_i32_780 : BitVec 32 := 0#32
  let v2486 : BitVec 1 := Scalar.cmpi .slt c64_i32_776 c0_i32_780
  let v2487 : BitVec 32 := Scalar.extui v2486
  let v2488 : BitVec 32 := Scalar.subi v2485 v2487
  let v2489 : BitVec 1 := Scalar.cmpi .ne v2483 v2488
  let v2490 : BitVec 32 := Scalar.remsi arg19 c64_i32_776
  let c0_i32_781 : BitVec 32 := 0#32
  let v2491 : BitVec 1 := Scalar.cmpi .ne v2490 c0_i32_781
  let v2492 : BitVec 1 := Scalar.andi v2489 v2491
  let v2478 : BitVec 32 := Scalar.divsi arg19 c64_i32_776
  let c1_i32_782 : BitVec 32 := 1#32
  let v2493 : BitVec 32 := Scalar.subi v2478 c1_i32_782
  let v2494 : BitVec 32 := Scalar.select v2492 v2493 v2478
  let c64_i32_783 : BitVec 32 := 64#32
  let v2495 : BitVec 32 := Scalar.muli v2494 c64_i32_783
  let v2496 : BitVec 32 := v2495
  let v2535 : Index := Scalar.indexCast v2496
  let c128_794 : Index := 128#32
  ![v2535.toNat, 128]
def k0_off13 (k0_t2 : Fin k0_t2_loop.trips) : Fin 2 → Nat :=
  let c0_i32_565 : BitVec 32 := 0#32
  let c1_i32_566 : BitVec 32 := 1#32
  let arg19 : BitVec 32 := Scf.iv c0_i32_565 c1_i32_566 k0_t2
  let c0_i32_777 : BitVec 32 := 0#32
  let v2479 : BitVec 1 := Scalar.cmpi .sgt arg19 c0_i32_777
  let v2480 : BitVec 32 := Scalar.extui v2479
  let c0_i32_778 : BitVec 32 := 0#32
  let v2481 : BitVec 1 := Scalar.cmpi .slt arg19 c0_i32_778
  let v2482 : BitVec 32 := Scalar.extui v2481
  let v2483 : BitVec 32 := Scalar.subi v2480 v2482
  let c64_i32_776 : BitVec 32 := 64#32
  let c0_i32_779 : BitVec 32 := 0#32
  let v2484 : BitVec 1 := Scalar.cmpi .sgt c64_i32_776 c0_i32_779
  let v2485 : BitVec 32 := Scalar.extui v2484
  let c0_i32_780 : BitVec 32 := 0#32
  let v2486 : BitVec 1 := Scalar.cmpi .slt c64_i32_776 c0_i32_780
  let v2487 : BitVec 32 := Scalar.extui v2486
  let v2488 : BitVec 32 := Scalar.subi v2485 v2487
  let v2489 : BitVec 1 := Scalar.cmpi .ne v2483 v2488
  let v2490 : BitVec 32 := Scalar.remsi arg19 c64_i32_776
  let c0_i32_781 : BitVec 32 := 0#32
  let v2491 : BitVec 1 := Scalar.cmpi .ne v2490 c0_i32_781
  let v2492 : BitVec 1 := Scalar.andi v2489 v2491
  let v2478 : BitVec 32 := Scalar.divsi arg19 c64_i32_776
  let c1_i32_782 : BitVec 32 := 1#32
  let v2493 : BitVec 32 := Scalar.subi v2478 c1_i32_782
  let v2494 : BitVec 32 := Scalar.select v2492 v2493 v2478
  let c64_i32_783 : BitVec 32 := 64#32
  let v2495 : BitVec 32 := Scalar.muli v2494 c64_i32_783
  let v2496 : BitVec 32 := v2495
  let v2567 : Index := Scalar.indexCast v2496
  let c256_801 : Index := 256#32
  ![v2567.toNat, 256]
def k0_off14 (k0_t2 : Fin k0_t2_loop.trips) : Fin 2 → Nat :=
  let c0_i32_565 : BitVec 32 := 0#32
  let c1_i32_566 : BitVec 32 := 1#32
  let arg19 : BitVec 32 := Scf.iv c0_i32_565 c1_i32_566 k0_t2
  let c0_i32_777 : BitVec 32 := 0#32
  let v2479 : BitVec 1 := Scalar.cmpi .sgt arg19 c0_i32_777
  let v2480 : BitVec 32 := Scalar.extui v2479
  let c0_i32_778 : BitVec 32 := 0#32
  let v2481 : BitVec 1 := Scalar.cmpi .slt arg19 c0_i32_778
  let v2482 : BitVec 32 := Scalar.extui v2481
  let v2483 : BitVec 32 := Scalar.subi v2480 v2482
  let c64_i32_776 : BitVec 32 := 64#32
  let c0_i32_779 : BitVec 32 := 0#32
  let v2484 : BitVec 1 := Scalar.cmpi .sgt c64_i32_776 c0_i32_779
  let v2485 : BitVec 32 := Scalar.extui v2484
  let c0_i32_780 : BitVec 32 := 0#32
  let v2486 : BitVec 1 := Scalar.cmpi .slt c64_i32_776 c0_i32_780
  let v2487 : BitVec 32 := Scalar.extui v2486
  let v2488 : BitVec 32 := Scalar.subi v2485 v2487
  let v2489 : BitVec 1 := Scalar.cmpi .ne v2483 v2488
  let v2490 : BitVec 32 := Scalar.remsi arg19 c64_i32_776
  let c0_i32_781 : BitVec 32 := 0#32
  let v2491 : BitVec 1 := Scalar.cmpi .ne v2490 c0_i32_781
  let v2492 : BitVec 1 := Scalar.andi v2489 v2491
  let v2478 : BitVec 32 := Scalar.divsi arg19 c64_i32_776
  let c1_i32_782 : BitVec 32 := 1#32
  let v2493 : BitVec 32 := Scalar.subi v2478 c1_i32_782
  let v2494 : BitVec 32 := Scalar.select v2492 v2493 v2478
  let c64_i32_783 : BitVec 32 := 64#32
  let v2495 : BitVec 32 := Scalar.muli v2494 c64_i32_783
  let v2496 : BitVec 32 := v2495
  let v2599 : Index := Scalar.indexCast v2496
  let c384_808 : Index := 384#32
  ![v2599.toNat, 384]
def k0_off15 (k0_t2 : Fin k0_t2_loop.trips) : Fin 2 → Nat :=
  let c0_i32_565 : BitVec 32 := 0#32
  let c1_i32_566 : BitVec 32 := 1#32
  let arg19 : BitVec 32 := Scf.iv c0_i32_565 c1_i32_566 k0_t2
  let c0_i32_777 : BitVec 32 := 0#32
  let v2479 : BitVec 1 := Scalar.cmpi .sgt arg19 c0_i32_777
  let v2480 : BitVec 32 := Scalar.extui v2479
  let c0_i32_778 : BitVec 32 := 0#32
  let v2481 : BitVec 1 := Scalar.cmpi .slt arg19 c0_i32_778
  let v2482 : BitVec 32 := Scalar.extui v2481
  let v2483 : BitVec 32 := Scalar.subi v2480 v2482
  let c64_i32_776 : BitVec 32 := 64#32
  let c0_i32_779 : BitVec 32 := 0#32
  let v2484 : BitVec 1 := Scalar.cmpi .sgt c64_i32_776 c0_i32_779
  let v2485 : BitVec 32 := Scalar.extui v2484
  let c0_i32_780 : BitVec 32 := 0#32
  let v2486 : BitVec 1 := Scalar.cmpi .slt c64_i32_776 c0_i32_780
  let v2487 : BitVec 32 := Scalar.extui v2486
  let v2488 : BitVec 32 := Scalar.subi v2485 v2487
  let v2489 : BitVec 1 := Scalar.cmpi .ne v2483 v2488
  let v2490 : BitVec 32 := Scalar.remsi arg19 c64_i32_776
  let c0_i32_781 : BitVec 32 := 0#32
  let v2491 : BitVec 1 := Scalar.cmpi .ne v2490 c0_i32_781
  let v2492 : BitVec 1 := Scalar.andi v2489 v2491
  let v2478 : BitVec 32 := Scalar.divsi arg19 c64_i32_776
  let c1_i32_782 : BitVec 32 := 1#32
  let v2493 : BitVec 32 := Scalar.subi v2478 c1_i32_782
  let v2494 : BitVec 32 := Scalar.select v2492 v2493 v2478
  let c64_i32_783 : BitVec 32 := 64#32
  let v2495 : BitVec 32 := Scalar.muli v2494 c64_i32_783
  let v2496 : BitVec 32 := v2495
  let v2631 : Index := Scalar.indexCast v2496
  let c512_815 : Index := 512#32
  ![v2631.toNat, 512]
def k0_off16 (k0_t2 : Fin k0_t2_loop.trips) : Fin 2 → Nat :=
  let c0_i32_565 : BitVec 32 := 0#32
  let c1_i32_566 : BitVec 32 := 1#32
  let arg19 : BitVec 32 := Scf.iv c0_i32_565 c1_i32_566 k0_t2
  let c0_i32_777 : BitVec 32 := 0#32
  let v2479 : BitVec 1 := Scalar.cmpi .sgt arg19 c0_i32_777
  let v2480 : BitVec 32 := Scalar.extui v2479
  let c0_i32_778 : BitVec 32 := 0#32
  let v2481 : BitVec 1 := Scalar.cmpi .slt arg19 c0_i32_778
  let v2482 : BitVec 32 := Scalar.extui v2481
  let v2483 : BitVec 32 := Scalar.subi v2480 v2482
  let c64_i32_776 : BitVec 32 := 64#32
  let c0_i32_779 : BitVec 32 := 0#32
  let v2484 : BitVec 1 := Scalar.cmpi .sgt c64_i32_776 c0_i32_779
  let v2485 : BitVec 32 := Scalar.extui v2484
  let c0_i32_780 : BitVec 32 := 0#32
  let v2486 : BitVec 1 := Scalar.cmpi .slt c64_i32_776 c0_i32_780
  let v2487 : BitVec 32 := Scalar.extui v2486
  let v2488 : BitVec 32 := Scalar.subi v2485 v2487
  let v2489 : BitVec 1 := Scalar.cmpi .ne v2483 v2488
  let v2490 : BitVec 32 := Scalar.remsi arg19 c64_i32_776
  let c0_i32_781 : BitVec 32 := 0#32
  let v2491 : BitVec 1 := Scalar.cmpi .ne v2490 c0_i32_781
  let v2492 : BitVec 1 := Scalar.andi v2489 v2491
  let v2478 : BitVec 32 := Scalar.divsi arg19 c64_i32_776
  let c1_i32_782 : BitVec 32 := 1#32
  let v2493 : BitVec 32 := Scalar.subi v2478 c1_i32_782
  let v2494 : BitVec 32 := Scalar.select v2492 v2493 v2478
  let c64_i32_783 : BitVec 32 := 64#32
  let v2495 : BitVec 32 := Scalar.muli v2494 c64_i32_783
  let v2496 : BitVec 32 := v2495
  let v2663 : Index := Scalar.indexCast v2496
  let c640_822 : Index := 640#32
  ![v2663.toNat, 640]
def k0_off17 (k0_t2 : Fin k0_t2_loop.trips) : Fin 2 → Nat :=
  let c0_i32_565 : BitVec 32 := 0#32
  let c1_i32_566 : BitVec 32 := 1#32
  let arg19 : BitVec 32 := Scf.iv c0_i32_565 c1_i32_566 k0_t2
  let c0_i32_777 : BitVec 32 := 0#32
  let v2479 : BitVec 1 := Scalar.cmpi .sgt arg19 c0_i32_777
  let v2480 : BitVec 32 := Scalar.extui v2479
  let c0_i32_778 : BitVec 32 := 0#32
  let v2481 : BitVec 1 := Scalar.cmpi .slt arg19 c0_i32_778
  let v2482 : BitVec 32 := Scalar.extui v2481
  let v2483 : BitVec 32 := Scalar.subi v2480 v2482
  let c64_i32_776 : BitVec 32 := 64#32
  let c0_i32_779 : BitVec 32 := 0#32
  let v2484 : BitVec 1 := Scalar.cmpi .sgt c64_i32_776 c0_i32_779
  let v2485 : BitVec 32 := Scalar.extui v2484
  let c0_i32_780 : BitVec 32 := 0#32
  let v2486 : BitVec 1 := Scalar.cmpi .slt c64_i32_776 c0_i32_780
  let v2487 : BitVec 32 := Scalar.extui v2486
  let v2488 : BitVec 32 := Scalar.subi v2485 v2487
  let v2489 : BitVec 1 := Scalar.cmpi .ne v2483 v2488
  let v2490 : BitVec 32 := Scalar.remsi arg19 c64_i32_776
  let c0_i32_781 : BitVec 32 := 0#32
  let v2491 : BitVec 1 := Scalar.cmpi .ne v2490 c0_i32_781
  let v2492 : BitVec 1 := Scalar.andi v2489 v2491
  let v2478 : BitVec 32 := Scalar.divsi arg19 c64_i32_776
  let c1_i32_782 : BitVec 32 := 1#32
  let v2493 : BitVec 32 := Scalar.subi v2478 c1_i32_782
  let v2494 : BitVec 32 := Scalar.select v2492 v2493 v2478
  let c64_i32_783 : BitVec 32 := 64#32
  let v2495 : BitVec 32 := Scalar.muli v2494 c64_i32_783
  let v2496 : BitVec 32 := v2495
  let v2695 : Index := Scalar.indexCast v2496
  let c768_829 : Index := 768#32
  ![v2695.toNat, 768]
def k0_off18 (k0_t2 : Fin k0_t2_loop.trips) : Fin 2 → Nat :=
  let c0_i32_565 : BitVec 32 := 0#32
  let c1_i32_566 : BitVec 32 := 1#32
  let arg19 : BitVec 32 := Scf.iv c0_i32_565 c1_i32_566 k0_t2
  let c0_i32_777 : BitVec 32 := 0#32
  let v2479 : BitVec 1 := Scalar.cmpi .sgt arg19 c0_i32_777
  let v2480 : BitVec 32 := Scalar.extui v2479
  let c0_i32_778 : BitVec 32 := 0#32
  let v2481 : BitVec 1 := Scalar.cmpi .slt arg19 c0_i32_778
  let v2482 : BitVec 32 := Scalar.extui v2481
  let v2483 : BitVec 32 := Scalar.subi v2480 v2482
  let c64_i32_776 : BitVec 32 := 64#32
  let c0_i32_779 : BitVec 32 := 0#32
  let v2484 : BitVec 1 := Scalar.cmpi .sgt c64_i32_776 c0_i32_779
  let v2485 : BitVec 32 := Scalar.extui v2484
  let c0_i32_780 : BitVec 32 := 0#32
  let v2486 : BitVec 1 := Scalar.cmpi .slt c64_i32_776 c0_i32_780
  let v2487 : BitVec 32 := Scalar.extui v2486
  let v2488 : BitVec 32 := Scalar.subi v2485 v2487
  let v2489 : BitVec 1 := Scalar.cmpi .ne v2483 v2488
  let v2490 : BitVec 32 := Scalar.remsi arg19 c64_i32_776
  let c0_i32_781 : BitVec 32 := 0#32
  let v2491 : BitVec 1 := Scalar.cmpi .ne v2490 c0_i32_781
  let v2492 : BitVec 1 := Scalar.andi v2489 v2491
  let v2478 : BitVec 32 := Scalar.divsi arg19 c64_i32_776
  let c1_i32_782 : BitVec 32 := 1#32
  let v2493 : BitVec 32 := Scalar.subi v2478 c1_i32_782
  let v2494 : BitVec 32 := Scalar.select v2492 v2493 v2478
  let c64_i32_783 : BitVec 32 := 64#32
  let v2495 : BitVec 32 := Scalar.muli v2494 c64_i32_783
  let v2496 : BitVec 32 := v2495
  let v2727 : Index := Scalar.indexCast v2496
  let c896_836 : Index := 896#32
  ![v2727.toNat, 896]
def k0_cond7 (i : grid0.Coords) : BitVec 1 :=
  let arg1 : BitVec 32 := BitVec.ofNat 32 (i 1).val
  let c2_i32 : BitVec 32 := 2#32
  let v14 : BitVec 1 := Scalar.cmpi .sge arg1 c2_i32
  let v15 : BitVec 32 := Scalar.extui v14
  let c0_i32_7 : BitVec 32 := 0#32
  let v16 : BitVec 1 := Scalar.cmpi .ne v15 c0_i32_7
  v16

@[reducible] def k0_t3_loop : Scf.Loop 32 :=
  let c0_i32_613 : BitVec 32 := 0#32
  let c256_i32 : BitVec 32 := 256#32
  let v1765 : BitVec 32 := Scalar.addi c0_i32_613 c256_i32
  let c1_i32_614 : BitVec 32 := 1#32
  ⟨c0_i32_613, v1765, c1_i32_614⟩
def k0_mult3 (k0_t3 : Fin k0_t3_loop.trips) : BitVec 32 :=
  let c0_i32_613 : BitVec 32 := 0#32
  let c1_i32_614 : BitVec 32 := 1#32
  let arg19 : BitVec 32 := Scf.iv c0_i32_613 c1_i32_614 k0_t3
  let c0_i32_825 : BitVec 32 := 0#32
  let v2535 : BitVec 1 := Scalar.cmpi .sgt arg19 c0_i32_825
  let v2536 : BitVec 32 := Scalar.extui v2535
  let c0_i32_826 : BitVec 32 := 0#32
  let v2537 : BitVec 1 := Scalar.cmpi .slt arg19 c0_i32_826
  let v2538 : BitVec 32 := Scalar.extui v2537
  let v2539 : BitVec 32 := Scalar.subi v2536 v2538
  let c64_i32_824 : BitVec 32 := 64#32
  let c0_i32_827 : BitVec 32 := 0#32
  let v2540 : BitVec 1 := Scalar.cmpi .sgt c64_i32_824 c0_i32_827
  let v2541 : BitVec 32 := Scalar.extui v2540
  let c0_i32_828 : BitVec 32 := 0#32
  let v2542 : BitVec 1 := Scalar.cmpi .slt c64_i32_824 c0_i32_828
  let v2543 : BitVec 32 := Scalar.extui v2542
  let v2544 : BitVec 32 := Scalar.subi v2541 v2543
  let v2545 : BitVec 1 := Scalar.cmpi .ne v2539 v2544
  let v2546 : BitVec 32 := Scalar.remsi arg19 c64_i32_824
  let c0_i32_829 : BitVec 32 := 0#32
  let v2547 : BitVec 1 := Scalar.cmpi .ne v2546 c0_i32_829
  let v2548 : BitVec 1 := Scalar.andi v2545 v2547
  let v2534 : BitVec 32 := Scalar.divsi arg19 c64_i32_824
  let c1_i32_830 : BitVec 32 := 1#32
  let v2549 : BitVec 32 := Scalar.subi v2534 c1_i32_830
  let v2550 : BitVec 32 := Scalar.select v2548 v2549 v2534
  let c64_i32_831 : BitVec 32 := 64#32
  let v2551 : BitVec 32 := Scalar.muli v2550 c64_i32_831
  v2551
def k0_off19 (k0_t3 : Fin k0_t3_loop.trips) : Fin 2 → Nat :=
  let c0_i32_613 : BitVec 32 := 0#32
  let c1_i32_614 : BitVec 32 := 1#32
  let arg19 : BitVec 32 := Scf.iv c0_i32_613 c1_i32_614 k0_t3
  let v2553 : Index := Scalar.indexCast arg19
  let c0_832 : Index := 0#32
  ![v2553.toNat, 0]
def k0_off20 (k0_t3 : Fin k0_t3_loop.trips) : Fin 2 → Nat :=
  let c0_i32_613 : BitVec 32 := 0#32
  let c1_i32_614 : BitVec 32 := 1#32
  let arg19 : BitVec 32 := Scf.iv c0_i32_613 c1_i32_614 k0_t3
  let c0_i32_825 : BitVec 32 := 0#32
  let v2535 : BitVec 1 := Scalar.cmpi .sgt arg19 c0_i32_825
  let v2536 : BitVec 32 := Scalar.extui v2535
  let c0_i32_826 : BitVec 32 := 0#32
  let v2537 : BitVec 1 := Scalar.cmpi .slt arg19 c0_i32_826
  let v2538 : BitVec 32 := Scalar.extui v2537
  let v2539 : BitVec 32 := Scalar.subi v2536 v2538
  let c64_i32_824 : BitVec 32 := 64#32
  let c0_i32_827 : BitVec 32 := 0#32
  let v2540 : BitVec 1 := Scalar.cmpi .sgt c64_i32_824 c0_i32_827
  let v2541 : BitVec 32 := Scalar.extui v2540
  let c0_i32_828 : BitVec 32 := 0#32
  let v2542 : BitVec 1 := Scalar.cmpi .slt c64_i32_824 c0_i32_828
  let v2543 : BitVec 32 := Scalar.extui v2542
  let v2544 : BitVec 32 := Scalar.subi v2541 v2543
  let v2545 : BitVec 1 := Scalar.cmpi .ne v2539 v2544
  let v2546 : BitVec 32 := Scalar.remsi arg19 c64_i32_824
  let c0_i32_829 : BitVec 32 := 0#32
  let v2547 : BitVec 1 := Scalar.cmpi .ne v2546 c0_i32_829
  let v2548 : BitVec 1 := Scalar.andi v2545 v2547
  let v2534 : BitVec 32 := Scalar.divsi arg19 c64_i32_824
  let c1_i32_830 : BitVec 32 := 1#32
  let v2549 : BitVec 32 := Scalar.subi v2534 c1_i32_830
  let v2550 : BitVec 32 := Scalar.select v2548 v2549 v2534
  let c64_i32_831 : BitVec 32 := 64#32
  let v2551 : BitVec 32 := Scalar.muli v2550 c64_i32_831
  let v2552 : BitVec 32 := v2551
  let v2559 : Index := Scalar.indexCast v2552
  let c0_835 : Index := 0#32
  ![v2559.toNat, 0]
def k0_off21 (k0_t3 : Fin k0_t3_loop.trips) : Fin 2 → Nat :=
  let c0_i32_613 : BitVec 32 := 0#32
  let c1_i32_614 : BitVec 32 := 1#32
  let arg19 : BitVec 32 := Scf.iv c0_i32_613 c1_i32_614 k0_t3
  let c0_i32_825 : BitVec 32 := 0#32
  let v2535 : BitVec 1 := Scalar.cmpi .sgt arg19 c0_i32_825
  let v2536 : BitVec 32 := Scalar.extui v2535
  let c0_i32_826 : BitVec 32 := 0#32
  let v2537 : BitVec 1 := Scalar.cmpi .slt arg19 c0_i32_826
  let v2538 : BitVec 32 := Scalar.extui v2537
  let v2539 : BitVec 32 := Scalar.subi v2536 v2538
  let c64_i32_824 : BitVec 32 := 64#32
  let c0_i32_827 : BitVec 32 := 0#32
  let v2540 : BitVec 1 := Scalar.cmpi .sgt c64_i32_824 c0_i32_827
  let v2541 : BitVec 32 := Scalar.extui v2540
  let c0_i32_828 : BitVec 32 := 0#32
  let v2542 : BitVec 1 := Scalar.cmpi .slt c64_i32_824 c0_i32_828
  let v2543 : BitVec 32 := Scalar.extui v2542
  let v2544 : BitVec 32 := Scalar.subi v2541 v2543
  let v2545 : BitVec 1 := Scalar.cmpi .ne v2539 v2544
  let v2546 : BitVec 32 := Scalar.remsi arg19 c64_i32_824
  let c0_i32_829 : BitVec 32 := 0#32
  let v2547 : BitVec 1 := Scalar.cmpi .ne v2546 c0_i32_829
  let v2548 : BitVec 1 := Scalar.andi v2545 v2547
  let v2534 : BitVec 32 := Scalar.divsi arg19 c64_i32_824
  let c1_i32_830 : BitVec 32 := 1#32
  let v2549 : BitVec 32 := Scalar.subi v2534 c1_i32_830
  let v2550 : BitVec 32 := Scalar.select v2548 v2549 v2534
  let c64_i32_831 : BitVec 32 := 64#32
  let v2551 : BitVec 32 := Scalar.muli v2550 c64_i32_831
  let v2552 : BitVec 32 := v2551
  let v2591 : Index := Scalar.indexCast v2552
  let c128_842 : Index := 128#32
  ![v2591.toNat, 128]
def k0_off22 (k0_t3 : Fin k0_t3_loop.trips) : Fin 2 → Nat :=
  let c0_i32_613 : BitVec 32 := 0#32
  let c1_i32_614 : BitVec 32 := 1#32
  let arg19 : BitVec 32 := Scf.iv c0_i32_613 c1_i32_614 k0_t3
  let c0_i32_825 : BitVec 32 := 0#32
  let v2535 : BitVec 1 := Scalar.cmpi .sgt arg19 c0_i32_825
  let v2536 : BitVec 32 := Scalar.extui v2535
  let c0_i32_826 : BitVec 32 := 0#32
  let v2537 : BitVec 1 := Scalar.cmpi .slt arg19 c0_i32_826
  let v2538 : BitVec 32 := Scalar.extui v2537
  let v2539 : BitVec 32 := Scalar.subi v2536 v2538
  let c64_i32_824 : BitVec 32 := 64#32
  let c0_i32_827 : BitVec 32 := 0#32
  let v2540 : BitVec 1 := Scalar.cmpi .sgt c64_i32_824 c0_i32_827
  let v2541 : BitVec 32 := Scalar.extui v2540
  let c0_i32_828 : BitVec 32 := 0#32
  let v2542 : BitVec 1 := Scalar.cmpi .slt c64_i32_824 c0_i32_828
  let v2543 : BitVec 32 := Scalar.extui v2542
  let v2544 : BitVec 32 := Scalar.subi v2541 v2543
  let v2545 : BitVec 1 := Scalar.cmpi .ne v2539 v2544
  let v2546 : BitVec 32 := Scalar.remsi arg19 c64_i32_824
  let c0_i32_829 : BitVec 32 := 0#32
  let v2547 : BitVec 1 := Scalar.cmpi .ne v2546 c0_i32_829
  let v2548 : BitVec 1 := Scalar.andi v2545 v2547
  let v2534 : BitVec 32 := Scalar.divsi arg19 c64_i32_824
  let c1_i32_830 : BitVec 32 := 1#32
  let v2549 : BitVec 32 := Scalar.subi v2534 c1_i32_830
  let v2550 : BitVec 32 := Scalar.select v2548 v2549 v2534
  let c64_i32_831 : BitVec 32 := 64#32
  let v2551 : BitVec 32 := Scalar.muli v2550 c64_i32_831
  let v2552 : BitVec 32 := v2551
  let v2623 : Index := Scalar.indexCast v2552
  let c256_849 : Index := 256#32
  ![v2623.toNat, 256]
def k0_off23 (k0_t3 : Fin k0_t3_loop.trips) : Fin 2 → Nat :=
  let c0_i32_613 : BitVec 32 := 0#32
  let c1_i32_614 : BitVec 32 := 1#32
  let arg19 : BitVec 32 := Scf.iv c0_i32_613 c1_i32_614 k0_t3
  let c0_i32_825 : BitVec 32 := 0#32
  let v2535 : BitVec 1 := Scalar.cmpi .sgt arg19 c0_i32_825
  let v2536 : BitVec 32 := Scalar.extui v2535
  let c0_i32_826 : BitVec 32 := 0#32
  let v2537 : BitVec 1 := Scalar.cmpi .slt arg19 c0_i32_826
  let v2538 : BitVec 32 := Scalar.extui v2537
  let v2539 : BitVec 32 := Scalar.subi v2536 v2538
  let c64_i32_824 : BitVec 32 := 64#32
  let c0_i32_827 : BitVec 32 := 0#32
  let v2540 : BitVec 1 := Scalar.cmpi .sgt c64_i32_824 c0_i32_827
  let v2541 : BitVec 32 := Scalar.extui v2540
  let c0_i32_828 : BitVec 32 := 0#32
  let v2542 : BitVec 1 := Scalar.cmpi .slt c64_i32_824 c0_i32_828
  let v2543 : BitVec 32 := Scalar.extui v2542
  let v2544 : BitVec 32 := Scalar.subi v2541 v2543
  let v2545 : BitVec 1 := Scalar.cmpi .ne v2539 v2544
  let v2546 : BitVec 32 := Scalar.remsi arg19 c64_i32_824
  let c0_i32_829 : BitVec 32 := 0#32
  let v2547 : BitVec 1 := Scalar.cmpi .ne v2546 c0_i32_829
  let v2548 : BitVec 1 := Scalar.andi v2545 v2547
  let v2534 : BitVec 32 := Scalar.divsi arg19 c64_i32_824
  let c1_i32_830 : BitVec 32 := 1#32
  let v2549 : BitVec 32 := Scalar.subi v2534 c1_i32_830
  let v2550 : BitVec 32 := Scalar.select v2548 v2549 v2534
  let c64_i32_831 : BitVec 32 := 64#32
  let v2551 : BitVec 32 := Scalar.muli v2550 c64_i32_831
  let v2552 : BitVec 32 := v2551
  let v2655 : Index := Scalar.indexCast v2552
  let c384_856 : Index := 384#32
  ![v2655.toNat, 384]
def k0_off24 (k0_t3 : Fin k0_t3_loop.trips) : Fin 2 → Nat :=
  let c0_i32_613 : BitVec 32 := 0#32
  let c1_i32_614 : BitVec 32 := 1#32
  let arg19 : BitVec 32 := Scf.iv c0_i32_613 c1_i32_614 k0_t3
  let c0_i32_825 : BitVec 32 := 0#32
  let v2535 : BitVec 1 := Scalar.cmpi .sgt arg19 c0_i32_825
  let v2536 : BitVec 32 := Scalar.extui v2535
  let c0_i32_826 : BitVec 32 := 0#32
  let v2537 : BitVec 1 := Scalar.cmpi .slt arg19 c0_i32_826
  let v2538 : BitVec 32 := Scalar.extui v2537
  let v2539 : BitVec 32 := Scalar.subi v2536 v2538
  let c64_i32_824 : BitVec 32 := 64#32
  let c0_i32_827 : BitVec 32 := 0#32
  let v2540 : BitVec 1 := Scalar.cmpi .sgt c64_i32_824 c0_i32_827
  let v2541 : BitVec 32 := Scalar.extui v2540
  let c0_i32_828 : BitVec 32 := 0#32
  let v2542 : BitVec 1 := Scalar.cmpi .slt c64_i32_824 c0_i32_828
  let v2543 : BitVec 32 := Scalar.extui v2542
  let v2544 : BitVec 32 := Scalar.subi v2541 v2543
  let v2545 : BitVec 1 := Scalar.cmpi .ne v2539 v2544
  let v2546 : BitVec 32 := Scalar.remsi arg19 c64_i32_824
  let c0_i32_829 : BitVec 32 := 0#32
  let v2547 : BitVec 1 := Scalar.cmpi .ne v2546 c0_i32_829
  let v2548 : BitVec 1 := Scalar.andi v2545 v2547
  let v2534 : BitVec 32 := Scalar.divsi arg19 c64_i32_824
  let c1_i32_830 : BitVec 32 := 1#32
  let v2549 : BitVec 32 := Scalar.subi v2534 c1_i32_830
  let v2550 : BitVec 32 := Scalar.select v2548 v2549 v2534
  let c64_i32_831 : BitVec 32 := 64#32
  let v2551 : BitVec 32 := Scalar.muli v2550 c64_i32_831
  let v2552 : BitVec 32 := v2551
  let v2687 : Index := Scalar.indexCast v2552
  let c512_863 : Index := 512#32
  ![v2687.toNat, 512]
def k0_off25 (k0_t3 : Fin k0_t3_loop.trips) : Fin 2 → Nat :=
  let c0_i32_613 : BitVec 32 := 0#32
  let c1_i32_614 : BitVec 32 := 1#32
  let arg19 : BitVec 32 := Scf.iv c0_i32_613 c1_i32_614 k0_t3
  let c0_i32_825 : BitVec 32 := 0#32
  let v2535 : BitVec 1 := Scalar.cmpi .sgt arg19 c0_i32_825
  let v2536 : BitVec 32 := Scalar.extui v2535
  let c0_i32_826 : BitVec 32 := 0#32
  let v2537 : BitVec 1 := Scalar.cmpi .slt arg19 c0_i32_826
  let v2538 : BitVec 32 := Scalar.extui v2537
  let v2539 : BitVec 32 := Scalar.subi v2536 v2538
  let c64_i32_824 : BitVec 32 := 64#32
  let c0_i32_827 : BitVec 32 := 0#32
  let v2540 : BitVec 1 := Scalar.cmpi .sgt c64_i32_824 c0_i32_827
  let v2541 : BitVec 32 := Scalar.extui v2540
  let c0_i32_828 : BitVec 32 := 0#32
  let v2542 : BitVec 1 := Scalar.cmpi .slt c64_i32_824 c0_i32_828
  let v2543 : BitVec 32 := Scalar.extui v2542
  let v2544 : BitVec 32 := Scalar.subi v2541 v2543
  let v2545 : BitVec 1 := Scalar.cmpi .ne v2539 v2544
  let v2546 : BitVec 32 := Scalar.remsi arg19 c64_i32_824
  let c0_i32_829 : BitVec 32 := 0#32
  let v2547 : BitVec 1 := Scalar.cmpi .ne v2546 c0_i32_829
  let v2548 : BitVec 1 := Scalar.andi v2545 v2547
  let v2534 : BitVec 32 := Scalar.divsi arg19 c64_i32_824
  let c1_i32_830 : BitVec 32 := 1#32
  let v2549 : BitVec 32 := Scalar.subi v2534 c1_i32_830
  let v2550 : BitVec 32 := Scalar.select v2548 v2549 v2534
  let c64_i32_831 : BitVec 32 := 64#32
  let v2551 : BitVec 32 := Scalar.muli v2550 c64_i32_831
  let v2552 : BitVec 32 := v2551
  let v2719 : Index := Scalar.indexCast v2552
  let c640_870 : Index := 640#32
  ![v2719.toNat, 640]
def k0_off26 (k0_t3 : Fin k0_t3_loop.trips) : Fin 2 → Nat :=
  let c0_i32_613 : BitVec 32 := 0#32
  let c1_i32_614 : BitVec 32 := 1#32
  let arg19 : BitVec 32 := Scf.iv c0_i32_613 c1_i32_614 k0_t3
  let c0_i32_825 : BitVec 32 := 0#32
  let v2535 : BitVec 1 := Scalar.cmpi .sgt arg19 c0_i32_825
  let v2536 : BitVec 32 := Scalar.extui v2535
  let c0_i32_826 : BitVec 32 := 0#32
  let v2537 : BitVec 1 := Scalar.cmpi .slt arg19 c0_i32_826
  let v2538 : BitVec 32 := Scalar.extui v2537
  let v2539 : BitVec 32 := Scalar.subi v2536 v2538
  let c64_i32_824 : BitVec 32 := 64#32
  let c0_i32_827 : BitVec 32 := 0#32
  let v2540 : BitVec 1 := Scalar.cmpi .sgt c64_i32_824 c0_i32_827
  let v2541 : BitVec 32 := Scalar.extui v2540
  let c0_i32_828 : BitVec 32 := 0#32
  let v2542 : BitVec 1 := Scalar.cmpi .slt c64_i32_824 c0_i32_828
  let v2543 : BitVec 32 := Scalar.extui v2542
  let v2544 : BitVec 32 := Scalar.subi v2541 v2543
  let v2545 : BitVec 1 := Scalar.cmpi .ne v2539 v2544
  let v2546 : BitVec 32 := Scalar.remsi arg19 c64_i32_824
  let c0_i32_829 : BitVec 32 := 0#32
  let v2547 : BitVec 1 := Scalar.cmpi .ne v2546 c0_i32_829
  let v2548 : BitVec 1 := Scalar.andi v2545 v2547
  let v2534 : BitVec 32 := Scalar.divsi arg19 c64_i32_824
  let c1_i32_830 : BitVec 32 := 1#32
  let v2549 : BitVec 32 := Scalar.subi v2534 c1_i32_830
  let v2550 : BitVec 32 := Scalar.select v2548 v2549 v2534
  let c64_i32_831 : BitVec 32 := 64#32
  let v2551 : BitVec 32 := Scalar.muli v2550 c64_i32_831
  let v2552 : BitVec 32 := v2551
  let v2751 : Index := Scalar.indexCast v2552
  let c768_877 : Index := 768#32
  ![v2751.toNat, 768]
def k0_off27 (k0_t3 : Fin k0_t3_loop.trips) : Fin 2 → Nat :=
  let c0_i32_613 : BitVec 32 := 0#32
  let c1_i32_614 : BitVec 32 := 1#32
  let arg19 : BitVec 32 := Scf.iv c0_i32_613 c1_i32_614 k0_t3
  let c0_i32_825 : BitVec 32 := 0#32
  let v2535 : BitVec 1 := Scalar.cmpi .sgt arg19 c0_i32_825
  let v2536 : BitVec 32 := Scalar.extui v2535
  let c0_i32_826 : BitVec 32 := 0#32
  let v2537 : BitVec 1 := Scalar.cmpi .slt arg19 c0_i32_826
  let v2538 : BitVec 32 := Scalar.extui v2537
  let v2539 : BitVec 32 := Scalar.subi v2536 v2538
  let c64_i32_824 : BitVec 32 := 64#32
  let c0_i32_827 : BitVec 32 := 0#32
  let v2540 : BitVec 1 := Scalar.cmpi .sgt c64_i32_824 c0_i32_827
  let v2541 : BitVec 32 := Scalar.extui v2540
  let c0_i32_828 : BitVec 32 := 0#32
  let v2542 : BitVec 1 := Scalar.cmpi .slt c64_i32_824 c0_i32_828
  let v2543 : BitVec 32 := Scalar.extui v2542
  let v2544 : BitVec 32 := Scalar.subi v2541 v2543
  let v2545 : BitVec 1 := Scalar.cmpi .ne v2539 v2544
  let v2546 : BitVec 32 := Scalar.remsi arg19 c64_i32_824
  let c0_i32_829 : BitVec 32 := 0#32
  let v2547 : BitVec 1 := Scalar.cmpi .ne v2546 c0_i32_829
  let v2548 : BitVec 1 := Scalar.andi v2545 v2547
  let v2534 : BitVec 32 := Scalar.divsi arg19 c64_i32_824
  let c1_i32_830 : BitVec 32 := 1#32
  let v2549 : BitVec 32 := Scalar.subi v2534 c1_i32_830
  let v2550 : BitVec 32 := Scalar.select v2548 v2549 v2534
  let c64_i32_831 : BitVec 32 := 64#32
  let v2551 : BitVec 32 := Scalar.muli v2550 c64_i32_831
  let v2552 : BitVec 32 := v2551
  let v2783 : Index := Scalar.indexCast v2552
  let c896_884 : Index := 896#32
  ![v2783.toNat, 896]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

abbrev stage0_0 : Fin 1 → Memref sig .tc .vmem S8x257 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Proof.OutValue.lean ====
/- What the output projection leaves in its result array, for the extended-real reading of the numbers: the residual
   plus the gate times the product, as the reference composes it. One grid point writes 512 rows of one batch entry. -/
module

public import proofs.«01_k».proof.Proof.Gen.OutIdeal.Value
public import proofs.«01_k».proof.Proof.Gen.OutRefIdeal.Run
public import Idealize.ShloMosaic.Lib.Pipeline.ValueKit
public import Idealize.ShloMosaic.Lib.Pointwise

@[expose] public section

set_option maxRecDepth 16384

noncomputable section

namespace Cert.OutIdeal.Hand

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- The reference's composed term over the four arguments: mixed heads, output weights, residual, modulation. -/
abbrev REF (X : FVec Ideal S8192x2048 .bf16) (W : FVec Ideal S2048x2048 .bf16) (R : FVec Ideal S8192x2048 .f32)
    (M : FVec Ideal Cert.OutRefIdeal.S4x1x6144 .f32) : FVec Ideal S8192x2048 .f32 :=
  shapeCast _ (addf (shapeCast _ R Cert.OutRefIdeal.Gen.shapeCasts_S8192x2048_S4x2048x2048)
    (mulf (broadcastInDim Cert.OutRefIdeal.S4x2048x2048 ![0, 1, 2] Cert.OutRefIdeal.Gen.bcast_S4x1x2048_S4x2048x2048_0_1_2
        (broadcastInDim Cert.OutRefIdeal.S4x1x2048 ![0, 2] Cert.OutRefIdeal.Gen.bcast_S4x2048_S4x1x2048_0_2
          (shapeCast _ (extractStridedSlice Cert.OutRefIdeal.S4x1x2048 ![0, 0, 4096] M
            Cert.OutRefIdeal.Gen.slices_S4x1x6144_S4x1x2048_0_0_4096) Cert.OutRefIdeal.Gen.shapeCasts_S4x1x2048_S4x2048)))
      (shapeCast _ (Host.dotGeneral Cert.OutRefIdeal.dot_S8192x2048_S2048x2048_S8192x2048_1_0_0_1_n_n none
        (extf .f32 X Cert.OutRefIdeal.Gen.bitsLt_bf16_f32) (extf .f32 W Cert.OutRefIdeal.Gen.bitsLt_bf16_f32))
        Cert.OutRefIdeal.Gen.shapeCasts_S8192x2048_S4x2048x2048)))
    Cert.OutRefIdeal.Gen.shapeCasts_S4x2048x2048_S8192x2048

/-- Where each window's block lies at grid point `t`. -/
theorem idx : ∀ t : Fin cfg0.N, win0_0.index t = ![t.val, 0] ∧ win0_1.index t = ![0, 0] ∧
    win0_2.index t = ![t.val, 0] ∧ win0_3.index t = ![t.val / 4, 0, 2] ∧ win0_4.index t = ![t.val, 0] :=
  (by decide +kernel : ∀ t : Fin grid0.N, _)

/-- What one grid point stores at an index of its block is the reference's value at the array index it sits at. -/
theorem point (c : Dev nD) (t : Fin cfg0.N) (y) :
    k0_pay1 (iblk m c 0 t) (iblk m c 1 t) (iblk m c 2 t) (iblk m c 3 t) y
      = REF (m ((c : Thread nD τ).loc main_arg0)) (m ((c : Thread nD τ).loc main_arg1))
          (m ((c : Thread nD τ).loc main_arg2)) (m ((c : Thread nD τ).loc main_arg3)) (((cfg0.win 4).blk t).view.emb y) := by
  pointwise [k0_pay1, REF]
  blk_point [iblk, V, idx t]

/-- The result array after the run. -/
theorem final (c : Dev nD) : (dats m 0 c).arrAt 4 (cfgs 0).N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.OutIdeal.Hand

end
-- ==== Proof.ProjScalars.lean ====
/- The scalar identities between the projection kernel and its reference, on the extended reals: the sigmoid by the hyperbolic
   tangent, one minus it, the two constants that stand for quotients, and the literals they are written with. -/
module

public import Idealize.ShloMosaic.PureOps.Ideal
public import Idealize.ShloMosaic.PureOps.IdealRules
public import proofs.«01_k».proof.Proof.Gen.ProjIdeal.Skeleton

@[expose] public section

noncomputable section

namespace Cert.ProjScalars

open Idealize.ShloMosaic

theorem bits_half : Ideal.ofBits .f32 0x3F000000#32 = ((1 / 2 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_128 : Ideal.ofBits .f32 0x43000000#32 = ((128 : ℝ) : EReal) := by
  simp [Ideal.ofBits, Ideal.ieee, -EReal.coe_mul]; norm_num

theorem bits_zero : Ideal.ofBits .f32 0x00000000#32 = 0 := by
  simp [Ideal.ofBits, Ideal.ieee]

theorem bits_negInf : Ideal.ofBits .f32 0xFF800000#32 = ⊥ := by
  simp [Ideal.ofBits, Ideal.ieee]

/-- The sigmoid as the kernel computes it. -/
def sg (x : EReal) : EReal :=
  Ideal.ofBits .f32 0x3F000000#32 * Ideal.tanh (Ideal.ofBits .f32 0x3F000000#32 * x) + Ideal.ofBits .f32 0x3F000000#32

theorem real_sg (x : ℝ) : 1 / 2 * Real.tanh (1 / 2 * x) + 1 / 2 = (1 + Real.exp (-x))⁻¹ := by
  have h : Real.exp (-x) = Real.exp (-(1 / 2 * x)) * Real.exp (-(1 / 2 * x)) := by rw [← Real.exp_add]; congr 1; ring
  rw [Real.tanh_eq_sinh_div_cosh, Real.sinh_eq, Real.cosh_eq, h, Real.exp_neg]
  have h0 := Real.exp_pos (1 / 2 * x)
  field_simp
  ring

theorem sg_coe (x : ℝ) : sg x = (((1 + Real.exp (-x))⁻¹ : ℝ) : EReal) := by
  unfold sg
  rw [bits_half, ← EReal.coe_mul, Ideal.tanh_coe, ← EReal.coe_mul, ← EReal.coe_add, real_sg]

theorem sg_top : sg ⊤ = 1 := by
  unfold sg
  rw [bits_half, EReal.coe_mul_top_of_pos (by norm_num), Ideal.tanh_top, mul_one, ← EReal.coe_add]; norm_num

theorem sg_bot : sg ⊥ = 0 := by
  unfold sg
  rw [bits_half, EReal.coe_mul_bot_of_pos (by norm_num), Ideal.tanh_bot, ← EReal.coe_one, ← EReal.coe_neg, ← EReal.coe_mul,
    ← EReal.coe_add]; norm_num

theorem div_one_coe (x : ℝ) : Ideal.div 1 (1 + Ideal.exp (x : EReal)) = (((1 + Real.exp x)⁻¹ : ℝ) : EReal) := by
  rw [Ideal.exp_coe, ← EReal.coe_one, ← EReal.coe_add,
    Ideal.div_coe (show (1 + Real.exp x : ℝ) ≠ 0 from by positivity), ← EReal.coe_mul, one_mul, one_div]

theorem div_one_top : Ideal.div 1 (1 + Ideal.exp ⊤) = 0 := by
  rw [Ideal.exp_top, EReal.add_top_of_ne_bot (by decide)]
  simp [Ideal.div]

theorem div_one_bot : Ideal.div 1 (1 + Ideal.exp ⊥) = 1 := by
  rw [Ideal.exp_bot, add_zero, ← EReal.coe_one, Ideal.div_coe one_ne_zero]; norm_num

/-- It is the reference's sigmoid. -/
theorem sg_eq (x : EReal) : sg x = Ideal.div 1 (1 + Ideal.exp (-x)) := by
  induction x with
  | bot => rw [sg_bot, EReal.neg_bot, div_one_top]
  | top => rw [sg_top, EReal.neg_top, div_one_bot]
  | coe x => rw [sg_coe, ← EReal.coe_neg, div_one_coe]

/-- One minus the sigmoid is the sigmoid of the negated argument. -/
theorem one_sub_sg (x : EReal) : 1 - sg x = Ideal.div 1 (1 + Ideal.exp (- -x)) := by
  rw [neg_neg]
  induction x with
  | bot => rw [sg_bot, div_one_bot, sub_zero]
  | top => rw [sg_top, div_one_top, ← EReal.coe_one, ← EReal.coe_sub, sub_self, EReal.coe_zero]
  | coe x =>
    rw [sg_coe, div_one_coe, ← EReal.coe_one, ← EReal.coe_sub]
    have h : Real.exp (-x) = (Real.exp x)⁻¹ := Real.exp_neg x
    have h0 := Real.exp_pos x
    congr 1
    rw [h]; field_simp; ring

theorem log2_ne : Real.log 2 ≠ 0 := (Real.log_pos (by norm_num)).ne'
theorem sqrt128_ne : Real.sqrt 128 ≠ 0 := (Real.sqrt_pos.mpr (by norm_num)).ne'

theorem log_two : Ideal.log (Ideal.ofBits .f32 0x40000000#32) = ((Real.log 2 : ℝ) : EReal) := by
  rw [bits_two, Ideal.log_coe, if_neg (by norm_num)]

theorem sqrt_128 : Ideal.sqrt (Ideal.ofBits .f32 0x43000000#32) = ((Real.sqrt 128 : ℝ) : EReal) := by
  rw [bits_128, Ideal.sqrt_coe, if_neg (by norm_num)]

theorem log2e : Named.named (F := Ideal) Cert.ProjIdeal.κ "log2e" (φ := .f32) 0x3FB8AA3B#32 = (((Real.log 2)⁻¹ : ℝ) : EReal) :=
  IdealRules.named_const.ideal_named_scalar _ _ _ _ rfl

theorem q_scale : Named.named (F := Ideal) Cert.ProjIdeal.κ "q_scale" (φ := .f32) 0x3E0293EE#32
    = (((Real.sqrt 128)⁻¹ * (Real.log 2)⁻¹ : ℝ) : EReal) :=
  IdealRules.named_const.ideal_named_scalar _ _ _ _ rfl

/-- A product with the first named constant is a quotient by the logarithm of two. -/
theorem mul_log2e (x : EReal) : x * Named.named (F := Ideal) Cert.ProjIdeal.κ "log2e" (φ := .f32) 0x3FB8AA3B#32
    = Ideal.div x (Ideal.log (Ideal.ofBits .f32 0x40000000#32)) := by
  rw [log2e, log_two, Ideal.div_coe log2_ne, one_div]

/-- A product with the second is a quotient by the root of 128, then by the logarithm of two. -/
theorem mul_q_scale (x : EReal) : x * Named.named (F := Ideal) Cert.ProjIdeal.κ "q_scale" (φ := .f32) 0x3E0293EE#32
    = Ideal.div (Ideal.div x (Ideal.sqrt (Ideal.ofBits .f32 0x43000000#32))) (Ideal.log (Ideal.ofBits .f32 0x40000000#32)) := by
  rw [q_scale, log_two, sqrt_128, Ideal.div_coe log2_ne, Ideal.div_coe sqrt128_ne, one_div, one_div, mul_assoc, ← EReal.coe_mul]

end Cert.ProjScalars

end
-- ==== Proof.ProjSpec.lean ====
/- What the projection call computes, entry by entry, on the extended reals: a row of the input normalised by its root mean
   square, scaled and shifted by its batch entry's modulation, times a column of the combined weights; of these entries, the eight
   parts that the mixers read. Rows and columns are numbers, so that two ways of finding one are compared as numbers. -/
module

public import proofs.«01_k».proof.Proof.ProjScalars
public import Idealize.ShloMosaic.Lib.Pointwise

@[expose] public section

set_option maxRecDepth 16384

noncomputable section

namespace Cert.ProjSpec

open Idealize.ShloMosaic Cert.ProjIdeal

def rr (r : ℕ) : Fin 8192 := ⟨r % 8192, Nat.mod_lt _ (by decide)⟩
def bb (r : ℕ) : Fin 4 := ⟨r / 2048 % 4, Nat.mod_lt _ (by decide)⟩
def nn (n : ℕ) : Fin 1024 := ⟨n % 1024, Nat.mod_lt _ (by decide)⟩

section
variable (X : FVec Ideal S8192x2048 .f32) (M : FVec Ideal S4x1x6144 .f32) (G : FVec Ideal S1x2048 .f32) (W : FVec Ideal S2048x8192 .f32)

/-- Entry `k` of row `r`, normalised and modulated. -/
def row (r : ℕ) (k : Fin 2048) : EReal :=
  X (ix2 (rr r) k) * Ideal.rsqrt (Ideal.div (∑ l, X (ix2 (rr r) l) * X (ix2 (rr r) l)) (Ideal.ofBits .f32 0x45000000#32)
      + Ideal.ofBits .f32 0x358637BD#32) * G (ix2 0 k)
    * (1 + M (ix3 (bb r) 0 (⟨2048 + k.val, by omega⟩ : Fin 6144))) + M (ix3 (bb r) 0 (⟨k.val, by omega⟩ : Fin 6144))

theorem row_assoc (r : ℕ) (k : Fin 2048) : row X M G r k
    = X (ix2 (rr r) k) * Ideal.rsqrt (Ideal.div (∑ l, X (ix2 (rr r) l) * X (ix2 (rr r) l)) (Ideal.ofBits .f32 0x45000000#32)
      + Ideal.ofBits .f32 0x358637BD#32) * (G (ix2 0 k) * (1 + M (ix3 (bb r) 0 (⟨2048 + k.val, by omega⟩ : Fin 6144))))
    + M (ix3 (bb r) 0 (⟨k.val, by omega⟩ : Fin 6144)) := by
  unfold row; rw [mul_assoc _ (G _)]

/-- Row `r` times column `n` of the weights. -/
def proj (r n : ℕ) : EReal := ∑ k : Fin 2048, row X M G r k * W (ix2 k (rr n))
end

/-- `x` times its sigmoid. -/
def silu (x : EReal) : EReal := x * Ideal.div 1 (1 + Ideal.exp (-x))

/-- Entry `u` of a head's 128 entries, over their root mean square. -/
def rms (Q : ℕ → EReal) (g : FVec Ideal S1x128 .f32) (u : Fin 128) : EReal :=
  Q u.val * Ideal.rsqrt (Ideal.div (∑ x : Fin 128, Q x.val * Q x.val) (Ideal.ofBits .f32 0x43000000#32)
    + Ideal.ofBits .f32 0x358637BD#32) * g (ix2 0 u)

/-- The lower bound of the forget gate: the first row of the softmax over the two rows of `L`. -/
def lbs (L : FVec Ideal S2x1024 .f32) (n : ℕ) : EReal :=
  Ideal.div (Ideal.exp (L (ix2 0 (nn n)) - Finset.fold max (Ideal.ofBits .f32 0xFF800000#32) (fun x => L (ix2 x (nn n))) Finset.univ))
    (∑ i : Fin 2, Ideal.exp (L (ix2 i (nn n)) - Finset.fold max (Ideal.ofBits .f32 0xFF800000#32) (fun x => L (ix2 x (nn n))) Finset.univ))

/-- Entry `u` of head `h`: the scaled queries, then the gate of the attention. -/
def qz (P : ℕ → EReal) (g : FVec Ideal S1x128 .f32) (h u : ℕ) : EReal :=
  if hu : u < 128 then Ideal.div (Ideal.div (rms (fun x => P (h * 128 + x)) g ⟨u, hu⟩) (Ideal.sqrt (Ideal.ofBits .f32 0x43000000#32)))
      (Ideal.log (Ideal.ofBits .f32 0x40000000#32))
  else silu (P (3072 + (h * 128 + (u - 128))))

/-- The keys, then the values. -/
def kv (P : ℕ → EReal) (g : FVec Ideal S1x128 .f32) (h u : ℕ) : EReal :=
  if hu : u < 128 then rms (fun x => P (1024 + (h * 128 + x))) g ⟨u, hu⟩ else P (2048 + (h * 128 + (u - 128)))

/-- The recurrence's query, its key, its input and its gate. -/
def hgp (P : ℕ → EReal) (L : FVec Ideal S2x1024 .f32) (h u : ℕ) : EReal :=
  if u < 128 then silu (P (4096 + (h * 128 + u)))
  else if u < 256 then (1 - lbs L (h * 128 + (u - 128))) * Ideal.div 1 (1 + Ideal.exp (- -P (5120 + (h * 128 + (u - 128)))))
  else if u < 384 then P (6144 + (h * 128 + (u - 256)))
  else silu (P (7168 + (h * 128 + (u - 384))))

/-- The logarithm, to base two, of the forget gate. -/
def logf (P : ℕ → EReal) (L : FVec Ideal S2x1024 .f32) (n : ℕ) : EReal :=
  Ideal.div (Ideal.log (lbs L n + (1 - lbs L n) * Ideal.div 1 (1 + Ideal.exp (-P (5120 + n)))))
    (Ideal.log (Ideal.ofBits .f32 0x40000000#32))

end Cert.ProjSpec

end
-- ==== Proof.AdaValue.lean ====
/- What the modulation call leaves in its result array, for the extended-real reading of the numbers: the reference's product
   of the activated conditioning rows with the modulation weights, plus the bias. The kernel splits both factors in a leading
   part and a remainder; there a number and its leading part are one, so that the remainder of a finite number is zero. One grid
   point adds 256 of the 2048 terms of every sum. -/
module

public import proofs.«01_k».proof.Defs
public import proofs.«01_k».proof.Proof.Gen.AdaIdeal.Value
public import proofs.«01_k».proof.Proof.Gen.AdaRefIdeal.Run
public import proofs.«01_k».proof.Proof.Gen.Pre_finite
public import proofs.«01_k».proof.Proof.ProjSpec
public import Idealize.ShloMosaic.Lib.Pipeline.ValueKit
public import Idealize.ShloMosaic.Lib.Pointwise

@[expose] public section

set_option maxRecDepth 16384

noncomputable section

namespace Cert.AdaIdeal.Hand

open Cert.AdaIdeal Cert.AdaIdeal.Gen Idealize.ShloMosaic Idealize.ShloMosaic.TcCoe Idealize.SL.Sem
open Idealize.ShloMosaic.Pipeline (Dat)
open Cert.ProjScalars (sg sg_eq sg_coe bits_zero)

/-- The reference's composed term over the three arguments: conditioning rows, weights, bias. -/
abbrev REF (C : FVec Ideal S8x2048 .f32) (W : FVec Ideal S1x2048x6144 .f32) (B : FVec Ideal S1x6144 .f32) : FVec Ideal S8x6144 .f32 :=
  addf (Host.dotGeneral Cert.AdaRefIdeal.dot_S8x2048_S2048x6144_S8x6144_1_0_0_1_n_n none
      (mulf C (Host.divf (broadcastInDim Cert.AdaRefIdeal.S8x2048 ![] Cert.AdaRefIdeal.Gen.bcast_S_S8x2048 (constant Cert.AdaRefIdeal.S_ .f32 0x3F800000#32))
        (addf (broadcastInDim Cert.AdaRefIdeal.S8x2048 ![] Cert.AdaRefIdeal.Gen.bcast_S_S8x2048 (constant Cert.AdaRefIdeal.S_ .f32 0x3F800000#32))
          (Host.exp (Host.negf C)))))
      (shapeCast _ W Cert.AdaRefIdeal.Gen.shapeCasts_S1x2048x6144_S2048x6144))
    (broadcastInDim Cert.AdaRefIdeal.S8x6144 ![0, 1] Cert.AdaRefIdeal.Gen.bcast_S1x6144_S8x6144_0_1
      (broadcastInDim Cert.AdaRefIdeal.S1x6144 ![1] Cert.AdaRefIdeal.Gen.bcast_S6144_S1x6144_1
        (shapeCast _ B Cert.AdaRefIdeal.Gen.shapeCasts_S1x6144_S6144)))

/-- Every entry is a real number. -/
def Fin_ {s : Shape} (x : FVec Ideal s .f32) : Prop := ∀ i, ∃ r : ℝ, x i = (r : EReal)

theorem sub_self_coe {x : EReal} (h : ∃ r : ℝ, x = (r : EReal)) : x - x = 0 := by
  obtain ⟨r, rfl⟩ := h
  rw [← EReal.coe_sub, sub_self, EReal.coe_zero]

theorem real_mul_sg {x : EReal} (h : ∃ r : ℝ, x = (r : EReal)) : ∃ r : ℝ, x * sg x = (r : EReal) := by
  obtain ⟨r, rfl⟩ := h
  exact ⟨r * (1 + Real.exp (-r))⁻¹, by rw [sg_coe, ← EReal.coe_mul]⟩

/-- The bias, repeated over the rows. -/
theorem hbias (x2 : FVec Ideal S1x6144 .f32) (j) : k0_pay1 x2 j = x2 (ix2 0 (j 1)) := by
  pointwise [k0_pay1]

/-- One grid point adds its 256 terms. -/
theorem hpay (x0 : FVec Ideal S8x256 .f32) (x1 : FVec Ideal S1x256x6144 .f32) (h0 : Fin_ x0) (h1 : Fin_ x1) (acc : FVec Ideal S8x6144 .f32) (j) :
    k0_pay2 x0 x1 acc j = acc j + ∑ k : Fin 256, x0 (ix2 (j 0) k) * sg (x0 (ix2 (j 0) k)) * x1 (ix3 0 k (j 1)) := by
  unfold sg
  pointwise [k0_pay2]
  refine congrArg (acc j + ·) ?_
  refine Eq.trans (congrArg (_ + ·) (Eq.trans (congrArg₂ (· + ·) (Finset.sum_eq_zero fun k _ => ?_) (Finset.sum_eq_zero fun k _ => ?_)) (add_zero 0)))
    (add_zero _)
  · exact (congrArg (· * _) (sub_self_coe (real_mul_sg (h0 _)))).trans (zero_mul _)
  · exact (congrArg (_ * ·) (sub_self_coe (h1 _))).trans (mul_zero _)

/-- The reference's value at one index. -/
theorem href (C : FVec Ideal S8x2048 .f32) (W : FVec Ideal S1x2048x6144 .f32) (B : FVec Ideal S1x6144 .f32) (j) :
    REF C W B j = (∑ k : Fin 2048, C (ix2 (j 0) k) * Ideal.div 1 (1 + Ideal.exp (-C (ix2 (j 0) k))) * W (ix3 0 k (j 1))) + B (ix2 0 (j 1)) := by
  pointwise [REF]

/-- A number whose absolute value is below infinity is real. -/
theorem fin_of_abs_lt {x : EReal} (h : Ideal.cmp .olt (max x (-x)) (Ideal.ofBits .f32 0x7F800000#32) = 1) : ∃ r : ℝ, x = (r : EReal) := by
  have hb : Ideal.ofBits .f32 0x7F800000#32 = ⊤ := by simp [Ideal.ofBits, Ideal.ieee]
  rw [hb, Ideal.cmp_olt_eq_one] at h
  induction x with
  | bot => simp at h
  | top => simp at h
  | coe x => exact ⟨x, rfl⟩

variable (m : (ℓ : Loc nD τ sig) → Buf (Elt Ideal) ℓ)

/-- The precondition, read. -/
theorem fin_of_pre (h : Cert.Pre_AdaIdeal_finite m) (c : Dev nD) :
    Fin_ (s := S8x2048) (m ((c : Thread nD τ).loc main_arg0)) ∧ Fin_ (s := S1x2048x6144) (m ((c : Thread nD τ).loc main_arg1)) :=
  ⟨fun i => fin_of_abs_lt (congrFun (h c).1 i), fun i => fin_of_abs_lt (congrFun (h c).2 i)⟩

/-- Where each window's block lies at grid point `t`. -/
theorem idx : ∀ t : Fin cfg0.N, win0_0.index t = ![0, t.val] ∧ win0_1.index t = ![0, t.val, 0] ∧
    win0_2.index t = ![0, 0] ∧ win0_3.index t = ![0, 0] :=
  (by decide +kernel : ∀ t : Fin grid0.N, _)

/-- The blocks of real arrays are real. -/
theorem fin0 (c : Dev nD) (h : Fin_ (s := S8x2048) (m ((c : Thread nD τ).loc main_arg0))) (t : Fin cfg0.N) :
    Fin_ (s := S8x256) (iblk m c 0 t) := fun i => by
  blk_simp [iblk, V]
  exact h _

theorem fin1 (c : Dev nD) (h : Fin_ (s := S1x2048x6144) (m ((c : Thread nD τ).loc main_arg1))) (t : Fin cfg0.N) :
    Fin_ (s := S1x256x6144) (iblk m c 1 t) := fun i => by
  blk_simp [iblk, V]
  exact h _

/-- The bias window holds the whole bias at every point. -/
theorem bias (c : Dev nD) (t : Fin cfg0.N) : iblk m c 2 t = m ((c : Thread nD τ).loc main_arg2) := by
  blk_ext! [iblk, V, idx t]

/-- The result array after the run. -/
theorem final (c : Dev nD) (h0 : Fin_ (s := S8x2048) (m ((c : Thread nD τ).loc main_arg0)))
    (h1 : Fin_ (s := S1x2048x6144) (m ((c : Thread nD τ).loc main_arg1))) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_after_last 3 t0_7 (by decide +kernel) _ fun j => ?_
  blk_simp
  rw [after0_3, Pipeline.eq_sum_fin_of_reset_step_apply_last (fun n h => outsAt0 m c n h) 8
    (fun j => (show FVec Ideal S1x6144 .f32 from m ((c : Thread nD τ).loc main_arg2)) (ix2 0 (j 1))) _
    (fun t h j => by rw [outsAt0_A m c t h]; frame_out; rw [hpay _ _ (fin0 m c h0 t) (fin1 m c h1 t), hbias, bias])
    (fun t h j => by rw [outsAt0_B m c t h]; frame_out; rw [hpay _ _ (fin0 m c h0 t) (fin1 m c h1 t)])
    (le_of_eq N_0) t0_7 rfl j, href, add_comm]
  refine congrArg (· + _) ?_
  simp only [sg_eq]
  refine Fin.sum_mul_add_congr fun t k hl => ?_
  blk_point [iblk, V, idx t]

end Cert.AdaIdeal.Hand

end
-- ==== Proof.ProjIdealStep.lean ====
module

public import proofs.«01_k».proof.Proof.Gen.ProjIdeal.Frame
public import proofs.«01_k».proof.Proof.Gen.ProjIdeal.Skeleton
public import proofs.«01_k».proof.Proof.Gen.ProjIdeal.Points
public import Idealize.ShloMosaic.Lib.Pipeline.FrameBody
public import Idealize.ShloMosaic.Lib.Tactic
public import Idealize.ShloMosaic.Lib.WordCmp
public import Idealize.ShloMosaic.Lib.WritesUnit
public import Idealize.ShloMosaic.Lib.Pipeline.Value
public import Idealize.ShloMosaic.Lib.Pointwise.Index

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem off1_eq (i : grid0.Coords) : k0_off1 i = ![(i 2).val, 0, 0] := by
  unfold k0_off1
  generalize (i 2) = a
  revert a
  show ∀ a : Fin 4, _
  decide +kernel
instance (i : grid0.Coords) : ClosedOff (k0_off1 i) := ⟨![(i 2).val, 0, 0], off1_eq i⟩
theorem off2_eq (i : grid0.Coords) : k0_off2 i = ![(i 2).val, 0, 128] := by
  unfold k0_off2
  generalize (i 2) = a
  revert a
  show ∀ a : Fin 4, _
  decide +kernel
instance (i : grid0.Coords) : ClosedOff (k0_off2 i) := ⟨![(i 2).val, 0, 128], off2_eq i⟩
theorem off3_eq (i : grid0.Coords) : k0_off3 i = ![(i 2).val, 0, 256] := by
  unfold k0_off3
  generalize (i 2) = a
  revert a
  show ∀ a : Fin 4, _
  decide +kernel
instance (i : grid0.Coords) : ClosedOff (k0_off3 i) := ⟨![(i 2).val, 0, 256], off3_eq i⟩
theorem off4_eq (i : grid0.Coords) : k0_off4 i = ![(i 2).val, 0, 384] := by
  unfold k0_off4
  generalize (i 2) = a
  revert a
  show ∀ a : Fin 4, _
  decide +kernel
instance (i : grid0.Coords) : ClosedOff (k0_off4 i) := ⟨![(i 2).val, 0, 384], off4_eq i⟩
theorem off5_eq (i : grid0.Coords) : k0_off5 i = ![(i 2).val, 0, 512] := by
  unfold k0_off5
  generalize (i 2) = a
  revert a
  show ∀ a : Fin 4, _
  decide +kernel
instance (i : grid0.Coords) : ClosedOff (k0_off5 i) := ⟨![(i 2).val, 0, 512], off5_eq i⟩
theorem off6_eq (i : grid0.Coords) : k0_off6 i = ![(i 2).val, 0, 640] := by
  unfold k0_off6
  generalize (i 2) = a
  revert a
  show ∀ a : Fin 4, _
  decide +kernel
instance (i : grid0.Coords) : ClosedOff (k0_off6 i) := ⟨![(i 2).val, 0, 640], off6_eq i⟩
theorem off7_eq (i : grid0.Coords) : k0_off7 i = ![(i 2).val, 0, 768] := by
  unfold k0_off7
  generalize (i 2) = a
  revert a
  show ∀ a : Fin 4, _
  decide +kernel
instance (i : grid0.Coords) : ClosedOff (k0_off7 i) := ⟨![(i 2).val, 0, 768], off7_eq i⟩
theorem off8_eq (i : grid0.Coords) : k0_off8 i = ![(i 2).val, 0, 896] := by
  unfold k0_off8
  generalize (i 2) = a
  revert a
  show ∀ a : Fin 4, _
  decide +kernel
instance (i : grid0.Coords) : ClosedOff (k0_off8 i) := ⟨![(i 2).val, 0, 896], off8_eq i⟩
theorem off9_eq (i : grid0.Coords) : k0_off9 i = ![((i 2).val + 4294967295) % 4294967296, 0, 0] := by
  unfold k0_off9
  generalize (i 2) = a
  revert a
  show ∀ a : Fin 4, _
  decide +kernel
instance (i : grid0.Coords) : ClosedOff (k0_off9 i) := ⟨![((i 2).val + 4294967295) % 4294967296, 0, 0], off9_eq i⟩
theorem off10_eq (i : grid0.Coords) : k0_off10 i = ![((i 2).val + 4294967295) % 4294967296, 0, 128] := by
  unfold k0_off10
  generalize (i 2) = a
  revert a
  show ∀ a : Fin 4, _
  decide +kernel
instance (i : grid0.Coords) : ClosedOff (k0_off10 i) := ⟨![((i 2).val + 4294967295) % 4294967296, 0, 128], off10_eq i⟩
theorem off11_eq (i : grid0.Coords) : k0_off11 i = ![((i 2).val + 4294967295) % 4294967296, 0, 256] := by
  unfold k0_off11
  generalize (i 2) = a
  revert a
  show ∀ a : Fin 4, _
  decide +kernel
instance (i : grid0.Coords) : ClosedOff (k0_off11 i) := ⟨![((i 2).val + 4294967295) % 4294967296, 0, 256], off11_eq i⟩
theorem off12_eq (i : grid0.Coords) : k0_off12 i = ![((i 2).val + 4294967295) % 4294967296, 0, 384] := by
  unfold k0_off12
  generalize (i 2) = a
  revert a
  show ∀ a : Fin 4, _
  decide +kernel
instance (i : grid0.Coords) : ClosedOff (k0_off12 i) := ⟨![((i 2).val + 4294967295) % 4294967296, 0, 384], off12_eq i⟩
theorem off13_eq (i : grid0.Coords) : k0_off13 i = ![((i 2).val + 4294967295) % 4294967296, 0, 512] := by
  unfold k0_off13
  generalize (i 2) = a
  revert a
  show ∀ a : Fin 4, _
  decide +kernel
instance (i : grid0.Coords) : ClosedOff (k0_off13 i) := ⟨![((i 2).val + 4294967295) % 4294967296, 0, 512], off13_eq i⟩
theorem off14_eq (i : grid0.Coords) : k0_off14 i = ![((i 2).val + 4294967295) % 4294967296, 0, 640] := by
  unfold k0_off14
  generalize (i 2) = a
  revert a
  show ∀ a : Fin 4, _
  decide +kernel
instance (i : grid0.Coords) : ClosedOff (k0_off14 i) := ⟨![((i 2).val + 4294967295) % 4294967296, 0, 640], off14_eq i⟩
theorem off15_eq (i : grid0.Coords) : k0_off15 i = ![((i 2).val + 4294967295) % 4294967296, 0, 768] := by
  unfold k0_off15
  generalize (i 2) = a
  revert a
  show ∀ a : Fin 4, _
  decide +kernel
instance (i : grid0.Coords) : ClosedOff (k0_off15 i) := ⟨![((i 2).val + 4294967295) % 4294967296, 0, 768], off15_eq i⟩
theorem off16_eq (i : grid0.Coords) : k0_off16 i = ![((i 2).val + 4294967295) % 4294967296, 0, 896] := by
  unfold k0_off16
  generalize (i 2) = a
  revert a
  show ∀ a : Fin 4, _
  decide +kernel
instance (i : grid0.Coords) : ClosedOff (k0_off16 i) := ⟨![((i 2).val + 4294967295) % 4294967296, 0, 896], off16_eq i⟩
theorem off17_eq (i : grid0.Coords) : k0_off17 i = ![256 * (i 2).val, 0] := by
  unfold k0_off17
  generalize (i 2) = a
  revert a
  show ∀ a : Fin 4, _
  decide +kernel
instance (i : grid0.Coords) : ClosedOff (k0_off17 i) := ⟨![256 * (i 2).val, 0], off17_eq i⟩
theorem off18_eq (i : grid0.Coords) : k0_off18 i = ![256 * (i 2).val, 0] := by
  unfold k0_off18
  generalize (i 2) = a
  revert a
  show ∀ a : Fin 4, _
  decide +kernel
instance (i : grid0.Coords) : ClosedOff (k0_off18 i) := ⟨![256 * (i 2).val, 0], off18_eq i⟩
theorem off19_eq (i : grid0.Coords) : k0_off19 i = ![(i 2).val, 0, 0] := by
  unfold k0_off19
  generalize (i 2) = a
  revert a
  show ∀ a : Fin 4, _
  decide +kernel
instance (i : grid0.Coords) : ClosedOff (k0_off19 i) := ⟨![(i 2).val, 0, 0], off19_eq i⟩
theorem off20_eq (i : grid0.Coords) : k0_off20 i = ![256 * (i 2).val, 0] := by
  unfold k0_off20
  generalize (i 2) = a
  revert a
  show ∀ a : Fin 4, _
  decide +kernel
instance (i : grid0.Coords) : ClosedOff (k0_off20 i) := ⟨![256 * (i 2).val, 0], off20_eq i⟩
theorem off21_eq (i : grid0.Coords) : k0_off21 i = ![(i 2).val, 0, 0] := by
  unfold k0_off21
  generalize (i 2) = a
  revert a
  show ∀ a : Fin 4, _
  decide +kernel
instance (i : grid0.Coords) : ClosedOff (k0_off21 i) := ⟨![(i 2).val, 0, 0], off21_eq i⟩
/-- The condition of the last head's cast: the first point of a later pass. -/
abbrev cond3 (i : grid0.Coords) : BitVec 1 :=
  Scalar.cmpi .ne (Scalar.extui (Scalar.andi (Scalar.andi (Scalar.cmpi .sge (BitVec.ofNat 32 (i 0).val) 1#32)
    (Scalar.cmpi .eq (BitVec.ofNat 32 (i 1).val) 0#32)) (Scalar.cmpi .eq (BitVec.ofNat 32 (i 2).val) 0#32)) : BitVec 32) 0#32

/-! ## The stored values that have two names -/
theorem pay40_eq : k0_pay40 (F := F) = k0_pay24 := rfl
theorem pay41_eq : k0_pay41 (F := F) = k0_pay25 := rfl
theorem pay42_eq : k0_pay42 (F := F) = k0_pay26 := rfl
theorem pay43_eq : k0_pay43 (F := F) = k0_pay27 := rfl
theorem pay46_eq : k0_pay46 (F := F) = k0_pay30 := rfl
theorem pay47_eq : k0_pay47 (F := F) = k0_pay31 := rfl
theorem pay48_eq : k0_pay48 (F := F) = k0_pay32 := rfl
theorem pay49_eq : k0_pay49 (F := F) = k0_pay33 := rfl
theorem pay50_eq : k0_pay50 (F := F) = k0_pay34 := rfl
theorem pay51_eq : k0_pay51 (F := F) = k0_pay35 := rfl
theorem pay52_eq : k0_pay52 (F := F) = k0_pay36 := rfl
theorem pay53_eq : k0_pay53 (F := F) = k0_pay37 := rfl
theorem pay54_eq : k0_pay54 (F := F) = k0_pay38 := rfl
theorem pay55_eq : k0_pay55 (F := F) = k0_pay39 := rfl
theorem pay4_eq : k0_pay4 (F := F) = k0_pay1 := rfl
theorem pay5_eq : k0_pay5 (F := F) = k0_pay2 := rfl
theorem pay6_eq : k0_pay6 (F := F) = k0_pay3 := rfl
theorem pay65_eq : k0_pay65 (F := F) = k0_pay24 := rfl
theorem pay8_eq : k0_pay8 (F := F) = k0_pay7 := rfl
theorem pay9_eq : k0_pay9 (F := F) = k0_pay7 := rfl
theorem pay10_eq : k0_pay10 (F := F) = k0_pay7 := rfl
theorem pay11_eq : k0_pay11 (F := F) = k0_pay7 := rfl
theorem pay57_eq : k0_pay57 (F := F) = k0_pay7 := rfl
theorem pay58_eq : k0_pay58 (F := F) = k0_pay7 := rfl
theorem pay13_eq : k0_pay13 (F := F) = k0_pay7 := rfl
theorem pay14_eq : k0_pay14 (F := F) = k0_pay7 := rfl
theorem pay15_eq : k0_pay15 (F := F) = k0_pay7 := rfl
theorem pay16_eq : k0_pay16 (F := F) = k0_pay7 := rfl
theorem pay17_eq : k0_pay17 (F := F) = k0_pay7 := rfl
theorem pay60_eq : k0_pay60 (F := F) = k0_pay7 := rfl
theorem pay61_eq : k0_pay61 (F := F) = k0_pay7 := rfl
theorem pay18_eq : k0_pay18 (F := F) = k0_pay7 := rfl
theorem pay19_eq : k0_pay19 (F := F) = k0_pay7 := rfl
theorem pay20_eq : k0_pay20 (F := F) = k0_pay7 := rfl
theorem pay21_eq : k0_pay21 (F := F) = k0_pay7 := rfl
theorem pay22_eq : k0_pay22 (F := F) = k0_pay7 := rfl
theorem pay63_eq : k0_pay63 (F := F) = k0_pay7 := rfl
theorem pay64_eq : k0_pay64 (F := F) = k0_pay7 := rfl
theorem pay56_eq (v : Vec F S2048x128 .f32) : k0_pay56 (k0_pay12 v) = k0_pay7 v := rfl
theorem pay62_eq (v : Vec F S2048x128 .f32) : k0_pay62 (k0_pay23 v) = k0_pay7 v := rfl
theorem pay59_eq : k0_pay59 (F := F) = k0_pay7 := rfl

/-! ## What one point does to the scratch -/

/-- `d` is `s` with rows `256 * j` to `256 * j + 255` set to `v`. -/
def Row (d s : Vec F S1024x2048 .bf16) (j : ℕ) (v : Vec F S256x2048 .bf16) : Prop :=
  (∀ (x : S256x2048.Idx) (y : S1024x2048.Idx), (y 0).val = 256 * j + (x 0).val → (y 1).val = (x 1).val → d y = v x)
    ∧ ∀ y : S1024x2048.Idx, (y 0).val < 256 * j ∨ 256 * j + 256 ≤ (y 0).val → d y = s y

/-- `d` is `s` with slot `a` set to the eight cast columns `w`, side by side. -/
def Heads (d s : Vec F S4x2048x1024 .bf16) (a : ℕ) (w : Fin 8 → Vec F S2048x128 .f32) : Prop :=
  (∀ (p : Fin 8) (x : S1x2048x128.Idx) (y : S4x2048x1024.Idx), (y 0).val = a → (y 1).val = (x 1).val →
      (y 2).val = 128 * p.val + (x 2).val → d y = k0_pay7 (w p) x)
    ∧ ∀ y : S4x2048x1024.Idx, (y 0).val ≠ a → d y = s y

/-- Slot `a` of the weight scratch. -/
def slot (W : Vec F S4x2048x1024 .bf16) (a : Fin 4) : Vec F S1x2048x1024 .bf16 := fun y => W (ix3 a (y 1) (y 2))

theorem row_of (v : View sig .tc .vmem S1024x2048 .bf16) (f : v.ty.Contents (Elt F)) {off : Fin 2 → ℕ} (inb)
    (w : Vec F S256x2048 .bf16) (j : ℕ) (hoff : off = ![256 * j, 0]) :
    Row (v.read (Elt F) (v.writes (Elt F) f [⟨Rect.unit (s := S1024x2048) off S256x2048.size inb, w⟩])) (v.read (Elt F) f) j w :=
  ⟨fun x y h0 h1 => View.read_writes_cons_rows_of_mem v f inb w [] y x hoff h0 h1,
    fun y h => View.read_writes_cons_rows_of_not_mem (W := 256) v f inb w [] y hoff rfl h⟩

theorem heads_of (v : View sig .tc .vmem S4x2048x1024 .bf16) (f : v.ty.Contents (Elt F)) (a : ℕ) (w0 w1 w2 w3 w4 w5 w6 w7 : Vec F S2048x128 .f32)
    {o0 : Fin 3 → ℕ} (inb0) {o1 : Fin 3 → ℕ} (inb1) {o2 : Fin 3 → ℕ} (inb2) {o3 : Fin 3 → ℕ} (inb3) {o4 : Fin 3 → ℕ} (inb4) {o5 : Fin 3 → ℕ} (inb5) {o6 : Fin 3 → ℕ} (inb6) {o7 : Fin 3 → ℕ} (inb7)
    (h0 : o0 = ![a, 0, 0]) (h1 : o1 = ![a, 0, 128]) (h2 : o2 = ![a, 0, 256]) (h3 : o3 = ![a, 0, 384]) (h4 : o4 = ![a, 0, 512]) (h5 : o5 = ![a, 0, 640]) (h6 : o6 = ![a, 0, 768]) (h7 : o7 = ![a, 0, 896]) :
    Heads (v.read (Elt F) (v.writes (Elt F) f [⟨Rect.unit (s := S4x2048x1024) o7 S1x2048x128.size inb7, k0_pay7 w7⟩, ⟨Rect.unit (s := S4x2048x1024) o6 S1x2048x128.size inb6, k0_pay7 w6⟩, ⟨Rect.unit (s := S4x2048x1024) o5 S1x2048x128.size inb5, k0_pay7 w5⟩, ⟨Rect.unit (s := S4x2048x1024) o4 S1x2048x128.size inb4, k0_pay7 w4⟩, ⟨Rect.unit (s := S4x2048x1024) o3 S1x2048x128.size inb3, k0_pay7 w3⟩, ⟨Rect.unit (s := S4x2048x1024) o2 S1x2048x128.size inb2, k0_pay7 w2⟩, ⟨Rect.unit (s := S4x2048x1024) o1 S1x2048x128.size inb1, k0_pay7 w1⟩, ⟨Rect.unit (s := S4x2048x1024) o0 S1x2048x128.size inb0, k0_pay7 w0⟩])) (v.read (Elt F) f) a ![w0, w1, w2, w3, w4, w5, w6, w7] := by
  refine ⟨fun p x y hy0 hy1 hy2 => ?_, fun y hy => ?_⟩
  · have hx0 : (x 0).val < 1 := (x 0).isLt
    have hx2 : (x 2).val < 128 := (x 2).isLt
    fin_cases p
    · replace hy2 : (y 2).val = 0 + (x 2).val := hy2
      refine (View.read_writes_cons_unit_of_not_mem v f inb7 _ _ y h7 2 (Or.inl ?_)).trans ?_
      · show (y 2).val < 896; omega
      refine (View.read_writes_cons_unit_of_not_mem v f inb6 _ _ y h6 2 (Or.inl ?_)).trans ?_
      · show (y 2).val < 768; omega
      refine (View.read_writes_cons_unit_of_not_mem v f inb5 _ _ y h5 2 (Or.inl ?_)).trans ?_
      · show (y 2).val < 640; omega
      refine (View.read_writes_cons_unit_of_not_mem v f inb4 _ _ y h4 2 (Or.inl ?_)).trans ?_
      · show (y 2).val < 512; omega
      refine (View.read_writes_cons_unit_of_not_mem v f inb3 _ _ y h3 2 (Or.inl ?_)).trans ?_
      · show (y 2).val < 384; omega
      refine (View.read_writes_cons_unit_of_not_mem v f inb2 _ _ y h2 2 (Or.inl ?_)).trans ?_
      · show (y 2).val < 256; omega
      refine (View.read_writes_cons_unit_of_not_mem v f inb1 _ _ y h1 2 (Or.inl ?_)).trans ?_
      · show (y 2).val < 128; omega
      refine View.read_writes_cons_unit_of_mem v f inb0 _ _ y x h0 fun b => ?_
      match b with
      | ⟨0, _⟩ => show (y 0).val = a + (x 0).val; omega
      | ⟨1, _⟩ => show (y 1).val = 0 + (x 1).val; omega
      | ⟨2, _⟩ => exact hy2
    · replace hy2 : (y 2).val = 128 + (x 2).val := hy2
      refine (View.read_writes_cons_unit_of_not_mem v f inb7 _ _ y h7 2 (Or.inl ?_)).trans ?_
      · show (y 2).val < 896; omega
      refine (View.read_writes_cons_unit_of_not_mem v f inb6 _ _ y h6 2 (Or.inl ?_)).trans ?_
      · show (y 2).val < 768; omega
      refine (View.read_writes_cons_unit_of_not_mem v f inb5 _ _ y h5 2 (Or.inl ?_)).trans ?_
      · show (y 2).val < 640; omega
      refine (View.read_writes_cons_unit_of_not_mem v f inb4 _ _ y h4 2 (Or.inl ?_)).trans ?_
      · show (y 2).val < 512; omega
      refine (View.read_writes_cons_unit_of_not_mem v f inb3 _ _ y h3 2 (Or.inl ?_)).trans ?_
      · show (y 2).val < 384; omega
      refine (View.read_writes_cons_unit_of_not_mem v f inb2 _ _ y h2 2 (Or.inl ?_)).trans ?_
      · show (y 2).val < 256; omega
      refine View.read_writes_cons_unit_of_mem v f inb1 _ _ y x h1 fun b => ?_
      match b with
      | ⟨0, _⟩ => show (y 0).val = a + (x 0).val; omega
      | ⟨1, _⟩ => show (y 1).val = 0 + (x 1).val; omega
      | ⟨2, _⟩ => exact hy2
    · replace hy2 : (y 2).val = 256 + (x 2).val := hy2
      refine (View.read_writes_cons_unit_of_not_mem v f inb7 _ _ y h7 2 (Or.inl ?_)).trans ?_
      · show (y 2).val < 896; omega
      refine (View.read_writes_cons_unit_of_not_mem v f inb6 _ _ y h6 2 (Or.inl ?_)).trans ?_
      · show (y 2).val < 768; omega
      refine (View.read_writes_cons_unit_of_not_mem v f inb5 _ _ y h5 2 (Or.inl ?_)).trans ?_
      · show (y 2).val < 640; omega
      refine (View.read_writes_cons_unit_of_not_mem v f inb4 _ _ y h4 2 (Or.inl ?_)).trans ?_
      · show (y 2).val < 512; omega
      refine (View.read_writes_cons_unit_of_not_mem v f inb3 _ _ y h3 2 (Or.inl ?_)).trans ?_
      · show (y 2).val < 384; omega
      refine View.read_writes_cons_unit_of_mem v f inb2 _ _ y x h2 fun b => ?_
      match b with
      | ⟨0, _⟩ => show (y 0).val = a + (x 0).val; omega
      | ⟨1, _⟩ => show (y 1).val = 0 + (x 1).val; omega
      | ⟨2, _⟩ => exact hy2
    · replace hy2 : (y 2).val = 384 + (x 2).val := hy2
      refine (View.read_writes_cons_unit_of_not_mem v f inb7 _ _ y h7 2 (Or.inl ?_)).trans ?_
      · show (y 2).val < 896; omega
      refine (View.read_writes_cons_unit_of_not_mem v f inb6 _ _ y h6 2 (Or.inl ?_)).trans ?_
      · show (y 2).val < 768; omega
      refine (View.read_writes_cons_unit_of_not_mem v f inb5 _ _ y h5 2 (Or.inl ?_)).trans ?_
      · show (y 2).val < 640; omega
      refine (View.read_writes_cons_unit_of_not_mem v f inb4 _ _ y h4 2 (Or.inl ?_)).trans ?_
      · show (y 2).val < 512; omega
      refine View.read_writes_cons_unit_of_mem v f inb3 _ _ y x h3 fun b => ?_
      match b with
      | ⟨0, _⟩ => show (y 0).val = a + (x 0).val; omega
      | ⟨1, _⟩ => show (y 1).val = 0 + (x 1).val; omega
      | ⟨2, _⟩ => exact hy2
    · replace hy2 : (y 2).val = 512 + (x 2).val := hy2
      refine (View.read_writes_cons_unit_of_not_mem v f inb7 _ _ y h7 2 (Or.inl ?_)).trans ?_
      · show (y 2).val < 896; omega
      refine (View.read_writes_cons_unit_of_not_mem v f inb6 _ _ y h6 2 (Or.inl ?_)).trans ?_
      · show (y 2).val < 768; omega
      refine (View.read_writes_cons_unit_of_not_mem v f inb5 _ _ y h5 2 (Or.inl ?_)).trans ?_
      · show (y 2).val < 640; omega
      refine View.read_writes_cons_unit_of_mem v f inb4 _ _ y x h4 fun b => ?_
      match b with
      | ⟨0, _⟩ => show (y 0).val = a + (x 0).val; omega
      | ⟨1, _⟩ => show (y 1).val = 0 + (x 1).val; omega
      | ⟨2, _⟩ => exact hy2
    · replace hy2 : (y 2).val = 640 + (x 2).val := hy2
      refine (View.read_writes_cons_unit_of_not_mem v f inb7 _ _ y h7 2 (Or.inl ?_)).trans ?_
      · show (y 2).val < 896; omega
      refine (View.read_writes_cons_unit_of_not_mem v f inb6 _ _ y h6 2 (Or.inl ?_)).trans ?_
      · show (y 2).val < 768; omega
      refine View.read_writes_cons_unit_of_mem v f inb5 _ _ y x h5 fun b => ?_
      match b with
      | ⟨0, _⟩ => show (y 0).val = a + (x 0).val; omega
      | ⟨1, _⟩ => show (y 1).val = 0 + (x 1).val; omega
      | ⟨2, _⟩ => exact hy2
    · replace hy2 : (y 2).val = 768 + (x 2).val := hy2
      refine (View.read_writes_cons_unit_of_not_mem v f inb7 _ _ y h7 2 (Or.inl ?_)).trans ?_
      · show (y 2).val < 896; omega
      refine View.read_writes_cons_unit_of_mem v f inb6 _ _ y x h6 fun b => ?_
      match b with
      | ⟨0, _⟩ => show (y 0).val = a + (x 0).val; omega
      | ⟨1, _⟩ => show (y 1).val = 0 + (x 1).val; omega
      | ⟨2, _⟩ => exact hy2
    · replace hy2 : (y 2).val = 896 + (x 2).val := hy2
      refine View.read_writes_cons_unit_of_mem v f inb7 _ _ y x h7 fun b => ?_
      match b with
      | ⟨0, _⟩ => show (y 0).val = a + (x 0).val; omega
      | ⟨1, _⟩ => show (y 1).val = 0 + (x 1).val; omega
      | ⟨2, _⟩ => exact hy2
  · have hor : (y 0).val < a ∨ a + 1 ≤ (y 0).val := by omega
    refine (View.read_writes_cons_unit_of_not_mem v f inb7 _ _ y h7 0 hor).trans ?_
    refine (View.read_writes_cons_unit_of_not_mem v f inb6 _ _ y h6 0 hor).trans ?_
    refine (View.read_writes_cons_unit_of_not_mem v f inb5 _ _ y h5 0 hor).trans ?_
    refine (View.read_writes_cons_unit_of_not_mem v f inb4 _ _ y h4 0 hor).trans ?_
    refine (View.read_writes_cons_unit_of_not_mem v f inb3 _ _ y h3 0 hor).trans ?_
    refine (View.read_writes_cons_unit_of_not_mem v f inb2 _ _ y h2 0 hor).trans ?_
    refine (View.read_writes_cons_unit_of_not_mem v f inb1 _ _ y h1 0 hor).trans ?_
    refine (View.read_writes_cons_unit_of_not_mem v f inb0 _ _ y h0 0 hor).trans ?_
    rfl

theorem ld_slot (W : Vec F S4x2048x1024 .bf16) {off : Fin 3 → ℕ} (inb) (a : Fin 4) (h : off = ![a.val, 0, 0]) :
    View.ld W (Rect.unit (s := S4x2048x1024) off S1x2048x1024.size inb) = slot W a := by
  subst h
  funext x
  refine congrArg W (funext fun b => Fin.ext ?_)
  have hx0 : (x 0).val < 1 := (x 0).isLt
  match b with
  | ⟨0, _⟩ => show a.val + 1 * (x 0).val = a.val; omega
  | ⟨1, _⟩ => show 0 + 1 * (x 1).val = (x 1).val; omega
  | ⟨2, _⟩ => show 0 + 1 * (x 2).val = (x 2).val; omega

/-! ## What one point leaves in the outputs -/

/-- The attention's queries and their gate. -/
def qzOut (h : Vec F S1024x2048 .bf16) (w : FVec F S2048x1024 .bf16) (g : Vec F S1x128 .f32) : Vec F S1024x256 .bf16 :=
  View.canon [⟨Rect.unit (s := S1024x256) ![0, 0] S1024x128.size inb_S1024x256_S1024x128_0_0, k0_pay1 (k0_pay38 (k0_pay27 h w)) g (k0_pay39 (k0_pay27 h w))⟩,
    ⟨Rect.unit (s := S1024x256) ![0, 128] S1024x128.size inb_S1024x256_S1024x128_0_128, k0_pay37 (k0_pay27 h w)⟩]

/-- The attention's keys and values. -/
def kvOut (h : Vec F S1024x2048 .bf16) (w : FVec F S2048x1024 .bf16) (g : Vec F S1x128 .f32) : Vec F S1024x256 .bf16 :=
  View.canon [⟨Rect.unit (s := S1024x256) ![0, 128] S1024x128.size inb_S1024x256_S1024x128_0_128, k0_pay3 (k0_pay27 h w)⟩,
    ⟨Rect.unit (s := S1024x256) ![0, 0] S1024x128.size inb_S1024x256_S1024x128_0_0, k0_pay2 (k0_pay27 h w) g⟩]

/-- The recurrence's four operands. -/
def hgpOut (h : Vec F S1024x2048 .bf16) (w : FVec F S2048x1024 .bf16) (lb : Vec F S2x128 .f32) : Vec F S1024x512 .bf16 :=
  View.canon [⟨Rect.unit (s := S1024x512) ![0, 256] S1024x128.size inb_S1024x512_S1024x128_0_256, k0_pay36 (k0_pay27 h w)⟩,
    ⟨Rect.unit (s := S1024x512) ![0, 384] S1024x128.size inb_S1024x512_S1024x128_0_384, k0_pay35 (k0_pay27 h w)⟩,
    ⟨Rect.unit (s := S1024x512) ![0, 0] S1024x128.size inb_S1024x512_S1024x128_0_0, k0_pay34 (k0_pay32 h w) (k0_pay33 h w)⟩,
    ⟨Rect.unit (s := S1024x512) ![0, 128] S1024x128.size inb_S1024x512_S1024x128_0_128, k0_pay31 h w lb⟩]

theorem cover2 (L : List (View.Piece (Elt F) S1024x256 .bf16)) (p q : View.Piece (Elt F) S1024x256 .bf16) (hp : p ∈ L) (hq : q ∈ L)
    (ep : p.1 = Rect.unit (s := S1024x256) ![0, 0] S1024x128.size inb_S1024x256_S1024x128_0_0)
    (eq : q.1 = Rect.unit (s := S1024x256) ![0, 128] S1024x128.size inb_S1024x256_S1024x128_0_128) (y : S1024x256.Idx) :
    ∃ r ∈ L, y ∈ r.1.set := by
  have h0 : (y 0).val < 1024 := (y 0).isLt
  have h1 : (y 1).val < 256 := (y 1).isLt
  by_cases h : (y 1).val < 128
  · refine ⟨p, hp, ?_⟩
    rw [ep, Rect.mem_set_unit]
    exact Fin.forall_fin_two.mpr ⟨⟨Nat.zero_le _, by show (y 0).val < 0 + 1024; omega⟩, ⟨Nat.zero_le _, by show (y 1).val < 0 + 128; omega⟩⟩
  · refine ⟨q, hq, ?_⟩
    rw [eq, Rect.mem_set_unit]
    exact Fin.forall_fin_two.mpr ⟨⟨Nat.zero_le _, by show (y 0).val < 0 + 1024; omega⟩, ⟨by show 128 ≤ (y 1).val; omega, by show (y 1).val < 128 + 128; omega⟩⟩

theorem cover4 (w0 w1 w2 w3 : FVec F S1024x128 .bf16) (y : S1024x512.Idx) :
    ∃ r ∈ ([⟨Rect.unit (s := S1024x512) ![0, 256] S1024x128.size inb_S1024x512_S1024x128_0_256, w2⟩,
    ⟨Rect.unit (s := S1024x512) ![0, 384] S1024x128.size inb_S1024x512_S1024x128_0_384, w3⟩,
    ⟨Rect.unit (s := S1024x512) ![0, 0] S1024x128.size inb_S1024x512_S1024x128_0_0, w0⟩,
    ⟨Rect.unit (s := S1024x512) ![0, 128] S1024x128.size inb_S1024x512_S1024x128_0_128, w1⟩] : List (View.Piece (Elt F) S1024x512 .bf16)), y ∈ r.1.set := by
  have h0 : (y 0).val < 1024 := (y 0).isLt
  have h1 : (y 1).val < 512 := (y 1).isLt
  by_cases ha : (y 1).val < 128
  · refine ⟨_, List.mem_cons_of_mem _ (List.mem_cons_of_mem _ List.mem_cons_self), ?_⟩
    rw [Rect.mem_set_unit]
    exact Fin.forall_fin_two.mpr ⟨⟨Nat.zero_le _, by show (y 0).val < 0 + 1024; omega⟩, ⟨Nat.zero_le _, by show (y 1).val < 0 + 128; omega⟩⟩
  by_cases hb : (y 1).val < 256
  · refine ⟨_, List.mem_cons_of_mem _ (List.mem_cons_of_mem _ (List.mem_cons_of_mem _ List.mem_cons_self)), ?_⟩
    rw [Rect.mem_set_unit]
    exact Fin.forall_fin_two.mpr ⟨⟨Nat.zero_le _, by show (y 0).val < 0 + 1024; omega⟩, ⟨by show 128 ≤ (y 1).val; omega, by show (y 1).val < 128 + 128; omega⟩⟩
  by_cases hc : (y 1).val < 384
  · refine ⟨_, List.mem_cons_self, ?_⟩
    rw [Rect.mem_set_unit]
    exact Fin.forall_fin_two.mpr ⟨⟨Nat.zero_le _, by show (y 0).val < 0 + 1024; omega⟩, ⟨by show 256 ≤ (y 1).val; omega, by show (y 1).val < 256 + 128; omega⟩⟩
  · refine ⟨_, List.mem_cons_of_mem _ List.mem_cons_self, ?_⟩
    rw [Rect.mem_set_unit]
    exact Fin.forall_fin_two.mpr ⟨⟨Nat.zero_le _, by show (y 0).val < 0 + 1024; omega⟩, ⟨by show 384 ≤ (y 1).val; omega, by show (y 1).val < 384 + 128; omega⟩⟩

theorem qz_of (v : View sig .tc .vmem S1024x256 .bf16) (f : v.ty.Contents (Elt F)) (h : Vec F S1024x2048 .bf16) (w : FVec F S2048x1024 .bf16)
    (g : Vec F S1x128 .f32) :
    v.read (Elt F) (v.writes (Elt F) f [⟨Rect.unit (s := S1024x256) ![0, 0] S1024x128.size inb_S1024x256_S1024x128_0_0, k0_pay1 (k0_pay38 (k0_pay27 h w)) g (k0_pay39 (k0_pay27 h w))⟩,
    ⟨Rect.unit (s := S1024x256) ![0, 128] S1024x128.size inb_S1024x256_S1024x128_0_128, k0_pay37 (k0_pay27 h w)⟩]) = qzOut h w g :=
  View.read_writes_eq_canon _ _ _ (cover2 _ _ _ List.mem_cons_self (List.mem_cons_of_mem _ List.mem_cons_self) rfl rfl)

theorem kv_of (v : View sig .tc .vmem S1024x256 .bf16) (f : v.ty.Contents (Elt F)) (h : Vec F S1024x2048 .bf16) (w : FVec F S2048x1024 .bf16)
    (g : Vec F S1x128 .f32) :
    v.read (Elt F) (v.writes (Elt F) f [⟨Rect.unit (s := S1024x256) ![0, 128] S1024x128.size inb_S1024x256_S1024x128_0_128, k0_pay3 (k0_pay27 h w)⟩,
    ⟨Rect.unit (s := S1024x256) ![0, 0] S1024x128.size inb_S1024x256_S1024x128_0_0, k0_pay2 (k0_pay27 h w) g⟩]) = kvOut h w g :=
  View.read_writes_eq_canon _ _ _ (cover2 _ _ _ (List.mem_cons_of_mem _ List.mem_cons_self) List.mem_cons_self rfl rfl)

theorem hgp_of (v : View sig .tc .vmem S1024x512 .bf16) (f : v.ty.Contents (Elt F)) (h : Vec F S1024x2048 .bf16) (w : FVec F S2048x1024 .bf16)
    (lb : Vec F S2x128 .f32) :
    v.read (Elt F) (v.writes (Elt F) f [⟨Rect.unit (s := S1024x512) ![0, 256] S1024x128.size inb_S1024x512_S1024x128_0_256, k0_pay36 (k0_pay27 h w)⟩,
    ⟨Rect.unit (s := S1024x512) ![0, 384] S1024x128.size inb_S1024x512_S1024x128_0_384, k0_pay35 (k0_pay27 h w)⟩,
    ⟨Rect.unit (s := S1024x512) ![0, 0] S1024x128.size inb_S1024x512_S1024x128_0_0, k0_pay34 (k0_pay32 h w) (k0_pay33 h w)⟩,
    ⟨Rect.unit (s := S1024x512) ![0, 128] S1024x128.size inb_S1024x512_S1024x128_0_128, k0_pay31 h w lb⟩]) = hgpOut h w lb :=
  View.read_writes_eq_canon _ _ _ (cover4 _ _ _ _)

theorem whole_of {s : Shape} {e : EltTy} (v : View sig .tc .vmem s e) (f : v.ty.Contents (Elt F)) {off : Fin s.rank → ℕ} (inb)
    (w : s.Idx → Elt F e) (h : ∀ a, off a = 0) :
    v.read (Elt F) (v.writes (Elt F) f [⟨Rect.unit (s := s) off s.size inb, w⟩]) = w :=
  (View.read_writes_eq_canon _ _ _ fun y => ⟨_, List.mem_singleton_self _, View.mem_set_unit_zero (funext h) inb y⟩).trans
    (View.canon_unit_zero (funext h) inb w)

theorem readAt_whole {s : Shape} {e : EltTy} (v : View sig .tc .vmem s e) (f : v.ty.Contents (Elt F)) {off : Fin s.rank → ℕ} (inb)
    (h : ∀ a, off a = 0) : v.readAt (Elt F) (Rect.unit (s := s) off s.size inb) f = v.read (Elt F) f :=
  (View.readAt_eq_ld _ _ _).trans (View.ld_unit_zero (funext h) inb _)

/-! ## The conditions at a point -/
theorem cond1_iff (i : grid0.Coords) : k0_cond1 i = 1#1 ↔ (i 0).val = 0 ∧ (i 1).val = 0 := by
  unfold k0_cond1
  generalize (i 0) = a
  generalize (i 1) = b
  generalize (i 2) = d
  revert a b d
  show ∀ (a : Fin 2) (b : Fin 9) (d : Fin 4), _
  decide +kernel
theorem cond2_iff (i : grid0.Coords) : k0_cond2 i = 1#1 ↔ (i 0).val = 0 ∧ (i 1).val = 8 ∧ 1 ≤ (i 2).val := by
  unfold k0_cond2
  generalize (i 0) = a
  generalize (i 1) = b
  generalize (i 2) = d
  revert a b d
  show ∀ (a : Fin 2) (b : Fin 9) (d : Fin 4), _
  decide +kernel
theorem cond3_iff (i : grid0.Coords) : cond3 i = 1#1 ↔ (i 0).val = 1 ∧ (i 1).val = 0 ∧ (i 2).val = 0 := by
  unfold cond3
  generalize (i 0) = a
  generalize (i 1) = b
  generalize (i 2) = d
  revert a b d
  show ∀ (a : Fin 2) (b : Fin 9) (d : Fin 4), _
  decide +kernel
theorem cond4_iff (i : grid0.Coords) : k0_cond4 i = 1#1 ↔ (i 1).val = 0 := by
  unfold k0_cond4
  generalize (i 0) = a
  generalize (i 1) = b
  generalize (i 2) = d
  revert a b d
  show ∀ (a : Fin 2) (b : Fin 9) (d : Fin 4), _
  decide +kernel
theorem cond5_iff (i : grid0.Coords) : k0_cond5 i = 1#1 ↔ (i 1).val % 2 = 1 := by
  unfold k0_cond5
  generalize (i 0) = a
  generalize (i 1) = b
  generalize (i 2) = d
  revert a b d
  show ∀ (a : Fin 2) (b : Fin 9) (d : Fin 4), _
  decide +kernel
theorem cond6_iff (i : grid0.Coords) : k0_cond6 i = 1#1 ↔ 1 ≤ (i 1).val ∧ (i 1).val % 2 = 0 := by
  unfold k0_cond6
  generalize (i 0) = a
  generalize (i 1) = b
  generalize (i 2) = d
  revert a b d
  show ∀ (a : Fin 2) (b : Fin 9) (d : Fin 4), _
  decide +kernel

end Cert.ProjIdeal.Hand
end
-- ==== Proof.ProjIdealRunA.lean ====
module

public import proofs.«01_k».proof.Proof.Gen.ProjIdeal.Frame
public import proofs.«01_k».proof.Proof.Gen.ProjIdeal.Skeleton
public import proofs.«01_k».proof.Proof.Gen.ProjIdeal.Points
public import proofs.«01_k».proof.Proof.ProjIdealStep
public import Idealize.ShloMosaic.Lib.Pipeline.FrameBody
public import Idealize.ShloMosaic.Lib.Tactic
public import Idealize.ShloMosaic.Lib.WordCmp
public import Idealize.ShloMosaic.Lib.WritesUnit
public import Idealize.ShloMosaic.Lib.Pipeline.Value
public import Idealize.ShloMosaic.Lib.Pointwise.Index

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
theorem run_A (c : Dev nD) (i : grid0.Coords) (arg3 : Memref sig .tc .vmem S256x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S2x128 .f32) (harg17 : arg17.IsWhole) (arg18 : Memref sig .tc .vmem S32x2048 .f32) (harg18 : arg18.IsWhole) (arg19 : Memref sig .tc .vmem S1024x256 .bf16) (harg19 : arg19.IsWhole) (arg20 : Memref sig .tc .vmem S1024x256 .bf16) (harg20 : arg20.IsWhole) (arg21 : Memref sig .tc .vmem S1024x512 .bf16) (harg21 : arg21.IsWhole) (arg22 : Memref sig .tc .vmem S1024x128 .f32) (harg22 : arg22.IsWhole) (arg23 : Memref sig .tc .vmem S32x2048 .bf16) (harg23 : arg23.IsWhole) (arg24 : Memref sig .tc .vmem S1024x2048 .bf16) (harg24 : arg24.IsWhole) (arg25 : Memref sig .tc .vmem S1024x2048 .bf16) (harg25 : arg25.IsWhole) (arg26 : Memref sig .tc .vmem S4x2048x1024 .bf16) (harg26 : arg26.IsWhole) (hc1 : k0_cond1 i = 1#1) (hc2 : ¬(k0_cond2 i = 1#1)) (hc3 : ¬(cond3 i = 1#1)) (hc4 : k0_cond4 i = 1#1) (hc5 : ¬(k0_cond5 i = 1#1)) (hc6 : ¬(k0_cond6 i = 1#1))
    (x0 : Vec F S256x2048 .f32) (x1 : Vec F S1x1x2048 .f32) (x2 : Vec F S1x1x2048 .f32) (x3 : Vec F S1x2048 .f32) (x4 : Vec F S2048x128 .f32) (x5 : Vec F S2048x128 .f32) (x6 : Vec F S2048x128 .f32) (x7 : Vec F S2048x128 .f32) (x8 : Vec F S2048x128 .f32) (x9 : Vec F S2048x128 .f32) (x10 : Vec F S2048x128 .f32) (x11 : Vec F S2048x128 .f32) (x12 : Vec F S1x128 .f32) (x13 : Vec F S1x128 .f32) (x14 : Vec F S2x128 .f32) (x15 : Vec F S32x2048 .f32) (s0 : Vec F S1024x2048 .bf16) (s1 : Vec F S1024x2048 .bf16) (s2 : Vec F S4x2048x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare s0 ∗ owns (c : Thread nD τ) arg25 fullShare s1 ∗ owns (c : Thread nD τ) arg26 fullShare s2 ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, ⌜Row d s0 (i 2).val (k0_pay24 x0 x3 x2 x1)⌝ ∗ owns (c : Thread nD τ) arg24 fullShare d) ∗ owns (c : Thread nD τ) arg25 fullShare s1 ∗ (∃ d, ⌜Heads d s2 (i 2).val ![x9, x8, x4, x5, x11, x7, x6, x10]⌝ ∗ owns (c : Thread nD τ) arg26 fullShare d)) -∗ K ⟨⟩))
      ⊢ wp frame (wpE (defs₀ (F := F)) Variants.none c none) E (cc0_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_proj_eq_skeleton]; unfold cc0_proj_skel
  simp only [k0_part10_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, %hd16, H16⟩, ⟨%d17, %f17, %hd17, H17⟩, ⟨%d18, %f18, %hd18, H18⟩, ⟨%d19, %f19, %hd19, H19⟩, ⟨%d20, %f20, %hd20, H20⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg24.eq_unread hfs0; obtain rfl := harg25.eq_unread hfs1; obtain rfl := harg26.eq_unread hfs2
  sl_exec (disch := first | sl_exact hc1 | sl_exact hc2 | sl_exact hc3 | sl_exact hc4 | sl_exact hc5 | sl_exact hc6)
  have e0 : arg3.view.readAt (Elt F) (Rect.unit (s := S256x2048) ![0, 0] S256x2048.size inb_S256x2048_S256x2048_0_0).toLoadRect (harg3.unread x0) = x0 := (readAt_whole _ _ _ (by decide)).trans (harg3.read_unread x0)
  have e1 : arg4.view.readAt (Elt F) (Rect.unit (s := S1x1x2048) ![0, 0, 0] S1x1x2048.size inb_S1x1x2048_S1x1x2048_0_0_0).toLoadRect (harg4.unread x1) = x1 := (readAt_whole _ _ _ (by decide)).trans (harg4.read_unread x1)
  have e2 : arg5.view.readAt (Elt F) (Rect.unit (s := S1x1x2048) ![0, 0, 0] S1x1x2048.size inb_S1x1x2048_S1x1x2048_0_0_0).toLoadRect (harg5.unread x2) = x2 := (readAt_whole _ _ _ (by decide)).trans (harg5.read_unread x2)
  have e3 : arg6.view.readAt (Elt F) (Rect.unit (s := S1x2048) ![0, 0] S1x2048.size inb_S1x2048_S1x2048_0_0).toLoadRect (harg6.unread x3) = x3 := (readAt_whole _ _ _ (by decide)).trans (harg6.read_unread x3)
  have e4 : arg7.view.readAt (Elt F) (Rect.unit (s := S2048x128) ![0, 0] S2048x128.size inb_S2048x128_S2048x128_0_0).toLoadRect (harg7.unread x4) = x4 := (readAt_whole _ _ _ (by decide)).trans (harg7.read_unread x4)
  have e5 : arg8.view.readAt (Elt F) (Rect.unit (s := S2048x128) ![0, 0] S2048x128.size inb_S2048x128_S2048x128_0_0).toLoadRect (harg8.unread x5) = x5 := (readAt_whole _ _ _ (by decide)).trans (harg8.read_unread x5)
  have e6 : arg9.view.readAt (Elt F) (Rect.unit (s := S2048x128) ![0, 0] S2048x128.size inb_S2048x128_S2048x128_0_0).toLoadRect (harg9.unread x6) = x6 := (readAt_whole _ _ _ (by decide)).trans (harg9.read_unread x6)
  have e7 : arg10.view.readAt (Elt F) (Rect.unit (s := S2048x128) ![0, 0] S2048x128.size inb_S2048x128_S2048x128_0_0).toLoadRect (harg10.unread x7) = x7 := (readAt_whole _ _ _ (by decide)).trans (harg10.read_unread x7)
  have e8 : arg11.view.readAt (Elt F) (Rect.unit (s := S2048x128) ![0, 0] S2048x128.size inb_S2048x128_S2048x128_0_0).toLoadRect (harg11.unread x8) = x8 := (readAt_whole _ _ _ (by decide)).trans (harg11.read_unread x8)
  have e9 : arg12.view.readAt (Elt F) (Rect.unit (s := S2048x128) ![0, 0] S2048x128.size inb_S2048x128_S2048x128_0_0).toLoadRect (harg12.unread x9) = x9 := (readAt_whole _ _ _ (by decide)).trans (harg12.read_unread x9)
  have e10 : arg13.view.readAt (Elt F) (Rect.unit (s := S2048x128) ![0, 0] S2048x128.size inb_S2048x128_S2048x128_0_0).toLoadRect (harg13.unread x10) = x10 := (readAt_whole _ _ _ (by decide)).trans (harg13.read_unread x10)
  have e11 : arg14.view.readAt (Elt F) (Rect.unit (s := S2048x128) ![0, 0] S2048x128.size inb_S2048x128_S2048x128_0_0).toLoadRect (harg14.unread x11) = x11 := (readAt_whole _ _ _ (by decide)).trans (harg14.read_unread x11)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists d16, f16; isplitr; · ipureintro; exact hd16
    iexact H16
  isplitl [H17]
  · iexists d17, f17; isplitr; · ipureintro; exact hd17
    iexact H17
  isplitl [H18]
  · iexists d18, f18; isplitr; · ipureintro; exact hd18
    iexact H18
  isplitl [H19]
  · iexists d19, f19; isplitr; · ipureintro; exact hd19
    iexact H19
  isplitl [H20]
  · iexists d20, f20; isplitr; · ipureintro; exact hd20
    iexact H20
  isplitl [HS0]
  · iexists _; isplitr; swap
    · iexists _; isplitr; swap; · iexact HS0
      ipureintro; rfl
    · ipureintro
      (try delta run_A.sl.r); simp only [e0, e1, e2, e3, e4, e5, e6, e7, e8, e9, e10, e11, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
      have := row_of arg24.view (harg24.unread s0) (k0_off17_inb i hc4) (k0_pay24 x0 x3 x2 x1) (i 2).val (off17_eq i)
      rw [harg24.read_unread] at this; exact this
  isplitl [HS1]
  · iexists _; isplitr; · ipureintro; exact harg25.read_unread _
    iexact HS1
  · iexists _; isplitr; swap
    · iexists _; isplitr; swap; · iexact HS2
      ipureintro; rfl
    · ipureintro
      (try delta run_A.sl.HS2_9); (try delta run_A.sl.HS2_8); (try delta run_A.sl.HS2_7); (try delta run_A.sl.HS2_6); (try delta run_A.sl.HS2_5); (try delta run_A.sl.HS2_4); (try delta run_A.sl.HS2_3); (try delta run_A.sl.HS2_2); (try delta run_A.sl.HS2_1); (try delta run_A.sl.v90); (try delta run_A.sl.v89); (try delta run_A.sl.v88); (try delta run_A.sl.v87); (try delta run_A.sl.v86); (try delta run_A.sl.v85); (try delta run_A.sl.v84); (try delta run_A.sl.v83); (try delta run_A.sl.v82); (try delta run_A.sl.v81); (try delta run_A.sl.v80); (try delta run_A.sl.v79); (try delta run_A.sl.v78); (try delta run_A.sl.v77); (try delta run_A.sl.v76); (try delta run_A.sl.v75); (try delta run_A.sl.v74); (try delta run_A.sl.v73); (try delta run_A.sl.v72); (try delta run_A.sl.v71); (try delta run_A.sl.v70); (try delta run_A.sl.v69); (try delta run_A.sl.v68); (try delta run_A.sl.v67); (try delta run_A.sl.v66); (try delta run_A.sl.v65); (try delta run_A.sl.v64); (try delta run_A.sl.v63); (try delta run_A.sl.v62); (try delta run_A.sl.v61); (try delta run_A.sl.v60); (try delta run_A.sl.v59); (try delta run_A.sl.v58); (try delta run_A.sl.v57); (try delta run_A.sl.v56); (try delta run_A.sl.v55); (try delta run_A.sl.v54); (try delta run_A.sl.v53); (try delta run_A.sl.v52); (try delta run_A.sl.v51); (try delta run_A.sl.v50); (try delta run_A.sl.v49); (try delta run_A.sl.v48); (try delta run_A.sl.v47); (try delta run_A.sl.v46); (try delta run_A.sl.r); simp only [e0, e1, e2, e3, e4, e5, e6, e7, e8, e9, e10, e11, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
      have := heads_of arg26.view (harg26.unread s2) (i 2).val x9 x8 x4 x5 x11 x7 x6 x10 (k0_off1_inb i hc1) (k0_off2_inb i hc1) (k0_off3_inb i hc1) (k0_off4_inb i hc1) (k0_off5_inb i hc1) (k0_off6_inb i hc1) (k0_off7_inb i hc1) (k0_off8_inb i hc1) (off1_eq i) (off2_eq i) (off3_eq i) (off4_eq i) (off5_eq i) (off6_eq i) (off7_eq i) (off8_eq i)
      rw [harg26.read_unread] at this; exact this

end Cert.ProjIdeal.Hand
end
-- ==== Proof.ProjIdealRunB.lean ====
module

public import proofs.«01_k».proof.Proof.Gen.ProjIdeal.Frame
public import proofs.«01_k».proof.Proof.Gen.ProjIdeal.Skeleton
public import proofs.«01_k».proof.Proof.Gen.ProjIdeal.Points
public import proofs.«01_k».proof.Proof.ProjIdealStep
public import Idealize.ShloMosaic.Lib.Pipeline.FrameBody
public import Idealize.ShloMosaic.Lib.Tactic
public import Idealize.ShloMosaic.Lib.WordCmp
public import Idealize.ShloMosaic.Lib.WritesUnit
public import Idealize.ShloMosaic.Lib.Pipeline.Value
public import Idealize.ShloMosaic.Lib.Pointwise.Index

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
theorem run_B (c : Dev nD) (i : grid0.Coords) (arg3 : Memref sig .tc .vmem S256x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S2x128 .f32) (harg17 : arg17.IsWhole) (arg18 : Memref sig .tc .vmem S32x2048 .f32) (harg18 : arg18.IsWhole) (arg19 : Memref sig .tc .vmem S1024x256 .bf16) (harg19 : arg19.IsWhole) (arg20 : Memref sig .tc .vmem S1024x256 .bf16) (harg20 : arg20.IsWhole) (arg21 : Memref sig .tc .vmem S1024x512 .bf16) (harg21 : arg21.IsWhole) (arg22 : Memref sig .tc .vmem S1024x128 .f32) (harg22 : arg22.IsWhole) (arg23 : Memref sig .tc .vmem S32x2048 .bf16) (harg23 : arg23.IsWhole) (arg24 : Memref sig .tc .vmem S1024x2048 .bf16) (harg24 : arg24.IsWhole) (arg25 : Memref sig .tc .vmem S1024x2048 .bf16) (harg25 : arg25.IsWhole) (arg26 : Memref sig .tc .vmem S4x2048x1024 .bf16) (harg26 : arg26.IsWhole) (hc1 : ¬(k0_cond1 i = 1#1)) (hc2 : ¬(k0_cond2 i = 1#1)) (hc3 : cond3 i = 1#1) (hc4 : k0_cond4 i = 1#1) (hc5 : ¬(k0_cond5 i = 1#1)) (hc6 : ¬(k0_cond6 i = 1#1))
    (x0 : Vec F S256x2048 .f32) (x1 : Vec F S1x1x2048 .f32) (x2 : Vec F S1x1x2048 .f32) (x3 : Vec F S1x2048 .f32) (x4 : Vec F S2048x128 .f32) (x5 : Vec F S2048x128 .f32) (x6 : Vec F S2048x128 .f32) (x7 : Vec F S2048x128 .f32) (x8 : Vec F S2048x128 .f32) (x9 : Vec F S2048x128 .f32) (x10 : Vec F S2048x128 .f32) (x11 : Vec F S2048x128 .f32) (x12 : Vec F S1x128 .f32) (x13 : Vec F S1x128 .f32) (x14 : Vec F S2x128 .f32) (x15 : Vec F S32x2048 .f32) (s0 : Vec F S1024x2048 .bf16) (s1 : Vec F S1024x2048 .bf16) (s2 : Vec F S4x2048x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare s0 ∗ owns (c : Thread nD τ) arg25 fullShare s1 ∗ owns (c : Thread nD τ) arg26 fullShare s2 ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, ⌜Row d s0 (i 2).val (k0_pay24 x0 x3 x2 x1)⌝ ∗ owns (c : Thread nD τ) arg24 fullShare d) ∗ owns (c : Thread nD τ) arg25 fullShare s1 ∗ (∃ d, ⌜Heads d s2 3 ![x9, x8, x4, x5, x11, x7, x6, x10]⌝ ∗ owns (c : Thread nD τ) arg26 fullShare d)) -∗ K ⟨⟩))
      ⊢ wp frame (wpE (defs₀ (F := F)) Variants.none c none) E (cc0_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_proj_eq_skeleton]; unfold cc0_proj_skel
  simp only [k0_part10_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, %hd16, H16⟩, ⟨%d17, %f17, %hd17, H17⟩, ⟨%d18, %f18, %hd18, H18⟩, ⟨%d19, %f19, %hd19, H19⟩, ⟨%d20, %f20, %hd20, H20⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg24.eq_unread hfs0; obtain rfl := harg25.eq_unread hfs1; obtain rfl := harg26.eq_unread hfs2
  sl_exec (disch := first | sl_exact hc1 | sl_exact hc2 | sl_exact hc3 | sl_exact hc4 | sl_exact hc5 | sl_exact hc6)
  have e0 : arg3.view.readAt (Elt F) (Rect.unit (s := S256x2048) ![0, 0] S256x2048.size inb_S256x2048_S256x2048_0_0).toLoadRect (harg3.unread x0) = x0 := (readAt_whole _ _ _ (by decide)).trans (harg3.read_unread x0)
  have e1 : arg4.view.readAt (Elt F) (Rect.unit (s := S1x1x2048) ![0, 0, 0] S1x1x2048.size inb_S1x1x2048_S1x1x2048_0_0_0).toLoadRect (harg4.unread x1) = x1 := (readAt_whole _ _ _ (by decide)).trans (harg4.read_unread x1)
  have e2 : arg5.view.readAt (Elt F) (Rect.unit (s := S1x1x2048) ![0, 0, 0] S1x1x2048.size inb_S1x1x2048_S1x1x2048_0_0_0).toLoadRect (harg5.unread x2) = x2 := (readAt_whole _ _ _ (by decide)).trans (harg5.read_unread x2)
  have e3 : arg6.view.readAt (Elt F) (Rect.unit (s := S1x2048) ![0, 0] S1x2048.size inb_S1x2048_S1x2048_0_0).toLoadRect (harg6.unread x3) = x3 := (readAt_whole _ _ _ (by decide)).trans (harg6.read_unread x3)
  have e4 : arg7.view.readAt (Elt F) (Rect.unit (s := S2048x128) ![0, 0] S2048x128.size inb_S2048x128_S2048x128_0_0).toLoadRect (harg7.unread x4) = x4 := (readAt_whole _ _ _ (by decide)).trans (harg7.read_unread x4)
  have e5 : arg8.view.readAt (Elt F) (Rect.unit (s := S2048x128) ![0, 0] S2048x128.size inb_S2048x128_S2048x128_0_0).toLoadRect (harg8.unread x5) = x5 := (readAt_whole _ _ _ (by decide)).trans (harg8.read_unread x5)
  have e6 : arg9.view.readAt (Elt F) (Rect.unit (s := S2048x128) ![0, 0] S2048x128.size inb_S2048x128_S2048x128_0_0).toLoadRect (harg9.unread x6) = x6 := (readAt_whole _ _ _ (by decide)).trans (harg9.read_unread x6)
  have e7 : arg10.view.readAt (Elt F) (Rect.unit (s := S2048x128) ![0, 0] S2048x128.size inb_S2048x128_S2048x128_0_0).toLoadRect (harg10.unread x7) = x7 := (readAt_whole _ _ _ (by decide)).trans (harg10.read_unread x7)
  have e8 : arg11.view.readAt (Elt F) (Rect.unit (s := S2048x128) ![0, 0] S2048x128.size inb_S2048x128_S2048x128_0_0).toLoadRect (harg11.unread x8) = x8 := (readAt_whole _ _ _ (by decide)).trans (harg11.read_unread x8)
  have e9 : arg12.view.readAt (Elt F) (Rect.unit (s := S2048x128) ![0, 0] S2048x128.size inb_S2048x128_S2048x128_0_0).toLoadRect (harg12.unread x9) = x9 := (readAt_whole _ _ _ (by decide)).trans (harg12.read_unread x9)
  have e10 : arg13.view.readAt (Elt F) (Rect.unit (s := S2048x128) ![0, 0] S2048x128.size inb_S2048x128_S2048x128_0_0).toLoadRect (harg13.unread x10) = x10 := (readAt_whole _ _ _ (by decide)).trans (harg13.read_unread x10)
  have e11 : arg14.view.readAt (Elt F) (Rect.unit (s := S2048x128) ![0, 0] S2048x128.size inb_S2048x128_S2048x128_0_0).toLoadRect (harg14.unread x11) = x11 := (readAt_whole _ _ _ (by decide)).trans (harg14.read_unread x11)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists d16, f16; isplitr; · ipureintro; exact hd16
    iexact H16
  isplitl [H17]
  · iexists d17, f17; isplitr; · ipureintro; exact hd17
    iexact H17
  isplitl [H18]
  · iexists d18, f18; isplitr; · ipureintro; exact hd18
    iexact H18
  isplitl [H19]
  · iexists d19, f19; isplitr; · ipureintro; exact hd19
    iexact H19
  isplitl [H20]
  · iexists d20, f20; isplitr; · ipureintro; exact hd20
    iexact H20
  isplitl [HS0]
  · iexists _; isplitr; swap
    · iexists _; isplitr; swap; · iexact HS0
      ipureintro; rfl
    · ipureintro
      (try delta run_B.sl.r); simp only [e0, e1, e2, e3, e4, e5, e6, e7, e8, e9, e10, e11, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
      have := row_of arg24.view (harg24.unread s0) (k0_off17_inb i hc4) (k0_pay24 x0 x3 x2 x1) (i 2).val (off17_eq i)
      rw [harg24.read_unread] at this; exact this
  isplitl [HS1]
  · iexists _; isplitr; · ipureintro; exact harg25.read_unread _
    iexact HS1
  · iexists _; isplitr; swap
    · iexists _; isplitr; swap; · iexact HS2
      ipureintro; rfl
    · ipureintro
      (try delta run_B.sl.HS2_9); (try delta run_B.sl.HS2_8); (try delta run_B.sl.HS2_7); (try delta run_B.sl.HS2_6); (try delta run_B.sl.HS2_5); (try delta run_B.sl.HS2_4); (try delta run_B.sl.HS2_3); (try delta run_B.sl.HS2_2); (try delta run_B.sl.HS2_1); (try delta run_B.sl.v90); (try delta run_B.sl.v89); (try delta run_B.sl.v88); (try delta run_B.sl.v87); (try delta run_B.sl.v86); (try delta run_B.sl.v85); (try delta run_B.sl.v84); (try delta run_B.sl.v83); (try delta run_B.sl.v82); (try delta run_B.sl.v81); (try delta run_B.sl.v80); (try delta run_B.sl.v79); (try delta run_B.sl.v78); (try delta run_B.sl.v77); (try delta run_B.sl.v76); (try delta run_B.sl.v75); (try delta run_B.sl.v74); (try delta run_B.sl.v73); (try delta run_B.sl.v72); (try delta run_B.sl.v71); (try delta run_B.sl.v70); (try delta run_B.sl.v69); (try delta run_B.sl.v68); (try delta run_B.sl.v67); (try delta run_B.sl.v66); (try delta run_B.sl.v65); (try delta run_B.sl.v64); (try delta run_B.sl.v63); (try delta run_B.sl.v62); (try delta run_B.sl.v61); (try delta run_B.sl.v60); (try delta run_B.sl.v59); (try delta run_B.sl.v58); (try delta run_B.sl.v57); (try delta run_B.sl.v56); (try delta run_B.sl.v55); (try delta run_B.sl.v54); (try delta run_B.sl.v53); (try delta run_B.sl.v52); (try delta run_B.sl.v51); (try delta run_B.sl.v50); (try delta run_B.sl.v49); (try delta run_B.sl.v48); (try delta run_B.sl.v47); (try delta run_B.sl.v46); (try delta run_B.sl.r); simp only [e0, e1, e2, e3, e4, e5, e6, e7, e8, e9, e10, e11, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
      have := heads_of arg26.view (harg26.unread s2) 3 x9 x8 x4 x5 x11 x7 x6 x10 inb_S4x2048x1024_S1x2048x128_3_0_0 inb_S4x2048x1024_S1x2048x128_3_0_128 inb_S4x2048x1024_S1x2048x128_3_0_256 inb_S4x2048x1024_S1x2048x128_3_0_384 inb_S4x2048x1024_S1x2048x128_3_0_512 inb_S4x2048x1024_S1x2048x128_3_0_640 inb_S4x2048x1024_S1x2048x128_3_0_768 inb_S4x2048x1024_S1x2048x128_3_0_896 rfl rfl rfl rfl rfl rfl rfl rfl
      rw [harg26.read_unread] at this; exact this

end Cert.ProjIdeal.Hand
end
-- ==== Proof.ProjIdealRunC.lean ====
module

public import proofs.«01_k».proof.Proof.Gen.ProjIdeal.Frame
public import proofs.«01_k».proof.Proof.Gen.ProjIdeal.Skeleton
public import proofs.«01_k».proof.Proof.Gen.ProjIdeal.Points
public import proofs.«01_k».proof.Proof.ProjIdealStep
public import Idealize.ShloMosaic.Lib.Pipeline.FrameBody
public import Idealize.ShloMosaic.Lib.Tactic
public import Idealize.ShloMosaic.Lib.WordCmp
public import Idealize.ShloMosaic.Lib.WritesUnit
public import Idealize.ShloMosaic.Lib.Pipeline.Value
public import Idealize.ShloMosaic.Lib.Pointwise.Index

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
theorem run_C (c : Dev nD) (i : grid0.Coords) (arg3 : Memref sig .tc .vmem S256x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S2x128 .f32) (harg17 : arg17.IsWhole) (arg18 : Memref sig .tc .vmem S32x2048 .f32) (harg18 : arg18.IsWhole) (arg19 : Memref sig .tc .vmem S1024x256 .bf16) (harg19 : arg19.IsWhole) (arg20 : Memref sig .tc .vmem S1024x256 .bf16) (harg20 : arg20.IsWhole) (arg21 : Memref sig .tc .vmem S1024x512 .bf16) (harg21 : arg21.IsWhole) (arg22 : Memref sig .tc .vmem S1024x128 .f32) (harg22 : arg22.IsWhole) (arg23 : Memref sig .tc .vmem S32x2048 .bf16) (harg23 : arg23.IsWhole) (arg24 : Memref sig .tc .vmem S1024x2048 .bf16) (harg24 : arg24.IsWhole) (arg25 : Memref sig .tc .vmem S1024x2048 .bf16) (harg25 : arg25.IsWhole) (arg26 : Memref sig .tc .vmem S4x2048x1024 .bf16) (harg26 : arg26.IsWhole) (hc1 : ¬(k0_cond1 i = 1#1)) (hc2 : ¬(k0_cond2 i = 1#1)) (hc3 : ¬(cond3 i = 1#1)) (hc4 : k0_cond4 i = 1#1) (hc5 : ¬(k0_cond5 i = 1#1)) (hc6 : ¬(k0_cond6 i = 1#1))
    (x0 : Vec F S256x2048 .f32) (x1 : Vec F S1x1x2048 .f32) (x2 : Vec F S1x1x2048 .f32) (x3 : Vec F S1x2048 .f32) (x4 : Vec F S2048x128 .f32) (x5 : Vec F S2048x128 .f32) (x6 : Vec F S2048x128 .f32) (x7 : Vec F S2048x128 .f32) (x8 : Vec F S2048x128 .f32) (x9 : Vec F S2048x128 .f32) (x10 : Vec F S2048x128 .f32) (x11 : Vec F S2048x128 .f32) (x12 : Vec F S1x128 .f32) (x13 : Vec F S1x128 .f32) (x14 : Vec F S2x128 .f32) (x15 : Vec F S32x2048 .f32) (s0 : Vec F S1024x2048 .bf16) (s1 : Vec F S1024x2048 .bf16) (s2 : Vec F S4x2048x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare s0 ∗ owns (c : Thread nD τ) arg25 fullShare s1 ∗ owns (c : Thread nD τ) arg26 fullShare s2 ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, ⌜Row d s0 (i 2).val (k0_pay24 x0 x3 x2 x1)⌝ ∗ owns (c : Thread nD τ) arg24 fullShare d) ∗ owns (c : Thread nD τ) arg25 fullShare s1 ∗ owns (c : Thread nD τ) arg26 fullShare s2) -∗ K ⟨⟩))
      ⊢ wp frame (wpE (defs₀ (F := F)) Variants.none c none) E (cc0_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_proj_eq_skeleton]; unfold cc0_proj_skel
  simp only [k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, %hd16, H16⟩, ⟨%d17, %f17, %hd17, H17⟩, ⟨%d18, %f18, %hd18, H18⟩, ⟨%d19, %f19, %hd19, H19⟩, ⟨%d20, %f20, %hd20, H20⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg24.eq_unread hfs0; obtain rfl := harg25.eq_unread hfs1; obtain rfl := harg26.eq_unread hfs2
  sl_exec (disch := first | sl_exact hc1 | sl_exact hc2 | sl_exact hc3 | sl_exact hc4 | sl_exact hc5 | sl_exact hc6)
  have e0 : arg3.view.readAt (Elt F) (Rect.unit (s := S256x2048) ![0, 0] S256x2048.size inb_S256x2048_S256x2048_0_0).toLoadRect (harg3.unread x0) = x0 := (readAt_whole _ _ _ (by decide)).trans (harg3.read_unread x0)
  have e1 : arg4.view.readAt (Elt F) (Rect.unit (s := S1x1x2048) ![0, 0, 0] S1x1x2048.size inb_S1x1x2048_S1x1x2048_0_0_0).toLoadRect (harg4.unread x1) = x1 := (readAt_whole _ _ _ (by decide)).trans (harg4.read_unread x1)
  have e2 : arg5.view.readAt (Elt F) (Rect.unit (s := S1x1x2048) ![0, 0, 0] S1x1x2048.size inb_S1x1x2048_S1x1x2048_0_0_0).toLoadRect (harg5.unread x2) = x2 := (readAt_whole _ _ _ (by decide)).trans (harg5.read_unread x2)
  have e3 : arg6.view.readAt (Elt F) (Rect.unit (s := S1x2048) ![0, 0] S1x2048.size inb_S1x2048_S1x2048_0_0).toLoadRect (harg6.unread x3) = x3 := (readAt_whole _ _ _ (by decide)).trans (harg6.read_unread x3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists d16, f16; isplitr; · ipureintro; exact hd16
    iexact H16
  isplitl [H17]
  · iexists d17, f17; isplitr; · ipureintro; exact hd17
    iexact H17
  isplitl [H18]
  · iexists d18, f18; isplitr; · ipureintro; exact hd18
    iexact H18
  isplitl [H19]
  · iexists d19, f19; isplitr; · ipureintro; exact hd19
    iexact H19
  isplitl [H20]
  · iexists d20, f20; isplitr; · ipureintro; exact hd20
    iexact H20
  isplitl [HS0]
  · iexists _; isplitr; swap
    · iexists _; isplitr; swap; · iexact HS0
      ipureintro; rfl
    · ipureintro
      simp only [e0, e1, e2, e3, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
      have := row_of arg24.view (harg24.unread s0) (k0_off17_inb i hc4) (k0_pay24 x0 x3 x2 x1) (i 2).val (off17_eq i)
      rw [harg24.read_unread] at this; exact this
  isplitl [HS1]
  · iexists _; isplitr; · ipureintro; exact harg25.read_unread _
    iexact HS1
  · iexists _; isplitr; · ipureintro; exact harg26.read_unread _
    iexact HS2

end Cert.ProjIdeal.Hand
end
-- ==== Proof.ProjIdealRunD.lean ====
module

public import proofs.«01_k».proof.Proof.Gen.ProjIdeal.Frame
public import proofs.«01_k».proof.Proof.Gen.ProjIdeal.Skeleton
public import proofs.«01_k».proof.Proof.Gen.ProjIdeal.Points
public import proofs.«01_k».proof.Proof.ProjIdealStep
public import Idealize.ShloMosaic.Lib.Pipeline.FrameBody
public import Idealize.ShloMosaic.Lib.Tactic
public import Idealize.ShloMosaic.Lib.WordCmp
public import Idealize.ShloMosaic.Lib.WritesUnit
public import Idealize.ShloMosaic.Lib.Pipeline.Value
public import Idealize.ShloMosaic.Lib.Pointwise.Index

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
theorem run_D (c : Dev nD) (i : grid0.Coords) (arg3 : Memref sig .tc .vmem S256x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S2x128 .f32) (harg17 : arg17.IsWhole) (arg18 : Memref sig .tc .vmem S32x2048 .f32) (harg18 : arg18.IsWhole) (arg19 : Memref sig .tc .vmem S1024x256 .bf16) (harg19 : arg19.IsWhole) (arg20 : Memref sig .tc .vmem S1024x256 .bf16) (harg20 : arg20.IsWhole) (arg21 : Memref sig .tc .vmem S1024x512 .bf16) (harg21 : arg21.IsWhole) (arg22 : Memref sig .tc .vmem S1024x128 .f32) (harg22 : arg22.IsWhole) (arg23 : Memref sig .tc .vmem S32x2048 .bf16) (harg23 : arg23.IsWhole) (arg24 : Memref sig .tc .vmem S1024x2048 .bf16) (harg24 : arg24.IsWhole) (arg25 : Memref sig .tc .vmem S1024x2048 .bf16) (harg25 : arg25.IsWhole) (arg26 : Memref sig .tc .vmem S4x2048x1024 .bf16) (harg26 : arg26.IsWhole) (hc1 : ¬(k0_cond1 i = 1#1)) (hc2 : ¬(k0_cond2 i = 1#1)) (hc3 : ¬(cond3 i = 1#1)) (hc4 : ¬(k0_cond4 i = 1#1)) (hc5 : k0_cond5 i = 1#1) (hc6 : ¬(k0_cond6 i = 1#1))
    (x0 : Vec F S256x2048 .f32) (x1 : Vec F S1x1x2048 .f32) (x2 : Vec F S1x1x2048 .f32) (x3 : Vec F S1x2048 .f32) (x4 : Vec F S2048x128 .f32) (x5 : Vec F S2048x128 .f32) (x6 : Vec F S2048x128 .f32) (x7 : Vec F S2048x128 .f32) (x8 : Vec F S2048x128 .f32) (x9 : Vec F S2048x128 .f32) (x10 : Vec F S2048x128 .f32) (x11 : Vec F S2048x128 .f32) (x12 : Vec F S1x128 .f32) (x13 : Vec F S1x128 .f32) (x14 : Vec F S2x128 .f32) (x15 : Vec F S32x2048 .f32) (s0 : Vec F S1024x2048 .bf16) (s1 : Vec F S1024x2048 .bf16) (s2 : Vec F S4x2048x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare s0 ∗ owns (c : Thread nD τ) arg25 fullShare s1 ∗ owns (c : Thread nD τ) arg26 fullShare s2 ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare (qzOut s0 (k0_pay26 (slot s2 (i 2))) x12) ∗ owns (c : Thread nD τ) arg20 fullShare (kvOut s0 (k0_pay26 (slot s2 (i 2))) x13) ∗ owns (c : Thread nD τ) arg21 fullShare (hgpOut s0 (k0_pay26 (slot s2 (i 2))) x14) ∗ owns (c : Thread nD τ) arg22 fullShare (k0_pay30 s0 (k0_pay26 (slot s2 (i 2))) x14) ∗ owns (c : Thread nD τ) arg23 fullShare (k0_pay25 x15) ∗ owns (c : Thread nD τ) arg24 fullShare s0 ∗ (∃ d, ⌜Row d s1 (i 2).val (k0_pay24 x0 x3 x2 x1)⌝ ∗ owns (c : Thread nD τ) arg25 fullShare d) ∗ owns (c : Thread nD τ) arg26 fullShare s2) -∗ K ⟨⟩))
      ⊢ wp frame (wpE (defs₀ (F := F)) Variants.none c none) E (cc0_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_proj_eq_skeleton]; unfold cc0_proj_skel
  simp only [k0_part10_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, %hd16, H16⟩, ⟨%d17, %f17, %hd17, H17⟩, ⟨%d18, %f18, %hd18, H18⟩, ⟨%d19, %f19, %hd19, H19⟩, ⟨%d20, %f20, %hd20, H20⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg24.eq_unread hfs0; obtain rfl := harg25.eq_unread hfs1; obtain rfl := harg26.eq_unread hfs2
  sl_exec (disch := first | sl_exact hc1 | sl_exact hc2 | sl_exact hc3 | sl_exact hc4 | sl_exact hc5 | sl_exact hc6)
  have e0 : arg3.view.readAt (Elt F) (Rect.unit (s := S256x2048) ![0, 0] S256x2048.size inb_S256x2048_S256x2048_0_0).toLoadRect (harg3.unread x0) = x0 := (readAt_whole _ _ _ (by decide)).trans (harg3.read_unread x0)
  have e1 : arg4.view.readAt (Elt F) (Rect.unit (s := S1x1x2048) ![0, 0, 0] S1x1x2048.size inb_S1x1x2048_S1x1x2048_0_0_0).toLoadRect (harg4.unread x1) = x1 := (readAt_whole _ _ _ (by decide)).trans (harg4.read_unread x1)
  have e2 : arg5.view.readAt (Elt F) (Rect.unit (s := S1x1x2048) ![0, 0, 0] S1x1x2048.size inb_S1x1x2048_S1x1x2048_0_0_0).toLoadRect (harg5.unread x2) = x2 := (readAt_whole _ _ _ (by decide)).trans (harg5.read_unread x2)
  have e3 : arg6.view.readAt (Elt F) (Rect.unit (s := S1x2048) ![0, 0] S1x2048.size inb_S1x2048_S1x2048_0_0).toLoadRect (harg6.unread x3) = x3 := (readAt_whole _ _ _ (by decide)).trans (harg6.read_unread x3)
  have e12 : arg15.view.readAt (Elt F) (Rect.unit (s := S1x128) ![0, 0] S1x128.size inb_S1x128_S1x128_0_0).toLoadRect (harg15.unread x12) = x12 := (readAt_whole _ _ _ (by decide)).trans (harg15.read_unread x12)
  have e13 : arg16.view.readAt (Elt F) (Rect.unit (s := S1x128) ![0, 0] S1x128.size inb_S1x128_S1x128_0_0).toLoadRect (harg16.unread x13) = x13 := (readAt_whole _ _ _ (by decide)).trans (harg16.read_unread x13)
  have e14 : arg17.view.readAt (Elt F) (Rect.unit (s := S2x128) ![0, 0] S2x128.size inb_S2x128_S2x128_0_0).toLoadRect (harg17.unread x14) = x14 := (readAt_whole _ _ _ (by decide)).trans (harg17.read_unread x14)
  have e15 : arg18.view.readAt (Elt F) (Rect.unit (s := S32x2048) ![0, 0] S32x2048.size inb_S32x2048_S32x2048_0_0).toLoadRect (harg18.unread x15) = x15 := (readAt_whole _ _ _ (by decide)).trans (harg18.read_unread x15)
  have e100 : arg24.view.readAt (Elt F) (Rect.unit (s := S1024x2048) ![0, 0] S1024x2048.size inb_S1024x2048_S1024x2048_0_0).toLoadRect (harg24.unread s0) = s0 := (readAt_whole _ _ _ (by decide)).trans (harg24.read_unread s0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; swap; · iexact H16
    ipureintro
    (try delta run_D.sl.r_10); (try delta run_D.sl.r_9); (try delta run_D.sl.r_8); (try delta run_D.sl.r_7); (try delta run_D.sl.r_6); (try delta run_D.sl.r_5); (try delta run_D.sl.r_4); (try delta run_D.sl.r_3); (try delta run_D.sl.r_2); (try delta run_D.sl.r_1); (try delta run_D.sl.r); simp only [e0, e1, e2, e3, e12, e13, e14, e15, e100, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
    try simp only [View.readAt_eq_ld, ld_slot _ _ (i 2) (off19_eq i), harg24.read_unread, harg25.read_unread, harg26.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    exact qz_of arg19.view f16 s0 (k0_pay26 (slot s2 (i 2))) x12
  isplitl [H17]
  · iexists _; isplitr; swap; · iexact H17
    ipureintro
    (try delta run_D.sl.r_10); (try delta run_D.sl.r_9); (try delta run_D.sl.r_8); (try delta run_D.sl.r_7); (try delta run_D.sl.r_6); (try delta run_D.sl.r_5); (try delta run_D.sl.r_4); (try delta run_D.sl.r_3); (try delta run_D.sl.r_2); (try delta run_D.sl.r_1); (try delta run_D.sl.r); simp only [e0, e1, e2, e3, e12, e13, e14, e15, e100, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
    try simp only [View.readAt_eq_ld, ld_slot _ _ (i 2) (off19_eq i), harg24.read_unread, harg25.read_unread, harg26.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    exact kv_of arg20.view f17 s0 (k0_pay26 (slot s2 (i 2))) x13
  isplitl [H18]
  · iexists _; isplitr; swap; · iexact H18
    ipureintro
    (try delta run_D.sl.r_10); (try delta run_D.sl.r_9); (try delta run_D.sl.r_8); (try delta run_D.sl.r_7); (try delta run_D.sl.r_6); (try delta run_D.sl.r_5); (try delta run_D.sl.r_4); (try delta run_D.sl.r_3); (try delta run_D.sl.r_2); (try delta run_D.sl.r_1); (try delta run_D.sl.r); simp only [e0, e1, e2, e3, e12, e13, e14, e15, e100, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
    try simp only [View.readAt_eq_ld, ld_slot _ _ (i 2) (off19_eq i), harg24.read_unread, harg25.read_unread, harg26.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    exact hgp_of arg21.view f18 s0 (k0_pay26 (slot s2 (i 2))) x14
  isplitl [H19]
  · iexists _; isplitr; swap; · iexact H19
    ipureintro
    (try delta run_D.sl.r_10); (try delta run_D.sl.r_9); (try delta run_D.sl.r_8); (try delta run_D.sl.r_7); (try delta run_D.sl.r_6); (try delta run_D.sl.r_5); (try delta run_D.sl.r_4); (try delta run_D.sl.r_3); (try delta run_D.sl.r_2); (try delta run_D.sl.r_1); (try delta run_D.sl.r); simp only [e0, e1, e2, e3, e12, e13, e14, e15, e100, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
    try simp only [View.readAt_eq_ld, ld_slot _ _ (i 2) (off19_eq i), harg24.read_unread, harg25.read_unread, harg26.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    exact whole_of arg22.view f19 inb_S1024x128_S1024x128_0_0 _ (by decide)
  isplitl [H20]
  · iexists _; isplitr; swap; · iexact H20
    ipureintro
    (try delta run_D.sl.r_10); (try delta run_D.sl.r_9); (try delta run_D.sl.r_8); (try delta run_D.sl.r_7); (try delta run_D.sl.r_6); (try delta run_D.sl.r_5); (try delta run_D.sl.r_4); (try delta run_D.sl.r_3); (try delta run_D.sl.r_2); (try delta run_D.sl.r_1); (try delta run_D.sl.r); simp only [e0, e1, e2, e3, e12, e13, e14, e15, e100, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
    try simp only [View.readAt_eq_ld, ld_slot _ _ (i 2) (off19_eq i), harg24.read_unread, harg25.read_unread, harg26.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    exact whole_of arg23.view f20 inb_S32x2048_S32x2048_0_0 _ (by decide)
  isplitl [HS0]
  · iexists _; isplitr; · ipureintro; exact harg24.read_unread _
    iexact HS0
  isplitl [HS1]
  · iexists _; isplitr; swap
    · iexists _; isplitr; swap; · iexact HS1
      ipureintro; rfl
    · ipureintro
      (try delta run_D.sl.r_10); (try delta run_D.sl.r_9); (try delta run_D.sl.r_8); (try delta run_D.sl.r_7); (try delta run_D.sl.r_6); (try delta run_D.sl.r_5); (try delta run_D.sl.r_4); (try delta run_D.sl.r_3); (try delta run_D.sl.r_2); (try delta run_D.sl.r_1); (try delta run_D.sl.r); simp only [e0, e1, e2, e3, e12, e13, e14, e15, e100, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
      have := row_of arg25.view (harg25.unread s1) (k0_off18_inb i hc5) (k0_pay24 x0 x3 x2 x1) (i 2).val (off18_eq i)
      rw [harg25.read_unread] at this; exact this
  · iexists _; isplitr; · ipureintro; exact harg26.read_unread _
    iexact HS2

end Cert.ProjIdeal.Hand
end
-- ==== Proof.ProjIdealRunE.lean ====
module

public import proofs.«01_k».proof.Proof.Gen.ProjIdeal.Frame
public import proofs.«01_k».proof.Proof.Gen.ProjIdeal.Skeleton
public import proofs.«01_k».proof.Proof.Gen.ProjIdeal.Points
public import proofs.«01_k».proof.Proof.ProjIdealStep
public import Idealize.ShloMosaic.Lib.Pipeline.FrameBody
public import Idealize.ShloMosaic.Lib.Tactic
public import Idealize.ShloMosaic.Lib.WordCmp
public import Idealize.ShloMosaic.Lib.WritesUnit
public import Idealize.ShloMosaic.Lib.Pipeline.Value
public import Idealize.ShloMosaic.Lib.Pointwise.Index

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
theorem run_E (c : Dev nD) (i : grid0.Coords) (arg3 : Memref sig .tc .vmem S256x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S2x128 .f32) (harg17 : arg17.IsWhole) (arg18 : Memref sig .tc .vmem S32x2048 .f32) (harg18 : arg18.IsWhole) (arg19 : Memref sig .tc .vmem S1024x256 .bf16) (harg19 : arg19.IsWhole) (arg20 : Memref sig .tc .vmem S1024x256 .bf16) (harg20 : arg20.IsWhole) (arg21 : Memref sig .tc .vmem S1024x512 .bf16) (harg21 : arg21.IsWhole) (arg22 : Memref sig .tc .vmem S1024x128 .f32) (harg22 : arg22.IsWhole) (arg23 : Memref sig .tc .vmem S32x2048 .bf16) (harg23 : arg23.IsWhole) (arg24 : Memref sig .tc .vmem S1024x2048 .bf16) (harg24 : arg24.IsWhole) (arg25 : Memref sig .tc .vmem S1024x2048 .bf16) (harg25 : arg25.IsWhole) (arg26 : Memref sig .tc .vmem S4x2048x1024 .bf16) (harg26 : arg26.IsWhole) (hc1 : ¬(k0_cond1 i = 1#1)) (hc2 : ¬(k0_cond2 i = 1#1)) (hc3 : ¬(cond3 i = 1#1)) (hc4 : ¬(k0_cond4 i = 1#1)) (hc5 : ¬(k0_cond5 i = 1#1)) (hc6 : k0_cond6 i = 1#1)
    (x0 : Vec F S256x2048 .f32) (x1 : Vec F S1x1x2048 .f32) (x2 : Vec F S1x1x2048 .f32) (x3 : Vec F S1x2048 .f32) (x4 : Vec F S2048x128 .f32) (x5 : Vec F S2048x128 .f32) (x6 : Vec F S2048x128 .f32) (x7 : Vec F S2048x128 .f32) (x8 : Vec F S2048x128 .f32) (x9 : Vec F S2048x128 .f32) (x10 : Vec F S2048x128 .f32) (x11 : Vec F S2048x128 .f32) (x12 : Vec F S1x128 .f32) (x13 : Vec F S1x128 .f32) (x14 : Vec F S2x128 .f32) (x15 : Vec F S32x2048 .f32) (s0 : Vec F S1024x2048 .bf16) (s1 : Vec F S1024x2048 .bf16) (s2 : Vec F S4x2048x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare s0 ∗ owns (c : Thread nD τ) arg25 fullShare s1 ∗ owns (c : Thread nD τ) arg26 fullShare s2 ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare (qzOut s1 (k0_pay26 (slot s2 (i 2))) x12) ∗ owns (c : Thread nD τ) arg20 fullShare (kvOut s1 (k0_pay26 (slot s2 (i 2))) x13) ∗ owns (c : Thread nD τ) arg21 fullShare (hgpOut s1 (k0_pay26 (slot s2 (i 2))) x14) ∗ owns (c : Thread nD τ) arg22 fullShare (k0_pay30 s1 (k0_pay26 (slot s2 (i 2))) x14) ∗ owns (c : Thread nD τ) arg23 fullShare (k0_pay25 x15) ∗ (∃ d, ⌜Row d s0 (i 2).val (k0_pay24 x0 x3 x2 x1)⌝ ∗ owns (c : Thread nD τ) arg24 fullShare d) ∗ owns (c : Thread nD τ) arg25 fullShare s1 ∗ owns (c : Thread nD τ) arg26 fullShare s2) -∗ K ⟨⟩))
      ⊢ wp frame (wpE (defs₀ (F := F)) Variants.none c none) E (cc0_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_proj_eq_skeleton]; unfold cc0_proj_skel
  simp only [k0_part10_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, %hd16, H16⟩, ⟨%d17, %f17, %hd17, H17⟩, ⟨%d18, %f18, %hd18, H18⟩, ⟨%d19, %f19, %hd19, H19⟩, ⟨%d20, %f20, %hd20, H20⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg24.eq_unread hfs0; obtain rfl := harg25.eq_unread hfs1; obtain rfl := harg26.eq_unread hfs2
  sl_exec (disch := first | sl_exact hc1 | sl_exact hc2 | sl_exact hc3 | sl_exact hc4 | sl_exact hc5 | sl_exact hc6)
  have e0 : arg3.view.readAt (Elt F) (Rect.unit (s := S256x2048) ![0, 0] S256x2048.size inb_S256x2048_S256x2048_0_0).toLoadRect (harg3.unread x0) = x0 := (readAt_whole _ _ _ (by decide)).trans (harg3.read_unread x0)
  have e1 : arg4.view.readAt (Elt F) (Rect.unit (s := S1x1x2048) ![0, 0, 0] S1x1x2048.size inb_S1x1x2048_S1x1x2048_0_0_0).toLoadRect (harg4.unread x1) = x1 := (readAt_whole _ _ _ (by decide)).trans (harg4.read_unread x1)
  have e2 : arg5.view.readAt (Elt F) (Rect.unit (s := S1x1x2048) ![0, 0, 0] S1x1x2048.size inb_S1x1x2048_S1x1x2048_0_0_0).toLoadRect (harg5.unread x2) = x2 := (readAt_whole _ _ _ (by decide)).trans (harg5.read_unread x2)
  have e3 : arg6.view.readAt (Elt F) (Rect.unit (s := S1x2048) ![0, 0] S1x2048.size inb_S1x2048_S1x2048_0_0).toLoadRect (harg6.unread x3) = x3 := (readAt_whole _ _ _ (by decide)).trans (harg6.read_unread x3)
  have e12 : arg15.view.readAt (Elt F) (Rect.unit (s := S1x128) ![0, 0] S1x128.size inb_S1x128_S1x128_0_0).toLoadRect (harg15.unread x12) = x12 := (readAt_whole _ _ _ (by decide)).trans (harg15.read_unread x12)
  have e13 : arg16.view.readAt (Elt F) (Rect.unit (s := S1x128) ![0, 0] S1x128.size inb_S1x128_S1x128_0_0).toLoadRect (harg16.unread x13) = x13 := (readAt_whole _ _ _ (by decide)).trans (harg16.read_unread x13)
  have e14 : arg17.view.readAt (Elt F) (Rect.unit (s := S2x128) ![0, 0] S2x128.size inb_S2x128_S2x128_0_0).toLoadRect (harg17.unread x14) = x14 := (readAt_whole _ _ _ (by decide)).trans (harg17.read_unread x14)
  have e15 : arg18.view.readAt (Elt F) (Rect.unit (s := S32x2048) ![0, 0] S32x2048.size inb_S32x2048_S32x2048_0_0).toLoadRect (harg18.unread x15) = x15 := (readAt_whole _ _ _ (by decide)).trans (harg18.read_unread x15)
  have e101 : arg25.view.readAt (Elt F) (Rect.unit (s := S1024x2048) ![0, 0] S1024x2048.size inb_S1024x2048_S1024x2048_0_0).toLoadRect (harg25.unread s1) = s1 := (readAt_whole _ _ _ (by decide)).trans (harg25.read_unread s1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; swap; · iexact H16
    ipureintro
    (try delta run_E.sl.r_10); (try delta run_E.sl.r_9); (try delta run_E.sl.r_8); (try delta run_E.sl.r_7); (try delta run_E.sl.r_6); (try delta run_E.sl.r_5); (try delta run_E.sl.r_4); (try delta run_E.sl.r_3); (try delta run_E.sl.r_2); (try delta run_E.sl.r_1); (try delta run_E.sl.r); simp only [e0, e1, e2, e3, e12, e13, e14, e15, e101, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
    try simp only [View.readAt_eq_ld, ld_slot _ _ (i 2) (off21_eq i), harg24.read_unread, harg25.read_unread, harg26.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    exact qz_of arg19.view f16 s1 (k0_pay26 (slot s2 (i 2))) x12
  isplitl [H17]
  · iexists _; isplitr; swap; · iexact H17
    ipureintro
    (try delta run_E.sl.r_10); (try delta run_E.sl.r_9); (try delta run_E.sl.r_8); (try delta run_E.sl.r_7); (try delta run_E.sl.r_6); (try delta run_E.sl.r_5); (try delta run_E.sl.r_4); (try delta run_E.sl.r_3); (try delta run_E.sl.r_2); (try delta run_E.sl.r_1); (try delta run_E.sl.r); simp only [e0, e1, e2, e3, e12, e13, e14, e15, e101, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
    try simp only [View.readAt_eq_ld, ld_slot _ _ (i 2) (off21_eq i), harg24.read_unread, harg25.read_unread, harg26.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    exact kv_of arg20.view f17 s1 (k0_pay26 (slot s2 (i 2))) x13
  isplitl [H18]
  · iexists _; isplitr; swap; · iexact H18
    ipureintro
    (try delta run_E.sl.r_10); (try delta run_E.sl.r_9); (try delta run_E.sl.r_8); (try delta run_E.sl.r_7); (try delta run_E.sl.r_6); (try delta run_E.sl.r_5); (try delta run_E.sl.r_4); (try delta run_E.sl.r_3); (try delta run_E.sl.r_2); (try delta run_E.sl.r_1); (try delta run_E.sl.r); simp only [e0, e1, e2, e3, e12, e13, e14, e15, e101, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
    try simp only [View.readAt_eq_ld, ld_slot _ _ (i 2) (off21_eq i), harg24.read_unread, harg25.read_unread, harg26.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    exact hgp_of arg21.view f18 s1 (k0_pay26 (slot s2 (i 2))) x14
  isplitl [H19]
  · iexists _; isplitr; swap; · iexact H19
    ipureintro
    (try delta run_E.sl.r_10); (try delta run_E.sl.r_9); (try delta run_E.sl.r_8); (try delta run_E.sl.r_7); (try delta run_E.sl.r_6); (try delta run_E.sl.r_5); (try delta run_E.sl.r_4); (try delta run_E.sl.r_3); (try delta run_E.sl.r_2); (try delta run_E.sl.r_1); (try delta run_E.sl.r); simp only [e0, e1, e2, e3, e12, e13, e14, e15, e101, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
    try simp only [View.readAt_eq_ld, ld_slot _ _ (i 2) (off21_eq i), harg24.read_unread, harg25.read_unread, harg26.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    exact whole_of arg22.view f19 inb_S1024x128_S1024x128_0_0 _ (by decide)
  isplitl [H20]
  · iexists _; isplitr; swap; · iexact H20
    ipureintro
    (try delta run_E.sl.r_10); (try delta run_E.sl.r_9); (try delta run_E.sl.r_8); (try delta run_E.sl.r_7); (try delta run_E.sl.r_6); (try delta run_E.sl.r_5); (try delta run_E.sl.r_4); (try delta run_E.sl.r_3); (try delta run_E.sl.r_2); (try delta run_E.sl.r_1); (try delta run_E.sl.r); simp only [e0, e1, e2, e3, e12, e13, e14, e15, e101, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
    try simp only [View.readAt_eq_ld, ld_slot _ _ (i 2) (off21_eq i), harg24.read_unread, harg25.read_unread, harg26.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    exact whole_of arg23.view f20 inb_S32x2048_S32x2048_0_0 _ (by decide)
  isplitl [HS0]
  · iexists _; isplitr; swap
    · iexists _; isplitr; swap; · iexact HS0
      ipureintro; rfl
    · ipureintro
      (try delta run_E.sl.r_10); (try delta run_E.sl.r_9); (try delta run_E.sl.r_8); (try delta run_E.sl.r_7); (try delta run_E.sl.r_6); (try delta run_E.sl.r_5); (try delta run_E.sl.r_4); (try delta run_E.sl.r_3); (try delta run_E.sl.r_2); (try delta run_E.sl.r_1); (try delta run_E.sl.r); simp only [e0, e1, e2, e3, e12, e13, e14, e15, e101, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
      have := row_of arg24.view (harg24.unread s0) (k0_off20_inb i hc6) (k0_pay24 x0 x3 x2 x1) (i 2).val (off20_eq i)
      rw [harg24.read_unread] at this; exact this
  isplitl [HS1]
  · iexists _; isplitr; · ipureintro; exact harg25.read_unread _
    iexact HS1
  · iexists _; isplitr; · ipureintro; exact harg26.read_unread _
    iexact HS2

end Cert.ProjIdeal.Hand
end
-- ==== Proof.ProjIdealRunG.lean ====
module

public import proofs.«01_k».proof.Proof.Gen.ProjIdeal.Frame
public import proofs.«01_k».proof.Proof.Gen.ProjIdeal.Skeleton
public import proofs.«01_k».proof.Proof.Gen.ProjIdeal.Points
public import proofs.«01_k».proof.Proof.ProjIdealStep
public import Idealize.ShloMosaic.Lib.Pipeline.FrameBody
public import Idealize.ShloMosaic.Lib.Tactic
public import Idealize.ShloMosaic.Lib.WordCmp
public import Idealize.ShloMosaic.Lib.WritesUnit
public import Idealize.ShloMosaic.Lib.Pipeline.Value
public import Idealize.ShloMosaic.Lib.Pointwise.Index

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
theorem run_G (c : Dev nD) (i : grid0.Coords) (arg3 : Memref sig .tc .vmem S256x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S2048x128 .f32) (harg13 : arg13.IsWhole) (arg14 : Memref sig .tc .vmem S2048x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S2x128 .f32) (harg17 : arg17.IsWhole) (arg18 : Memref sig .tc .vmem S32x2048 .f32) (harg18 : arg18.IsWhole) (arg19 : Memref sig .tc .vmem S1024x256 .bf16) (harg19 : arg19.IsWhole) (arg20 : Memref sig .tc .vmem S1024x256 .bf16) (harg20 : arg20.IsWhole) (arg21 : Memref sig .tc .vmem S1024x512 .bf16) (harg21 : arg21.IsWhole) (arg22 : Memref sig .tc .vmem S1024x128 .f32) (harg22 : arg22.IsWhole) (arg23 : Memref sig .tc .vmem S32x2048 .bf16) (harg23 : arg23.IsWhole) (arg24 : Memref sig .tc .vmem S1024x2048 .bf16) (harg24 : arg24.IsWhole) (arg25 : Memref sig .tc .vmem S1024x2048 .bf16) (harg25 : arg25.IsWhole) (arg26 : Memref sig .tc .vmem S4x2048x1024 .bf16) (harg26 : arg26.IsWhole) (hc1 : ¬(k0_cond1 i = 1#1)) (hc2 : k0_cond2 i = 1#1) (hc3 : ¬(cond3 i = 1#1)) (hc4 : ¬(k0_cond4 i = 1#1)) (hc5 : ¬(k0_cond5 i = 1#1)) (hc6 : k0_cond6 i = 1#1)
    (x0 : Vec F S256x2048 .f32) (x1 : Vec F S1x1x2048 .f32) (x2 : Vec F S1x1x2048 .f32) (x3 : Vec F S1x2048 .f32) (x4 : Vec F S2048x128 .f32) (x5 : Vec F S2048x128 .f32) (x6 : Vec F S2048x128 .f32) (x7 : Vec F S2048x128 .f32) (x8 : Vec F S2048x128 .f32) (x9 : Vec F S2048x128 .f32) (x10 : Vec F S2048x128 .f32) (x11 : Vec F S2048x128 .f32) (x12 : Vec F S1x128 .f32) (x13 : Vec F S1x128 .f32) (x14 : Vec F S2x128 .f32) (x15 : Vec F S32x2048 .f32) (s0 : Vec F S1024x2048 .bf16) (s1 : Vec F S1024x2048 .bf16) (s2 : Vec F S4x2048x1024 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare s0 ∗ owns (c : Thread nD τ) arg25 fullShare s1 ∗ owns (c : Thread nD τ) arg26 fullShare s2 ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ W, owns (c : Thread nD τ) arg26 fullShare W ∗ ⌜Heads W s2 ((i 2).val - 1) ![x9, x8, x4, x5, x11, x7, x6, x10]⌝ ∗ owns (c : Thread nD τ) arg19 fullShare (qzOut s1 (k0_pay26 (slot W (i 2))) x12) ∗ owns (c : Thread nD τ) arg20 fullShare (kvOut s1 (k0_pay26 (slot W (i 2))) x13) ∗ owns (c : Thread nD τ) arg21 fullShare (hgpOut s1 (k0_pay26 (slot W (i 2))) x14) ∗ owns (c : Thread nD τ) arg22 fullShare (k0_pay30 s1 (k0_pay26 (slot W (i 2))) x14) ∗ owns (c : Thread nD τ) arg23 fullShare (k0_pay25 x15) ∗ (∃ d, ⌜Row d s0 (i 2).val (k0_pay24 x0 x3 x2 x1)⌝ ∗ owns (c : Thread nD τ) arg24 fullShare d) ∗ owns (c : Thread nD τ) arg25 fullShare s1)) -∗ K ⟨⟩))
      ⊢ wp frame (wpE (defs₀ (F := F)) Variants.none c none) E (cc0_proj i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_proj_eq_skeleton]; unfold cc0_proj_skel
  simp only [k0_part10_eq_skeleton, k0_part2_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, %hd16, H16⟩, ⟨%d17, %f17, %hd17, H17⟩, ⟨%d18, %f18, %hd18, H18⟩, ⟨%d19, %f19, %hd19, H19⟩, ⟨%d20, %f20, %hd20, H20⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg24.eq_unread hfs0; obtain rfl := harg25.eq_unread hfs1; obtain rfl := harg26.eq_unread hfs2
  sl_exec (disch := first | sl_exact hc1 | sl_exact hc2 | sl_exact hc3 | sl_exact hc4 | sl_exact hc5 | sl_exact hc6)
  have e0 : arg3.view.readAt (Elt F) (Rect.unit (s := S256x2048) ![0, 0] S256x2048.size inb_S256x2048_S256x2048_0_0).toLoadRect (harg3.unread x0) = x0 := (readAt_whole _ _ _ (by decide)).trans (harg3.read_unread x0)
  have e1 : arg4.view.readAt (Elt F) (Rect.unit (s := S1x1x2048) ![0, 0, 0] S1x1x2048.size inb_S1x1x2048_S1x1x2048_0_0_0).toLoadRect (harg4.unread x1) = x1 := (readAt_whole _ _ _ (by decide)).trans (harg4.read_unread x1)
  have e2 : arg5.view.readAt (Elt F) (Rect.unit (s := S1x1x2048) ![0, 0, 0] S1x1x2048.size inb_S1x1x2048_S1x1x2048_0_0_0).toLoadRect (harg5.unread x2) = x2 := (readAt_whole _ _ _ (by decide)).trans (harg5.read_unread x2)
  have e3 : arg6.view.readAt (Elt F) (Rect.unit (s := S1x2048) ![0, 0] S1x2048.size inb_S1x2048_S1x2048_0_0).toLoadRect (harg6.unread x3) = x3 := (readAt_whole _ _ _ (by decide)).trans (harg6.read_unread x3)
  have e4 : arg7.view.readAt (Elt F) (Rect.unit (s := S2048x128) ![0, 0] S2048x128.size inb_S2048x128_S2048x128_0_0).toLoadRect (harg7.unread x4) = x4 := (readAt_whole _ _ _ (by decide)).trans (harg7.read_unread x4)
  have e5 : arg8.view.readAt (Elt F) (Rect.unit (s := S2048x128) ![0, 0] S2048x128.size inb_S2048x128_S2048x128_0_0).toLoadRect (harg8.unread x5) = x5 := (readAt_whole _ _ _ (by decide)).trans (harg8.read_unread x5)
  have e6 : arg9.view.readAt (Elt F) (Rect.unit (s := S2048x128) ![0, 0] S2048x128.size inb_S2048x128_S2048x128_0_0).toLoadRect (harg9.unread x6) = x6 := (readAt_whole _ _ _ (by decide)).trans (harg9.read_unread x6)
  have e7 : arg10.view.readAt (Elt F) (Rect.unit (s := S2048x128) ![0, 0] S2048x128.size inb_S2048x128_S2048x128_0_0).toLoadRect (harg10.unread x7) = x7 := (readAt_whole _ _ _ (by decide)).trans (harg10.read_unread x7)
  have e8 : arg11.view.readAt (Elt F) (Rect.unit (s := S2048x128) ![0, 0] S2048x128.size inb_S2048x128_S2048x128_0_0).toLoadRect (harg11.unread x8) = x8 := (readAt_whole _ _ _ (by decide)).trans (harg11.read_unread x8)
  have e9 : arg12.view.readAt (Elt F) (Rect.unit (s := S2048x128) ![0, 0] S2048x128.size inb_S2048x128_S2048x128_0_0).toLoadRect (harg12.unread x9) = x9 := (readAt_whole _ _ _ (by decide)).trans (harg12.read_unread x9)
  have e10 : arg13.view.readAt (Elt F) (Rect.unit (s := S2048x128) ![0, 0] S2048x128.size inb_S2048x128_S2048x128_0_0).toLoadRect (harg13.unread x10) = x10 := (readAt_whole _ _ _ (by decide)).trans (harg13.read_unread x10)
  have e11 : arg14.view.readAt (Elt F) (Rect.unit (s := S2048x128) ![0, 0] S2048x128.size inb_S2048x128_S2048x128_0_0).toLoadRect (harg14.unread x11) = x11 := (readAt_whole _ _ _ (by decide)).trans (harg14.read_unread x11)
  have e12 : arg15.view.readAt (Elt F) (Rect.unit (s := S1x128) ![0, 0] S1x128.size inb_S1x128_S1x128_0_0).toLoadRect (harg15.unread x12) = x12 := (readAt_whole _ _ _ (by decide)).trans (harg15.read_unread x12)
  have e13 : arg16.view.readAt (Elt F) (Rect.unit (s := S1x128) ![0, 0] S1x128.size inb_S1x128_S1x128_0_0).toLoadRect (harg16.unread x13) = x13 := (readAt_whole _ _ _ (by decide)).trans (harg16.read_unread x13)
  have e14 : arg17.view.readAt (Elt F) (Rect.unit (s := S2x128) ![0, 0] S2x128.size inb_S2x128_S2x128_0_0).toLoadRect (harg17.unread x14) = x14 := (readAt_whole _ _ _ (by decide)).trans (harg17.read_unread x14)
  have e15 : arg18.view.readAt (Elt F) (Rect.unit (s := S32x2048) ![0, 0] S32x2048.size inb_S32x2048_S32x2048_0_0).toLoadRect (harg18.unread x15) = x15 := (readAt_whole _ _ _ (by decide)).trans (harg18.read_unread x15)
  have e101 : arg25.view.readAt (Elt F) (Rect.unit (s := S1024x2048) ![0, 0] S1024x2048.size inb_S1024x2048_S1024x2048_0_0).toLoadRect (harg25.unread s1) = s1 := (readAt_whole _ _ _ (by decide)).trans (harg25.read_unread s1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  iexists _
  isplitl [HS2]
  · iexists _; isplitr; swap; · iexact HS2
    ipureintro; rfl
  isplitr
  · ipureintro
    (try delta run_G.sl.HS2_9); (try delta run_G.sl.HS2_8); (try delta run_G.sl.HS2_7); (try delta run_G.sl.HS2_6); (try delta run_G.sl.HS2_5); (try delta run_G.sl.HS2_4); (try delta run_G.sl.HS2_3); (try delta run_G.sl.HS2_2); (try delta run_G.sl.HS2_1); (try delta run_G.sl.v90); (try delta run_G.sl.v89); (try delta run_G.sl.v88); (try delta run_G.sl.v87); (try delta run_G.sl.v86); (try delta run_G.sl.v85); (try delta run_G.sl.v84); (try delta run_G.sl.v83); (try delta run_G.sl.v82); (try delta run_G.sl.v81); (try delta run_G.sl.v80); (try delta run_G.sl.v79); (try delta run_G.sl.v78); (try delta run_G.sl.v77); (try delta run_G.sl.v76); (try delta run_G.sl.v75); (try delta run_G.sl.v74); (try delta run_G.sl.v73); (try delta run_G.sl.v72); (try delta run_G.sl.v71); (try delta run_G.sl.v70); (try delta run_G.sl.v69); (try delta run_G.sl.v68); (try delta run_G.sl.v67); (try delta run_G.sl.v66); (try delta run_G.sl.v65); (try delta run_G.sl.v64); (try delta run_G.sl.v63); (try delta run_G.sl.v62); (try delta run_G.sl.v61); (try delta run_G.sl.v60); (try delta run_G.sl.v59); (try delta run_G.sl.v58); (try delta run_G.sl.v57); (try delta run_G.sl.v56); (try delta run_G.sl.v55); (try delta run_G.sl.v54); (try delta run_G.sl.v53); (try delta run_G.sl.v52); (try delta run_G.sl.v51); (try delta run_G.sl.v50); (try delta run_G.sl.v49); (try delta run_G.sl.v48); (try delta run_G.sl.v47); (try delta run_G.sl.v46); (try delta run_G.sl.r_10); (try delta run_G.sl.r_9); (try delta run_G.sl.r_8); (try delta run_G.sl.r_7); (try delta run_G.sl.r_6); (try delta run_G.sl.r_5); (try delta run_G.sl.r_4); (try delta run_G.sl.r_3); (try delta run_G.sl.r_2); (try delta run_G.sl.r_1); (try delta run_G.sl.r); simp only [e0, e1, e2, e3, e4, e5, e6, e7, e8, e9, e10, e11, e12, e13, e14, e15, e101, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
    have hj : ((i 2).val + 4294967295) % 4294967296 = (i 2).val - 1 := by have := ((cond2_iff i).mp hc2).2.2; have h4 : (i 2).val < 4 := (i 2).isLt; omega
    have := heads_of arg26.view (harg26.unread s2) ((i 2).val - 1) x9 x8 x4 x5 x11 x7 x6 x10 (k0_off9_inb i hc2) (k0_off10_inb i hc2) (k0_off11_inb i hc2) (k0_off12_inb i hc2) (k0_off13_inb i hc2) (k0_off14_inb i hc2) (k0_off15_inb i hc2) (k0_off16_inb i hc2) ((off9_eq i).trans (by rw [hj])) ((off10_eq i).trans (by rw [hj])) ((off11_eq i).trans (by rw [hj])) ((off12_eq i).trans (by rw [hj])) ((off13_eq i).trans (by rw [hj])) ((off14_eq i).trans (by rw [hj])) ((off15_eq i).trans (by rw [hj])) ((off16_eq i).trans (by rw [hj]))
    rw [harg26.read_unread] at this; exact this
  isplitl [H16]
  · iexists _; isplitr; swap; · iexact H16
    ipureintro
    (try delta run_G.sl.r_10); (try delta run_G.sl.r_9); (try delta run_G.sl.r_8); (try delta run_G.sl.r_7); (try delta run_G.sl.r_6); (try delta run_G.sl.r_5); (try delta run_G.sl.r_4); (try delta run_G.sl.r_3); (try delta run_G.sl.r_2); (try delta run_G.sl.r_1); (try delta run_G.sl.r); simp only [e0, e1, e2, e3, e4, e5, e6, e7, e8, e9, e10, e11, e12, e13, e14, e15, e101, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
    try simp only [View.readAt_eq_ld, ld_slot _ _ (i 2) (off21_eq i), harg24.read_unread, harg25.read_unread, harg26.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    exact qz_of arg19.view f16 s1 (k0_pay26 (slot _ (i 2))) x12
  isplitl [H17]
  · iexists _; isplitr; swap; · iexact H17
    ipureintro
    (try delta run_G.sl.r_10); (try delta run_G.sl.r_9); (try delta run_G.sl.r_8); (try delta run_G.sl.r_7); (try delta run_G.sl.r_6); (try delta run_G.sl.r_5); (try delta run_G.sl.r_4); (try delta run_G.sl.r_3); (try delta run_G.sl.r_2); (try delta run_G.sl.r_1); (try delta run_G.sl.r); simp only [e0, e1, e2, e3, e4, e5, e6, e7, e8, e9, e10, e11, e12, e13, e14, e15, e101, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
    try simp only [View.readAt_eq_ld, ld_slot _ _ (i 2) (off21_eq i), harg24.read_unread, harg25.read_unread, harg26.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    exact kv_of arg20.view f17 s1 (k0_pay26 (slot _ (i 2))) x13
  isplitl [H18]
  · iexists _; isplitr; swap; · iexact H18
    ipureintro
    (try delta run_G.sl.r_10); (try delta run_G.sl.r_9); (try delta run_G.sl.r_8); (try delta run_G.sl.r_7); (try delta run_G.sl.r_6); (try delta run_G.sl.r_5); (try delta run_G.sl.r_4); (try delta run_G.sl.r_3); (try delta run_G.sl.r_2); (try delta run_G.sl.r_1); (try delta run_G.sl.r); simp only [e0, e1, e2, e3, e4, e5, e6, e7, e8, e9, e10, e11, e12, e13, e14, e15, e101, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
    try simp only [View.readAt_eq_ld, ld_slot _ _ (i 2) (off21_eq i), harg24.read_unread, harg25.read_unread, harg26.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    exact hgp_of arg21.view f18 s1 (k0_pay26 (slot _ (i 2))) x14
  isplitl [H19]
  · iexists _; isplitr; swap; · iexact H19
    ipureintro
    (try delta run_G.sl.r_10); (try delta run_G.sl.r_9); (try delta run_G.sl.r_8); (try delta run_G.sl.r_7); (try delta run_G.sl.r_6); (try delta run_G.sl.r_5); (try delta run_G.sl.r_4); (try delta run_G.sl.r_3); (try delta run_G.sl.r_2); (try delta run_G.sl.r_1); (try delta run_G.sl.r); simp only [e0, e1, e2, e3, e4, e5, e6, e7, e8, e9, e10, e11, e12, e13, e14, e15, e101, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
    try simp only [View.readAt_eq_ld, ld_slot _ _ (i 2) (off21_eq i), harg24.read_unread, harg25.read_unread, harg26.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    exact whole_of arg22.view f19 inb_S1024x128_S1024x128_0_0 _ (by decide)
  isplitl [H20]
  · iexists _; isplitr; swap; · iexact H20
    ipureintro
    (try delta run_G.sl.r_10); (try delta run_G.sl.r_9); (try delta run_G.sl.r_8); (try delta run_G.sl.r_7); (try delta run_G.sl.r_6); (try delta run_G.sl.r_5); (try delta run_G.sl.r_4); (try delta run_G.sl.r_3); (try delta run_G.sl.r_2); (try delta run_G.sl.r_1); (try delta run_G.sl.r); simp only [e0, e1, e2, e3, e4, e5, e6, e7, e8, e9, e10, e11, e12, e13, e14, e15, e101, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
    try simp only [View.readAt_eq_ld, ld_slot _ _ (i 2) (off21_eq i), harg24.read_unread, harg25.read_unread, harg26.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
    exact whole_of arg23.view f20 inb_S32x2048_S32x2048_0_0 _ (by decide)
  isplitl [HS0]
  · iexists _; isplitr; swap
    · iexists _; isplitr; swap; · iexact HS0
      ipureintro; rfl
    · ipureintro
      (try delta run_G.sl.r_10); (try delta run_G.sl.r_9); (try delta run_G.sl.r_8); (try delta run_G.sl.r_7); (try delta run_G.sl.r_6); (try delta run_G.sl.r_5); (try delta run_G.sl.r_4); (try delta run_G.sl.r_3); (try delta run_G.sl.r_2); (try delta run_G.sl.r_1); (try delta run_G.sl.r); simp only [e0, e1, e2, e3, e4, e5, e6, e7, e8, e9, e10, e11, e12, e13, e14, e15, e101, pay40_eq, pay41_eq, pay42_eq, pay43_eq, pay46_eq, pay47_eq, pay48_eq, pay49_eq, pay50_eq, pay51_eq, pay52_eq, pay53_eq, pay54_eq, pay55_eq, pay4_eq, pay5_eq, pay6_eq, pay65_eq, pay8_eq, pay9_eq, pay10_eq, pay11_eq, pay57_eq, pay58_eq, pay13_eq, pay14_eq, pay15_eq, pay16_eq, pay17_eq, pay59_eq, pay60_eq, pay61_eq, pay18_eq, pay19_eq, pay20_eq, pay21_eq, pay22_eq, pay63_eq, pay64_eq, pay56_eq, pay62_eq]
      have := row_of arg24.view (harg24.unread s0) (k0_off20_inb i hc6) (k0_pay24 x0 x3 x2 x1) (i 2).val (off20_eq i)
      rw [harg24.read_unread] at this; exact this
  · iexists _; isplitr; · ipureintro; exact harg25.read_unread _
    iexact HS1

end Cert.ProjIdeal.Hand
end
-- ==== Proof.ProjIdealInv.lean ====
/- What the two row buffers and the weight buffer of the projection hold before each grid point.

   The grid is 2 halves of the heads, 9 steps, 4 quarters: point `n` is in half `n / 36`, step `n / 4 % 9`, quarter `n % 4`.
   Step 0 normalises the rows of slab 0 into buffer A, one quarter at a time. Step `i ≥ 1` multiplies the rows of slab `i - 1`
   by the weights of one head, and normalises a quarter of the next slab into the buffer that the step doesn't read: odd steps
   read A and fill B, even steps read B and fill A. The weight buffer has four slots. Heads 0 to 3 are cast into them at
   step 0 of the first half, heads 4 to 6 at the last step, head 7 at the first point of the second half. -/
module

public import proofs.«01_k».proof.Proof.ProjIdealStep
public import Idealize.ShloMosaic.Lib.Pipeline.FrameBody
public import Idealize.ShloMosaic.Lib.Pipeline.DatRel
public import Idealize.ShloMosaic.Lib.Pointwise.Index

@[expose] public section

set_option maxRecDepth 16384

noncomputable section

namespace Cert.ProjIdeal.Hand

open Cert.ProjIdeal Cert.ProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F] [Named F]

local notation "𝕄" => MT nD τ sig Unit (Elt F) ℕ (UR sig nD τ) ℕ

variable (m : (ℓ : Loc nD τ sig) → Buf (Elt F) ℓ) (c : Dev nD)

theorem lt72 (t : Fin cfg0.N) : t.val < 72 := lt_of_lt_of_eq t.isLt (show cfg0.N = 72 from N_0)

/-- Grid point number `n`. -/
def pt (n : ℕ) : Fin cfg0.N := ⟨n % 72, lt_of_lt_of_eq (Nat.mod_lt n (by decide)) (show cfg0.N = 72 from N_0).symm⟩

theorem pt_val (t : Fin cfg0.N) : pt t.val = t := Fin.ext (Nat.mod_eq_of_lt (lt72 t))

/-! ## Blocks that two grid points share -/

/-- The inputs' blocks as the contents of the staging buffers. -/
def blocks : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨_ + 21, h⟩ => absurd h (Nat.not_lt.2 (Nat.le_add_left _ _))
  Φ _ := Pipeline.ΦA spec0 c
  q w := Pipeline.shareOf spec0 w
  owed _ := 0

theorem blocks_A (w : Fin cfg0.W) : (blocks m c).A w = V m c (Pipeline.arrRef spec0 w) := by dsimp only [blocks]

/-- Two grid points at which a window has one block index read one block. -/
theorem iblk0_congr {t t' : Fin cfg0.N} (h : win0_0.index t = win0_0.index t') : (iblk m c 0 t : Vec F S256x2048 .f32) = iblk m c 0 t' := by
  have e : ∀ u d, (blocks m c).fetched 0 u d = iblk m c 0 u := fun u d => by
    unfold Dat.fetched Dat.blockOf iblk; rw [blocks_A]; try rfl
  exact (e t (iblk m c 0 t)).symm.trans (((blocks m c).fetched_congr 0 h rfl _).trans (e t' _))
theorem iblk1_congr {t t' : Fin cfg0.N} (h : win0_1.index t = win0_1.index t') : (iblk m c 1 t : Vec F S1x1x2048 .f32) = iblk m c 1 t' := by
  have e : ∀ u d, (blocks m c).fetched 1 u d = iblk m c 1 u := fun u d => by
    unfold Dat.fetched Dat.blockOf iblk; rw [blocks_A]; try rfl
  exact (e t (iblk m c 1 t)).symm.trans (((blocks m c).fetched_congr 1 h rfl _).trans (e t' _))
theorem iblk2_congr {t t' : Fin cfg0.N} (h : win0_2.index t = win0_2.index t') : (iblk m c 2 t : Vec F S1x1x2048 .f32) = iblk m c 2 t' := by
  have e : ∀ u d, (blocks m c).fetched 2 u d = iblk m c 2 u := fun u d => by
    unfold Dat.fetched Dat.blockOf iblk; rw [blocks_A]; try rfl
  exact (e t (iblk m c 2 t)).symm.trans (((blocks m c).fetched_congr 2 h rfl _).trans (e t' _))
theorem iblk3_congr {t t' : Fin cfg0.N} (h : win0_3.index t = win0_3.index t') : (iblk m c 3 t : Vec F S1x2048 .f32) = iblk m c 3 t' := by
  have e : ∀ u d, (blocks m c).fetched 3 u d = iblk m c 3 u := fun u d => by
    unfold Dat.fetched Dat.blockOf iblk; rw [blocks_A]; try rfl
  exact (e t (iblk m c 3 t)).symm.trans (((blocks m c).fetched_congr 3 h rfl _).trans (e t' _))

/-- The grid point of the first half at which slab `min i 7`, quarter `j`, is first read. -/
def rep (t : Fin cfg0.N) : Fin cfg0.N := pt (4 * min (t.val / 4 % 9) 7 + t.val % 4)

theorem idx0 : ∀ t : Fin cfg0.N, win0_0.index t = win0_0.index (rep t) := (by decide +kernel : ∀ t : Fin grid0.N, _)
theorem idx1 : ∀ t : Fin cfg0.N, win0_1.index t = win0_1.index (rep t) := (by decide +kernel : ∀ t : Fin grid0.N, _)
theorem idx2 : ∀ t : Fin cfg0.N, win0_2.index t = win0_2.index (rep t) := (by decide +kernel : ∀ t : Fin grid0.N, _)
theorem idx3 : ∀ t : Fin cfg0.N, win0_3.index t = win0_3.index (rep t) := (by decide +kernel : ∀ t : Fin grid0.N, _)

/-! ## The rows -/

/-- Quarter `j` of slab `b`, normalised. -/
def nslab (b j : ℕ) : Vec F S256x2048 .bf16 :=
  k0_pay24 (iblk m c 0 (pt (4 * b + j))) (iblk m c 3 (pt (4 * b + j))) (iblk m c 2 (pt (4 * b + j))) (iblk m c 1 (pt (4 * b + j)))

/-- What the body normalises at point `t`. -/
theorem nslab_at (t : Fin cfg0.N) : k0_pay24 (F := F) (iblk m c 0 t) (iblk m c 3 t) (iblk m c 2 t) (iblk m c 1 t)
    = nslab m c (min (t.val / 4 % 9) 7) (t.val % 4) := by
  unfold nslab
  rw [iblk0_congr m c (idx0 t), iblk1_congr m c (idx1 t), iblk2_congr m c (idx2 t), iblk3_congr m c (idx3 t)]
  rfl

/-- Slab `b`, normalised. -/
def Hn (b : ℕ) : Vec F S1024x2048 .bf16 :=
  fun y => nslab m c b ((y 0).val / 256) (ix2 (⟨(y 0).val % 256, Nat.mod_lt _ (by decide)⟩ : Fin 256) (y 1))

/-- The rows below quarter `j` are slab `b`'s. -/
def Upto (A : Vec F S1024x2048 .bf16) (b j : ℕ) : Prop := ∀ y : S1024x2048.Idx, (y 0).val < 256 * j → A y = Hn m c b y

theorem Upto.zero (A : Vec F S1024x2048 .bf16) (b : ℕ) : Upto m c A b 0 := fun y h => absurd h (by omega)

theorem Upto.all {A : Vec F S1024x2048 .bf16} {b : ℕ} (h : Upto m c A b 4) : A = Hn m c b :=
  funext fun y => h y (by have : (y 0).val < 1024 := (y 0).isLt; omega)

theorem Upto.step {A A' : Vec F S1024x2048 .bf16} {b j : ℕ} (h : Upto m c A b j) (hr : Row A' A j (nslab m c b j)) : Upto m c A' b (j + 1) := by
  intro y hy
  by_cases hj : (y 0).val < 256 * j
  · rw [hr.2 y (Or.inl hj), h y hj]
  · have hd : (y 0).val / 256 = j := by omega
    rw [hr.1 (ix2 (⟨(y 0).val % 256, Nat.mod_lt _ (by decide)⟩ : Fin 256) (y 1)) y
      (show (y 0).val = 256 * j + (y 0).val % 256 by omega) rfl]
    unfold Hn; rw [hd]

/-- What the two row buffers hold before point `n`. -/
def Cur (n : ℕ) (A B : Vec F S1024x2048 .bf16) : Prop :=
  (n / 4 % 9 = 0 → Upto m c A 0 (n % 4))
    ∧ (n / 4 % 9 % 2 = 1 → A = Hn m c (n / 4 % 9 - 1) ∧ Upto m c B (min (n / 4 % 9) 7) (n % 4))
    ∧ (1 ≤ n / 4 % 9 → n / 4 % 9 % 2 = 0 → B = Hn m c (n / 4 % 9 - 1) ∧ Upto m c A (min (n / 4 % 9) 7) (n % 4))

/-- Before a step's first point: its rows are read from one buffer, nothing is asked of the other. -/
theorem Cur.start {n i : ℕ} {A B : Vec F S1024x2048 .bf16} (hi : n / 4 % 9 = i) (hj : n % 4 = 0)
    (ha : i % 2 = 1 → A = Hn m c (i - 1)) (hb : 1 ≤ i → i % 2 = 0 → B = Hn m c (i - 1)) : Cur m c n A B := by
  unfold Cur; rw [hi, hj]
  exact ⟨fun _ => .zero m c _ _, fun h => ⟨ha h, .zero m c _ _⟩, fun h h' => ⟨hb h h', .zero m c _ _⟩⟩

theorem Cur.step0 {n : ℕ} {A A' B : Vec F S1024x2048 .bf16} (hi : n / 4 % 9 = 0) (h : Cur m c n A B)
    (hr : Row A' A (n % 4) (nslab m c 0 (n % 4))) : Cur m c (n + 1) A' B := by
  have u := (h.1 hi).step m c hr
  by_cases hj : n % 4 = 3
  · rw [hj] at u
    exact .start m c (i := 1) (by omega) (by omega) (fun _ => u.all) (fun _ h => absurd h (by decide))
  · have e : (n + 1) / 4 % 9 = 0 := by omega
    have e' : (n + 1) % 4 = n % 4 + 1 := by omega
    unfold Cur; rw [e, e']
    exact ⟨fun _ => u, fun h => absurd h (by decide), fun h => absurd h (by decide)⟩

theorem Cur.stepB {n : ℕ} {A B B' : Vec F S1024x2048 .bf16} (hi : n / 4 % 9 % 2 = 1) (h : Cur m c n A B)
    (hr : Row B' B (n % 4) (nslab m c (min (n / 4 % 9) 7) (n % 4))) : Cur m c (n + 1) A B' := by
  obtain ⟨ha, u⟩ := h.2.1 hi
  have u := u.step m c hr
  by_cases hj : n % 4 = 3
  · rw [hj] at u
    have e : min (n / 4 % 9) 7 = n / 4 % 9 := by omega
    refine .start m c (i := n / 4 % 9 + 1) (by omega) (by omega) (fun h => absurd h (by omega)) fun _ _ => ?_
    rw [u.all, e]; rfl
  · have e : (n + 1) / 4 % 9 = n / 4 % 9 := by omega
    have e' : (n + 1) % 4 = n % 4 + 1 := by omega
    unfold Cur; rw [e, e']
    exact ⟨fun h => absurd h (by omega), fun _ => ⟨ha, u⟩, fun _ h => absurd h (by omega)⟩

theorem Cur.stepA {n : ℕ} {A A' B : Vec F S1024x2048 .bf16} (hi : 1 ≤ n / 4 % 9) (hi2 : n / 4 % 9 % 2 = 0) (h : Cur m c n A B)
    (hr : Row A' A (n % 4) (nslab m c (min (n / 4 % 9) 7) (n % 4))) : Cur m c (n + 1) A' B := by
  obtain ⟨hb, u⟩ := h.2.2 hi hi2
  have u := u.step m c hr
  by_cases hj : n % 4 = 3
  · rw [hj] at u
    by_cases h8 : n / 4 % 9 = 8
    · exact .start m c (i := 0) (by omega) (by omega) (fun h => absurd h (by decide)) (fun h => absurd h (by decide))
    have e : min (n / 4 % 9) 7 = n / 4 % 9 := by omega
    refine .start m c (i := n / 4 % 9 + 1) (by omega) (by omega) (fun _ => ?_) fun _ h => absurd h (by omega)
    rw [u.all, e]; rfl
  · have e : (n + 1) / 4 % 9 = n / 4 % 9 := by omega
    have e' : (n + 1) % 4 = n % 4 + 1 := by omega
    unfold Cur; rw [e, e']
    exact ⟨fun h => absurd h (by omega), fun h => absurd h (by omega), fun _ _ => ⟨hb, u⟩⟩

/-! ## The weights -/

/-- Eight column blocks of the weights, cast and laid side by side. -/
def packed (w : Fin 8 → Vec F S2048x128 .f32) : Vec F S1x2048x1024 .bf16 :=
  fun y => k0_pay7 (w ⟨(y 2).val / 128, by have : (y 2).val < 1024 := (y 2).isLt; omega⟩)
    (ix3 (⟨0, by decide⟩ : Fin 1) (y 1) (⟨(y 2).val % 128, Nat.mod_lt _ (by decide)⟩ : Fin 128))

theorem slot_eq {d s : Vec F S4x2048x1024 .bf16} {n : ℕ} {w : Fin 8 → Vec F S2048x128 .f32} (h : Heads d s n w) (a : Fin 4)
    (ha : a.val = n) : slot d a = packed w := by
  funext y
  have h2 : (y 2).val < 1024 := (y 2).isLt
  exact h.1 ⟨(y 2).val / 128, by omega⟩ (ix3 (⟨0, by decide⟩ : Fin 1) (y 1) (⟨(y 2).val % 128, Nat.mod_lt _ (by decide)⟩ : Fin 128))
    (ix3 a (y 1) (y 2)) ha rfl (show (y 2).val = 128 * ((y 2).val / 128) + (y 2).val % 128 by omega)

theorem slot_ne {d s : Vec F S4x2048x1024 .bf16} {n : ℕ} {w : Fin 8 → Vec F S2048x128 .f32} (h : Heads d s n w) (a : Fin 4)
    (ha : a.val ≠ n) : slot d a = slot s a := funext fun y => h.2 _ ha

/-- The eight column blocks staged at point `t`, in the order in which the body lays them out. -/
def wcols (t : Fin cfg0.N) : Fin 8 → Vec F S2048x128 .f32 :=
  ![iblk m c 9 t, iblk m c 8 t, iblk m c 4 t, iblk m c 5 t, iblk m c 11 t, iblk m c 7 t, iblk m c 6 t, iblk m c 10 t]

/-- The point at which head `h` is cast. -/
def repW (h : ℕ) : ℕ := if h < 4 then h else if h < 7 then h + 29 else 36

/-- Head `h`'s weights, cast. -/
def whead (h : ℕ) : Vec F S1x2048x1024 .bf16 := packed (wcols m c (pt (repW h)))

/-- Before point `n`, slot `s` holds head `h`. -/
def Holds (n s h : ℕ) : Prop :=
  (n < 36 ∧ h = s ∧ (n / 4 % 9 = 0 → s < n % 4) ∧ ¬(n / 4 % 9 = 8 ∧ s + 1 < n % 4))
    ∨ (n < 36 ∧ n / 4 % 9 = 8 ∧ s + 1 < n % 4 ∧ h = 4 + s) ∨ (36 ≤ n ∧ h = 4 + s ∧ (n = 36 → s < 3))

def Wts (n : ℕ) (W : Vec F S4x2048x1024 .bf16) : Prop := ∀ (s : Fin 4) (h : ℕ), Holds n s.val h → slot W s = whead m c h

theorem Wts.keep {n : ℕ} {W : Vec F S4x2048x1024 .bf16} (h : Wts m c n W)
    (hn : n < 72) (hk : ∀ s h, s < 4 → Holds (n + 1) s h → Holds n s h) : Wts m c (n + 1) W :=
  fun s hd hs => h s hd (hk s.val hd s.isLt hs)

theorem Wts.cast {t : Fin cfg0.N} {a : ℕ} {W W' : Vec F S4x2048x1024 .bf16} (h : Wts m c t.val W)
    (hw : Heads W' W a (wcols m c t))
    (hk : ∀ s h, s < 4 → Holds (t.val + 1) s h → (s = a ∧ repW h = t.val) ∨ (s ≠ a ∧ Holds t.val s h)) : Wts m c (t.val + 1) W' := by
  intro s hd hs
  rcases hk s.val hd s.isLt hs with ⟨e, e'⟩ | ⟨e, e'⟩
  · rw [slot_eq hw s e]; unfold whead; rw [e', pt_val]
  · rw [slot_ne hw s e]; exact h s hd e'

theorem keep_of {n : ℕ} (h1 : ¬(n < 36 ∧ n / 4 % 9 = 0)) (h2 : ¬(n < 36 ∧ n / 4 % 9 = 8 ∧ 1 ≤ n % 4)) (h3 : n ≠ 36) :
    ∀ s h, s < 4 → Holds (n + 1) s h → Holds n s h := by
  intro s h hs hh; unfold Holds at *; omega

theorem cast_A {n : ℕ} (h : n < 4) : ∀ s h, s < 4 → Holds (n + 1) s h → (s = n % 4 ∧ repW h = n) ∨ (s ≠ n % 4 ∧ Holds n s h) := by
  intro s h hs hh; unfold Holds repW at *; split_ifs <;> omega

theorem cast_B : ∀ s h, s < 4 → Holds (36 + 1) s h → (s = 3 ∧ repW h = 36) ∨ (s ≠ 3 ∧ Holds 36 s h) := by
  intro s h hs hh; unfold Holds repW at *; split_ifs <;> omega

theorem cast_G {n : ℕ} (h1 : n < 36) (h2 : n / 4 % 9 = 8) (h3 : 1 ≤ n % 4) :
    ∀ s h, s < 4 → Holds (n + 1) s h → (s = n % 4 - 1 ∧ repW h = n) ∨ (s ≠ n % 4 - 1 ∧ Holds n s h) := by
  intro s h hs hh; unfold Holds repW at *; split_ifs <;> omega

/-- The slot that a multiplying point reads holds the head that the point is for. -/
theorem used {n : ℕ} (hn : n < 72) (hi : 1 ≤ n / 4 % 9) : Holds n (n % 4) (4 * (n / 36) + n % 4) := by
  unfold Holds; omega

/-! ## The grid coordinates of a point -/

theorem co0 (t : Fin cfg0.N) : (grid0.coords t 0).val = t.val / 36 := by
  have h : (grid0.coords t 0).val = t.val / 36 % 2 := Pipeline.Grid.coords_val t 0 (by decide) rfl
  have := lt72 t; omega
theorem co1 (t : Fin cfg0.N) : (grid0.coords t 1).val = t.val / 4 % 9 := Pipeline.Grid.coords_val t 1 (by decide) rfl
theorem co2 (t : Fin cfg0.N) : (grid0.coords t 2).val = t.val % 4 := by
  have h : (grid0.coords t 2).val = t.val / 1 % 4 := Pipeline.Grid.coords_val t 2 (by decide) rfl
  omega

theorem slot_used {t : Fin cfg0.N} {W : Vec F S4x2048x1024 .bf16} (h : Wts m c t.val W) (hi : 1 ≤ t.val / 4 % 9) :
    slot W (grid0.coords t 2) = whead m c (4 * (t.val / 36) + t.val % 4) := by
  refine h _ _ ?_
  rw [co2]; exact used (lt72 t) hi

/-! ## What the body may leave in an output block -/

/-- At a point of step `i ≥ 1` the five output blocks hold the head's columns of slab `i - 1`. -/
def Rl (w : Fin cfg0.W) (t : Fin cfg0.N) : ((cfg0.win w).block.Idx → Elt F (cfg0.win w).elt) → Prop := match w with
    | ⟨16, _⟩ => fun X => 1 ≤ t.val / 4 % 9 → X = qzOut (Hn m c (t.val / 4 % 9 - 1)) (k0_pay26 (whead m c (4 * (t.val / 36) + t.val % 4))) (iblk m c 12 t)
    | ⟨17, _⟩ => fun X => 1 ≤ t.val / 4 % 9 → X = kvOut (Hn m c (t.val / 4 % 9 - 1)) (k0_pay26 (whead m c (4 * (t.val / 36) + t.val % 4))) (iblk m c 13 t)
    | ⟨18, _⟩ => fun X => 1 ≤ t.val / 4 % 9 → X = hgpOut (Hn m c (t.val / 4 % 9 - 1)) (k0_pay26 (whead m c (4 * (t.val / 36) + t.val % 4))) (iblk m c 14 t)
    | ⟨19, _⟩ => fun X => 1 ≤ t.val / 4 % 9 → X = k0_pay30 (Hn m c (t.val / 4 % 9 - 1)) (k0_pay26 (whead m c (4 * (t.val / 36) + t.val % 4))) (iblk m c 14 t)
    | ⟨20, _⟩ => fun X => 1 ≤ t.val / 4 % 9 → X = k0_pay25 (iblk m c 15 t)
    | _ => fun _ => True

end Cert.ProjIdeal.Hand

end
-- ==== Proof.ProjIdealBody.lean ====
/- The projection's kernel body at every grid point, with the contents of its two row buffers and its weight buffer
   tracked from point to point. -/
module

public import proofs.«01_k».proof.Proof.ProjIdealRunA
public import proofs.«01_k».proof.Proof.ProjIdealRunB
public import proofs.«01_k».proof.Proof.ProjIdealRunC
public import proofs.«01_k».proof.Proof.ProjIdealRunD
public import proofs.«01_k».proof.Proof.ProjIdealRunE
public import proofs.«01_k».proof.Proof.ProjIdealRunG
public import proofs.«01_k».proof.Proof.ProjIdealInv
public import Idealize.ShloMosaic.Lib.Pipeline.FrameBody
public import Idealize.ShloMosaic.Lib.Pipeline.DatRel

@[expose] public section

set_option maxRecDepth 16384

noncomputable section

namespace Cert.ProjIdeal.Hand

open Cert.ProjIdeal Cert.ProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The buffers the body is called on at a point -/
abbrev st0 (t : Fin cfg0.N) : Memref sig .tc .vmem S256x2048 .f32 := win0_0.stage (cfg0.slots t 0)
abbrev st1 (t : Fin cfg0.N) : Memref sig .tc .vmem S1x1x2048 .f32 := win0_1.stage (cfg0.slots t 1)
abbrev st2 (t : Fin cfg0.N) : Memref sig .tc .vmem S1x1x2048 .f32 := win0_2.stage (cfg0.slots t 2)
abbrev st3 (t : Fin cfg0.N) : Memref sig .tc .vmem S1x2048 .f32 := win0_3.stage (cfg0.slots t 3)
abbrev st4 (t : Fin cfg0.N) : Memref sig .tc .vmem S2048x128 .f32 := win0_4.stage (cfg0.slots t 4)
abbrev st5 (t : Fin cfg0.N) : Memref sig .tc .vmem S2048x128 .f32 := win0_5.stage (cfg0.slots t 5)
abbrev st6 (t : Fin cfg0.N) : Memref sig .tc .vmem S2048x128 .f32 := win0_6.stage (cfg0.slots t 6)
abbrev st7 (t : Fin cfg0.N) : Memref sig .tc .vmem S2048x128 .f32 := win0_7.stage (cfg0.slots t 7)
abbrev st8 (t : Fin cfg0.N) : Memref sig .tc .vmem S2048x128 .f32 := win0_8.stage (cfg0.slots t 8)
abbrev st9 (t : Fin cfg0.N) : Memref sig .tc .vmem S2048x128 .f32 := win0_9.stage (cfg0.slots t 9)
abbrev st10 (t : Fin cfg0.N) : Memref sig .tc .vmem S2048x128 .f32 := win0_10.stage (cfg0.slots t 10)
abbrev st11 (t : Fin cfg0.N) : Memref sig .tc .vmem S2048x128 .f32 := win0_11.stage (cfg0.slots t 11)
abbrev st12 (t : Fin cfg0.N) : Memref sig .tc .vmem S1x128 .f32 := win0_12.stage (cfg0.slots t 12)
abbrev st13 (t : Fin cfg0.N) : Memref sig .tc .vmem S1x128 .f32 := win0_13.stage (cfg0.slots t 13)
abbrev st14 (t : Fin cfg0.N) : Memref sig .tc .vmem S2x128 .f32 := win0_14.stage (cfg0.slots t 14)
abbrev st15 (t : Fin cfg0.N) : Memref sig .tc .vmem S32x2048 .f32 := win0_15.stage (cfg0.slots t 15)
abbrev st16 (t : Fin cfg0.N) : Memref sig .tc .vmem S1024x256 .bf16 := win0_16.stage (cfg0.slots t 16)
abbrev st17 (t : Fin cfg0.N) : Memref sig .tc .vmem S1024x256 .bf16 := win0_17.stage (cfg0.slots t 17)
abbrev st18 (t : Fin cfg0.N) : Memref sig .tc .vmem S1024x512 .bf16 := win0_18.stage (cfg0.slots t 18)
abbrev st19 (t : Fin cfg0.N) : Memref sig .tc .vmem S1024x128 .f32 := win0_19.stage (cfg0.slots t 19)
abbrev st20 (t : Fin cfg0.N) : Memref sig .tc .vmem S32x2048 .bf16 := win0_20.stage (cfg0.slots t 20)
abbrev sc0 : Memref sig .tc .vmem S1024x2048 .bf16 := Memref.whole cc0_scratch0
abbrev sc1 : Memref sig .tc .vmem S1024x2048 .bf16 := Memref.whole cc0_scratch1
abbrev sc2 : Memref sig .tc .vmem S4x2048x1024 .bf16 := Memref.whole cc0_scratch2

/-- What is known before point `n`: the row buffers and the weight buffer hold what `Cur` and `Wts` say. -/
def PHI (c : Dev nD) (n : ℕ) : sProp 𝕄 :=
  iprop(∃ (A B : Vec F S1024x2048 .bf16) (W : Vec F S4x2048x1024 .bf16), ⌜Cur m c n A B ∧ Wts m c n W⌝
    ∗ owns (c : Thread nD τ) sc0 fullShare A ∗ owns (c : Thread nD τ) sc1 fullShare B ∗ owns (c : Thread nD τ) sc2 fullShare W
    ∗ (∃ r, prngReg c r))

theorem scratch_eq (c : Dev nD) : (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- Nothing is known at the start, -/
theorem PHI_in (c : Dev nD) : Pipeline.ΦA spec0 c ⊢ PHI m c 0 := by
  rw [scratch_eq]; unfold PHI
  iintro ⟨⟨⟨%A, HA⟩, ⟨%B, HB⟩, ⟨%W, HW⟩⟩, Hg⟩
  iexists A, B, W
  isplitr
  · ipureintro
    exact ⟨.start m c (i := 0) (by decide) (by decide) (fun h => absurd h (by decide)) (fun h => absurd h (by decide)),
      fun s h hs => absurd hs (by unfold Holds; omega)⟩
  isplitl [HA]; · iexact HA
  isplitl [HB]; · iexact HB
  isplitl [HW]; · iexact HW
  iexact Hg

/-- and nothing is asked at the end. -/
theorem PHI_out (c : Dev nD) (n : ℕ) : PHI m c n ⊢ Pipeline.ΦA spec0 c := by
  rw [scratch_eq]; unfold PHI
  iintro ⟨%A, %B, %W, -, HA, HB, HW, Hg⟩
  isplitl [HA HB HW]
  · isplitl [HA]; · iexists _; iexact HA
    isplitl [HB]; · iexists _; iexact HB
    iexists _; iexact HW
  iexact Hg

/-- The proof data: the arrays as launched, the inputs' buffers at their blocks, the scratch at `PHI`. -/
def dats (_ : Fin 1) (c : Dev nD) : Dat τ (Elt F) Unit ℕ (UR sig nD τ) ℕ cfg0 c where
  A := (blocks m c).A
  after := (blocks m c).after
  Φ t := PHI m c t.val
  q w := Pipeline.shareOf spec0 w
  owed _ := 0

theorem A_eq (c : Dev nD) (w : Fin cfg0.W) : (dats m 0 c).A w = V m c (Pipeline.arrRef spec0 w) := by
  dsimp only [dats, blocks]

theorem after_0 (c : Dev nD) (t : Fin cfg0.N) : (dats m 0 c).after 0 t = iblk m c 0 t := by dsimp only [dats, blocks]
theorem after_1 (c : Dev nD) (t : Fin cfg0.N) : (dats m 0 c).after 1 t = iblk m c 1 t := by dsimp only [dats, blocks]
theorem after_2 (c : Dev nD) (t : Fin cfg0.N) : (dats m 0 c).after 2 t = iblk m c 2 t := by dsimp only [dats, blocks]
theorem after_3 (c : Dev nD) (t : Fin cfg0.N) : (dats m 0 c).after 3 t = iblk m c 3 t := by dsimp only [dats, blocks]
theorem after_4 (c : Dev nD) (t : Fin cfg0.N) : (dats m 0 c).after 4 t = iblk m c 4 t := by dsimp only [dats, blocks]
theorem after_5 (c : Dev nD) (t : Fin cfg0.N) : (dats m 0 c).after 5 t = iblk m c 5 t := by dsimp only [dats, blocks]
theorem after_6 (c : Dev nD) (t : Fin cfg0.N) : (dats m 0 c).after 6 t = iblk m c 6 t := by dsimp only [dats, blocks]
theorem after_7 (c : Dev nD) (t : Fin cfg0.N) : (dats m 0 c).after 7 t = iblk m c 7 t := by dsimp only [dats, blocks]
theorem after_8 (c : Dev nD) (t : Fin cfg0.N) : (dats m 0 c).after 8 t = iblk m c 8 t := by dsimp only [dats, blocks]
theorem after_9 (c : Dev nD) (t : Fin cfg0.N) : (dats m 0 c).after 9 t = iblk m c 9 t := by dsimp only [dats, blocks]
theorem after_10 (c : Dev nD) (t : Fin cfg0.N) : (dats m 0 c).after 10 t = iblk m c 10 t := by dsimp only [dats, blocks]
theorem after_11 (c : Dev nD) (t : Fin cfg0.N) : (dats m 0 c).after 11 t = iblk m c 11 t := by dsimp only [dats, blocks]
theorem after_12 (c : Dev nD) (t : Fin cfg0.N) : (dats m 0 c).after 12 t = iblk m c 12 t := by dsimp only [dats, blocks]
theorem after_13 (c : Dev nD) (t : Fin cfg0.N) : (dats m 0 c).after 13 t = iblk m c 13 t := by dsimp only [dats, blocks]
theorem after_14 (c : Dev nD) (t : Fin cfg0.N) : (dats m 0 c).after 14 t = iblk m c 14 t := by dsimp only [dats, blocks]
theorem after_15 (c : Dev nD) (t : Fin cfg0.N) : (dats m 0 c).after 15 t = iblk m c 15 t := by dsimp only [dats, blocks]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d

/-- The output windows, of which `Rl` says what a point leaves. -/
def outs : Fin 21 → Bool := fun w => w.val == 16 || w.val == 17 || w.val == 18 || w.val == 19 || w.val == 20

theorem Rl_vac (c : Dev nD) (w : Fin cfg0.W) (t : Fin cfg0.N) (X) (h : t.val / 4 % 9 = 0) : Rl m c w t X := by
  unfold Rl
  split <;> first | trivial | exact fun h' => absurd h' (by omega)

theorem Rl_16 (c : Dev nD) (t : Fin cfg0.N) {h : Vec F S1024x2048 .bf16} {W : Vec F S4x2048x1024 .bf16} (hh : h = Hn m c (t.val / 4 % 9 - 1))
    (hw : slot W (grid0.coords t 2) = whead m c (4 * (t.val / 36) + t.val % 4)) : Rl m c 16 t (qzOut h (k0_pay26 (slot W (grid0.coords t 2))) (iblk m c 12 t)) := fun _ => by rw [hh, hw]
theorem Rl_17 (c : Dev nD) (t : Fin cfg0.N) {h : Vec F S1024x2048 .bf16} {W : Vec F S4x2048x1024 .bf16} (hh : h = Hn m c (t.val / 4 % 9 - 1))
    (hw : slot W (grid0.coords t 2) = whead m c (4 * (t.val / 36) + t.val % 4)) : Rl m c 17 t (kvOut h (k0_pay26 (slot W (grid0.coords t 2))) (iblk m c 13 t)) := fun _ => by rw [hh, hw]
theorem Rl_18 (c : Dev nD) (t : Fin cfg0.N) {h : Vec F S1024x2048 .bf16} {W : Vec F S4x2048x1024 .bf16} (hh : h = Hn m c (t.val / 4 % 9 - 1))
    (hw : slot W (grid0.coords t 2) = whead m c (4 * (t.val / 36) + t.val % 4)) : Rl m c 18 t (hgpOut h (k0_pay26 (slot W (grid0.coords t 2))) (iblk m c 14 t)) := fun _ => by rw [hh, hw]
theorem Rl_19 (c : Dev nD) (t : Fin cfg0.N) {h : Vec F S1024x2048 .bf16} {W : Vec F S4x2048x1024 .bf16} (hh : h = Hn m c (t.val / 4 % 9 - 1))
    (hw : slot W (grid0.coords t 2) = whead m c (4 * (t.val / 36) + t.val % 4)) : Rl m c 19 t (k0_pay30 h (k0_pay26 (slot W (grid0.coords t 2))) (iblk m c 14 t)) := fun _ => by rw [hh, hw]
theorem Rl_20 (c : Dev nD) (t : Fin cfg0.N) : Rl m c 20 t (k0_pay25 (iblk m c 15 t)) := fun _ => rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d))
    ∗ (∃ d, owns (c : Thread nD τ) (st14 t) fullShare ((dats m 0 c).before 14 t d))
    ∗ (∃ d, owns (c : Thread nD τ) (st15 t) fullShare ((dats m 0 c).before 15 t d))
    ∗ (∃ Y, ⌜((dats m 0 c).toRRel outs (Rl m c)).Finds 16 t Y⌝ ∗ owns (c : Thread nD τ) (st16 t) fullShare Y)
    ∗ (∃ Y, ⌜((dats m 0 c).toRRel outs (Rl m c)).Finds 17 t Y⌝ ∗ owns (c : Thread nD τ) (st17 t) fullShare Y)
    ∗ (∃ Y, ⌜((dats m 0 c).toRRel outs (Rl m c)).Finds 18 t Y⌝ ∗ owns (c : Thread nD τ) (st18 t) fullShare Y)
    ∗ (∃ Y, ⌜((dats m 0 c).toRRel outs (Rl m c)).Finds 19 t Y⌝ ∗ owns (c : Thread nD τ) (st19 t) fullShare Y)
    ∗ (∃ Y, ⌜((dats m 0 c).toRRel outs (Rl m c)).Finds 20 t Y⌝ ∗ owns (c : Thread nD τ) (st20 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t)
    ∗ owns (c : Thread nD τ) (st12 t) fullShare ((dats m 0 c).after 12 t)
    ∗ owns (c : Thread nD τ) (st13 t) fullShare ((dats m 0 c).after 13 t)
    ∗ owns (c : Thread nD τ) (st14 t) fullShare ((dats m 0 c).after 14 t)
    ∗ owns (c : Thread nD τ) (st15 t) fullShare ((dats m 0 c).after 15 t)
    ∗ (∃ X, ⌜Rl m c 16 t X⌝ ∗ owns (c : Thread nD τ) (st16 t) fullShare X)
    ∗ (∃ X, ⌜Rl m c 17 t X⌝ ∗ owns (c : Thread nD τ) (st17 t) fullShare X)
    ∗ (∃ X, ⌜Rl m c 18 t X⌝ ∗ owns (c : Thread nD τ) (st18 t) fullShare X)
    ∗ (∃ X, ⌜Rl m c 19 t X⌝ ∗ owns (c : Thread nD τ) (st19 t) fullShare X)
    ∗ (∃ X, ⌜Rl m c 20 t X⌝ ∗ owns (c : Thread nD τ) (st20 t) fullShare X))

set_option maxHeartbeats 4000000 in
theorem sound_A (c : Dev nD) (t : Fin cfg0.N) (h : t.val < 4) :
    bodyPre m c t ⊢ wp frame (wpE (defs₀ (F := F)) Variants.none c none) Set.univ (bodyAt0 t) (fun _ => bodyPost m c t) := by
  have hlt := lt72 t
  unfold bodyPre bodyPost bodyAt0
  simp only [before_0, before_1, before_2, before_3, before_4, before_5, before_6, before_7, before_8, before_9, before_10, before_11, before_12, before_13, before_14, before_15, after_0, after_1, after_2, after_3, after_4, after_5, after_6, after_7, after_8, after_9, after_10, after_11, after_12, after_13, after_14, after_15]
  rw [show (dats m 0 c).owesAt () t.succ = (dats m 0 c).owesAt () t.castSucc from rfl,
    show (dats m 0 c).Φ t.succ = PHI m c (t.val + 1) from rfl, show (dats m 0 c).Φ t.castSucc = PHI m c t.val from rfl]
  unfold PHI
  iintro ⟨⟨%A, %B, %W, %hI, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, -, H16⟩, ⟨%d17, -, H17⟩, ⟨%d18, -, H18⟩, ⟨%d19, -, H19⟩, ⟨%d20, -, H20⟩⟩
  iapply (run_A c (grid0.coords t) _ _ _ _ _ _ _ _ _ _ _ _ _ _ _ _ _ _ _ _ _ _ _ _ _ _ _ _ _ _ _ _ _ _ _ _ _ _ _ _ _ _ _ _ _ _ _ _ (by simp only [cond1_iff, co0, co1, co2]; omega) (by simp only [cond2_iff, co0, co1, co2]; omega) (by simp only [cond3_iff, co0, co1, co2]; omega) (by simp only [cond4_iff, co0, co1, co2]; omega) (by simp only [cond5_iff, co0, co1, co2]; omega) (by simp only [cond6_iff, co0, co1, co2]; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) A B W Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  isplitl [HS2]; · iexact HS2
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%A', %hA', HS0⟩, HS1, ⟨%W', %hW', HS2⟩⟩
  isplitl [HS0 HS1 HS2 Hg]
  · iexists A', B, W'
    isplitr
    · ipureintro
      have hr : Row A' A (t.val % 4) (nslab m c (min (t.val / 4 % 9) 7) (t.val % 4)) := by have := hA'; rw [co2, nslab_at] at this; exact this
      have hi0 : t.val / 4 % 9 = 0 := by omega
      rw [hi0] at hr
      exact ⟨hI.1.step0 m c hi0 hr, hI.2.cast m c (a := t.val % 4) (by have := hW'; rw [co2] at this; exact this) (cast_A h)⟩
    isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iexists _; isplitr; swap; · iexact H16
    ipureintro; exact Rl_vac m c 16 t _ (by omega)
  isplitl [H17]
  · iexists _; isplitr; swap; · iexact H17
    ipureintro; exact Rl_vac m c 17 t _ (by omega)
  isplitl [H18]
  · iexists _; isplitr; swap; · iexact H18
    ipureintro; exact Rl_vac m c 18 t _ (by omega)
  isplitl [H19]
  · iexists _; isplitr; swap; · iexact H19
    ipureintro; exact Rl_vac m c 19 t _ (by omega)
  iexists _; isplitr; swap; · iexact H20
  ipureintro; exact Rl_vac m c 20 t _ (by omega)

set_option maxHeartbeats 4000000 in
theorem sound_B (c : Dev nD) (t : Fin cfg0.N) (h : t.val = 36) :
    bodyPre m c t ⊢ wp frame (wpE (defs₀ (F := F)) Variants.none c none) Set.univ (bodyAt0 t) (fun _ => bodyPost m c t) := by
  have hlt := lt72 t
  unfold bodyPre bodyPost bodyAt0
  simp only [before_0, before_1, before_2, before_3, before_4, before_5, before_6, before_7, before_8, before_9, before_10, before_11, before_12, before_13, before_14, before_15, after_0, after_1, after_2, after_3, after_4, after_5, after_6, after_7, after_8, after_9, after_10, after_11, after_12, after_13, after_14, after_15]
  rw [show (dats m 0 c).owesAt () t.succ = (dats m 0 c).owesAt () t.castSucc from rfl,
    show (dats m 0 c).Φ t.succ = PHI m c (t.val + 1) from rfl, show (dats m 0 c).Φ t.castSucc = PHI m c t.val from rfl]
  unfold PHI
  iintro ⟨⟨%A, %B, %W, %hI, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, -, H16⟩, ⟨%d17, -, H17⟩, ⟨%d18, -, H18⟩, ⟨%d19, -, H19⟩, ⟨%d20, -, H20⟩⟩
  iapply (run_B c (grid0.coords t) _ _ _ _ _ _ _ _ _ _ _ _ _ _ _ _ _ _ _ _ _ _ _ _ _ _ _ _ _ _ _ _ _ _ _ _ _ _ _ _ _ _ _ _ _ _ _ _ (by simp only [cond1_iff, co0, co1, co2]; omega) (by simp only [cond2_iff, co0, co1, co2]; omega) (by simp only [cond3_iff, co0, co1, co2]; omega) (by simp only [cond4_iff, co0, co1, co2]; omega) (by simp only [cond5_iff, co0, co1, co2]; omega) (by simp only [cond6_iff, co0, co1, co2]; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) A B W Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  isplitl [HS2]; · iexact HS2
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%A', %hA', HS0⟩, HS1, ⟨%W', %hW', HS2⟩⟩
  isplitl [HS0 HS1 HS2 Hg]
  · iexists A', B, W'
    isplitr
    · ipureintro
      have hr : Row A' A (t.val % 4) (nslab m c (min (t.val / 4 % 9) 7) (t.val % 4)) := by have := hA'; rw [co2, nslab_at] at this; exact this
      have hi0 : t.val / 4 % 9 = 0 := by omega
      rw [hi0] at hr
      exact ⟨hI.1.step0 m c hi0 hr, hI.2.cast m c (a := 3) hW' (by rw [h]; exact cast_B)⟩
    isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iexists _; isplitr; swap; · iexact H16
    ipureintro; exact Rl_vac m c 16 t _ (by omega)
  isplitl [H17]
  · iexists _; isplitr; swap; · iexact H17
    ipureintro; exact Rl_vac m c 17 t _ (by omega)
  isplitl [H18]
  · iexists _; isplitr; swap; · iexact H18
    ipureintro; exact Rl_vac m c 18 t _ (by omega)
  isplitl [H19]
  · iexists _; isplitr; swap; · iexact H19
    ipureintro; exact Rl_vac m c 19 t _ (by omega)
  iexists _; isplitr; swap; · iexact H20
  ipureintro; exact Rl_vac m c 20 t _ (by omega)

set_option maxHeartbeats 4000000 in
theorem sound_C (c : Dev nD) (t : Fin cfg0.N) (h : t.val / 4 % 9 = 0) (h' : 36 < t.val) :
    bodyPre m c t ⊢ wp frame (wpE (defs₀ (F := F)) Variants.none c none) Set.univ (bodyAt0 t) (fun _ => bodyPost m c t) := by
  have hlt := lt72 t
  unfold bodyPre bodyPost bodyAt0
  simp only [before_0, before_1, before_2, before_3, before_4, before_5, before_6, before_7, before_8, before_9, before_10, before_11, before_12, before_13, before_14, before_15, after_0, after_1, after_2, after_3, after_4, after_5, after_6, after_7, after_8, after_9, after_10, after_11, after_12, after_13, after_14, after_15]
  rw [show (dats m 0 c).owesAt () t.succ = (dats m 0 c).owesAt () t.castSucc from rfl,
    show (dats m 0 c).Φ t.succ = PHI m c (t.val + 1) from rfl, show (dats m 0 c).Φ t.castSucc = PHI m c t.val from rfl]
  unfold PHI
  iintro ⟨⟨%A, %B, %W, %hI, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, -, H16⟩, ⟨%d17, -, H17⟩, ⟨%d18, -, H18⟩, ⟨%d19, -, H19⟩, ⟨%d20, -, H20⟩⟩
  iapply (run_C c (grid0.coords t) _ _ _ _ _ _ _ _ _ _ _ _ _ _ _ _ _ _ _ _ _ _ _ _ _ _ _ _ _ _ _ _ _ _ _ _ _ _ _ _ _ _ _ _ _ _ _ _ (by simp only [cond1_iff, co0, co1, co2]; omega) (by simp only [cond2_iff, co0, co1, co2]; omega) (by simp only [cond3_iff, co0, co1, co2]; omega) (by simp only [cond4_iff, co0, co1, co2]; omega) (by simp only [cond5_iff, co0, co1, co2]; omega) (by simp only [cond6_iff, co0, co1, co2]; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) A B W Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  isplitl [HS2]; · iexact HS2
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%A', %hA', HS0⟩, HS1, HS2⟩
  isplitl [HS0 HS1 HS2 Hg]
  · iexists A', B, W
    isplitr
    · ipureintro
      have hr : Row A' A (t.val % 4) (nslab m c (min (t.val / 4 % 9) 7) (t.val % 4)) := by have := hA'; rw [co2, nslab_at] at this; exact this
      have hi0 : t.val / 4 % 9 = 0 := by omega
      rw [hi0] at hr
      exact ⟨hI.1.step0 m c hi0 hr, hI.2.keep m c hlt (keep_of (by omega) (by omega) (by omega))⟩
    isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iexists _; isplitr; swap; · iexact H16
    ipureintro; exact Rl_vac m c 16 t _ (by omega)
  isplitl [H17]
  · iexists _; isplitr; swap; · iexact H17
    ipureintro; exact Rl_vac m c 17 t _ (by omega)
  isplitl [H18]
  · iexists _; isplitr; swap; · iexact H18
    ipureintro; exact Rl_vac m c 18 t _ (by omega)
  isplitl [H19]
  · iexists _; isplitr; swap; · iexact H19
    ipureintro; exact Rl_vac m c 19 t _ (by omega)
  iexists _; isplitr; swap; · iexact H20
  ipureintro; exact Rl_vac m c 20 t _ (by omega)

set_option maxHeartbeats 4000000 in
theorem sound_D (c : Dev nD) (t : Fin cfg0.N) (h : t.val / 4 % 9 % 2 = 1) :
    bodyPre m c t ⊢ wp frame (wpE (defs₀ (F := F)) Variants.none c none) Set.univ (bodyAt0 t) (fun _ => bodyPost m c t) := by
  have hlt := lt72 t
  unfold bodyPre bodyPost bodyAt0
  simp only [before_0, before_1, before_2, before_3, before_4, before_5, before_6, before_7, before_8, before_9, before_10, before_11, before_12, before_13, before_14, before_15, after_0, after_1, after_2, after_3, after_4, after_5, after_6, after_7, after_8, after_9, after_10, after_11, after_12, after_13, after_14, after_15]
  rw [show (dats m 0 c).owesAt () t.succ = (dats m 0 c).owesAt () t.castSucc from rfl,
    show (dats m 0 c).Φ t.succ = PHI m c (t.val + 1) from rfl, show (dats m 0 c).Φ t.castSucc = PHI m c t.val from rfl]
  unfold PHI
  iintro ⟨⟨%A, %B, %W, %hI, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, -, H16⟩, ⟨%d17, -, H17⟩, ⟨%d18, -, H18⟩, ⟨%d19, -, H19⟩, ⟨%d20, -, H20⟩⟩
  iapply (run_D c (grid0.coords t) _ _ _ _ _ _ _ _ _ _ _ _ _ _ _ _ _ _ _ _ _ _ _ _ _ _ _ _ _ _ _ _ _ _ _ _ _ _ _ _ _ _ _ _ _ _ _ _ (by simp only [cond1_iff, co0, co1, co2]; omega) (by simp only [cond2_iff, co0, co1, co2]; omega) (by simp only [cond3_iff, co0, co1, co2]; omega) (by simp only [cond4_iff, co0, co1, co2]; omega) (by simp only [cond5_iff, co0, co1, co2]; omega) (by simp only [cond6_iff, co0, co1, co2]; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) A B W Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, HS0, ⟨%B', %hB', HS1⟩, HS2⟩
  isplitl [HS0 HS1 HS2 Hg]
  · iexists A, B', W
    isplitr
    · ipureintro
      have hr : Row B' B (t.val % 4) (nslab m c (min (t.val / 4 % 9) 7) (t.val % 4)) := by have := hB'; rw [co2, nslab_at] at this; exact this
      exact ⟨hI.1.stepB m c h hr, hI.2.keep m c hlt (keep_of (by omega) (by omega) (by omega))⟩
    isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iexists _; isplitr; swap; · iexact H16
    ipureintro; exact Rl_16 m c t (hI.1.2.1 h).1 (slot_used m c hI.2 (by omega))
  isplitl [H17]
  · iexists _; isplitr; swap; · iexact H17
    ipureintro; exact Rl_17 m c t (hI.1.2.1 h).1 (slot_used m c hI.2 (by omega))
  isplitl [H18]
  · iexists _; isplitr; swap; · iexact H18
    ipureintro; exact Rl_18 m c t (hI.1.2.1 h).1 (slot_used m c hI.2 (by omega))
  isplitl [H19]
  · iexists _; isplitr; swap; · iexact H19
    ipureintro; exact Rl_19 m c t (hI.1.2.1 h).1 (slot_used m c hI.2 (by omega))
  iexists _; isplitr; swap; · iexact H20
  ipureintro; exact Rl_20 m c t

set_option maxHeartbeats 4000000 in
theorem sound_E (c : Dev nD) (t : Fin cfg0.N) (h : 1 ≤ t.val / 4 % 9) (h' : t.val / 4 % 9 % 2 = 0) (h2 : ¬(t.val < 36 ∧ t.val / 4 % 9 = 8 ∧ 1 ≤ t.val % 4)) :
    bodyPre m c t ⊢ wp frame (wpE (defs₀ (F := F)) Variants.none c none) Set.univ (bodyAt0 t) (fun _ => bodyPost m c t) := by
  have hlt := lt72 t
  unfold bodyPre bodyPost bodyAt0
  simp only [before_0, before_1, before_2, before_3, before_4, before_5, before_6, before_7, before_8, before_9, before_10, before_11, before_12, before_13, before_14, before_15, after_0, after_1, after_2, after_3, after_4, after_5, after_6, after_7, after_8, after_9, after_10, after_11, after_12, after_13, after_14, after_15]
  rw [show (dats m 0 c).owesAt () t.succ = (dats m 0 c).owesAt () t.castSucc from rfl,
    show (dats m 0 c).Φ t.succ = PHI m c (t.val + 1) from rfl, show (dats m 0 c).Φ t.castSucc = PHI m c t.val from rfl]
  unfold PHI
  iintro ⟨⟨%A, %B, %W, %hI, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, -, H16⟩, ⟨%d17, -, H17⟩, ⟨%d18, -, H18⟩, ⟨%d19, -, H19⟩, ⟨%d20, -, H20⟩⟩
  iapply (run_E c (grid0.coords t) _ _ _ _ _ _ _ _ _ _ _ _ _ _ _ _ _ _ _ _ _ _ _ _ _ _ _ _ _ _ _ _ _ _ _ _ _ _ _ _ _ _ _ _ _ _ _ _ (by simp only [cond1_iff, co0, co1, co2]; omega) (by simp only [cond2_iff, co0, co1, co2]; omega) (by simp only [cond3_iff, co0, co1, co2]; omega) (by simp only [cond4_iff, co0, co1, co2]; omega) (by simp only [cond5_iff, co0, co1, co2]; omega) (by simp only [cond6_iff, co0, co1, co2]; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) A B W Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, ⟨%A', %hA', HS0⟩, HS1, HS2⟩
  isplitl [HS0 HS1 HS2 Hg]
  · iexists A', B, W
    isplitr
    · ipureintro
      have hr : Row A' A (t.val % 4) (nslab m c (min (t.val / 4 % 9) 7) (t.val % 4)) := by have := hA'; rw [co2, nslab_at] at this; exact this
      exact ⟨hI.1.stepA m c h h' hr, hI.2.keep m c hlt (keep_of (by omega) (by omega) (by omega))⟩
    isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iexists _; isplitr; swap; · iexact H16
    ipureintro; exact Rl_16 m c t (hI.1.2.2 h h').1 (slot_used m c hI.2 (by omega))
  isplitl [H17]
  · iexists _; isplitr; swap; · iexact H17
    ipureintro; exact Rl_17 m c t (hI.1.2.2 h h').1 (slot_used m c hI.2 (by omega))
  isplitl [H18]
  · iexists _; isplitr; swap; · iexact H18
    ipureintro; exact Rl_18 m c t (hI.1.2.2 h h').1 (slot_used m c hI.2 (by omega))
  isplitl [H19]
  · iexists _; isplitr; swap; · iexact H19
    ipureintro; exact Rl_19 m c t (hI.1.2.2 h h').1 (slot_used m c hI.2 (by omega))
  iexists _; isplitr; swap; · iexact H20
  ipureintro; exact Rl_20 m c t

set_option maxHeartbeats 4000000 in
theorem sound_G (c : Dev nD) (t : Fin cfg0.N) (h : t.val < 36) (h' : t.val / 4 % 9 = 8) (h2 : 1 ≤ t.val % 4) :
    bodyPre m c t ⊢ wp frame (wpE (defs₀ (F := F)) Variants.none c none) Set.univ (bodyAt0 t) (fun _ => bodyPost m c t) := by
  have hlt := lt72 t
  unfold bodyPre bodyPost bodyAt0
  simp only [before_0, before_1, before_2, before_3, before_4, before_5, before_6, before_7, before_8, before_9, before_10, before_11, before_12, before_13, before_14, before_15, after_0, after_1, after_2, after_3, after_4, after_5, after_6, after_7, after_8, after_9, after_10, after_11, after_12, after_13, after_14, after_15]
  rw [show (dats m 0 c).owesAt () t.succ = (dats m 0 c).owesAt () t.castSucc from rfl,
    show (dats m 0 c).Φ t.succ = PHI m c (t.val + 1) from rfl, show (dats m 0 c).Φ t.castSucc = PHI m c t.val from rfl]
  unfold PHI
  iintro ⟨⟨%A, %B, %W, %hI, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, -, H16⟩, ⟨%d17, -, H17⟩, ⟨%d18, -, H18⟩, ⟨%d19, -, H19⟩, ⟨%d20, -, H20⟩⟩
  iapply (run_G c (grid0.coords t) _ _ _ _ _ _ _ _ _ _ _ _ _ _ _ _ _ _ _ _ _ _ _ _ _ _ _ _ _ _ _ _ _ _ _ _ _ _ _ _ _ _ _ _ _ _ _ _ (by simp only [cond1_iff, co0, co1, co2]; omega) (by simp only [cond2_iff, co0, co1, co2]; omega) (by simp only [cond3_iff, co0, co1, co2]; omega) (by simp only [cond4_iff, co0, co1, co2]; omega) (by simp only [cond5_iff, co0, co1, co2]; omega) (by simp only [cond6_iff, co0, co1, co2]; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) A B W Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [HS0]; · iexact HS0
  isplitl [HS1]; · iexact HS1
  isplitl [HS2]; · iexact HS2
  iintro ⟨H0, H1, H2, H3, H4, H5, H6, H7, H8, H9, H10, H11, H12, H13, H14, H15, ⟨%W', HS2, %hW', H16, H17, H18, H19, H20, ⟨%A', %hA', HS0⟩, HS1⟩⟩
  isplitl [HS0 HS1 HS2 Hg]
  · iexists A', B, W'
    isplitr
    · ipureintro
      have hr : Row A' A (t.val % 4) (nslab m c (min (t.val / 4 % 9) 7) (t.val % 4)) := by have := hA'; rw [co2, nslab_at] at this; exact this
      exact ⟨hI.1.stepA m c (by omega) (by omega) hr, hI.2.cast m c (a := t.val % 4 - 1) (by have := hW'; rw [co2] at this; exact this) (cast_G h h' h2)⟩
    isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iexists _; isplitr; swap; · iexact H16
    ipureintro; exact Rl_16 m c t (hI.1.2.2 (by omega) (by omega)).1 (by
      have e : slot W' (grid0.coords t 2) = slot W (grid0.coords t 2) := slot_ne hW' _ (by simp only [co2]; omega)
      rw [e]; exact slot_used m c hI.2 (by omega))
  isplitl [H17]
  · iexists _; isplitr; swap; · iexact H17
    ipureintro; exact Rl_17 m c t (hI.1.2.2 (by omega) (by omega)).1 (by
      have e : slot W' (grid0.coords t 2) = slot W (grid0.coords t 2) := slot_ne hW' _ (by simp only [co2]; omega)
      rw [e]; exact slot_used m c hI.2 (by omega))
  isplitl [H18]
  · iexists _; isplitr; swap; · iexact H18
    ipureintro; exact Rl_18 m c t (hI.1.2.2 (by omega) (by omega)).1 (by
      have e : slot W' (grid0.coords t 2) = slot W (grid0.coords t 2) := slot_ne hW' _ (by simp only [co2]; omega)
      rw [e]; exact slot_used m c hI.2 (by omega))
  isplitl [H19]
  · iexists _; isplitr; swap; · iexact H19
    ipureintro; exact Rl_19 m c t (hI.1.2.2 (by omega) (by omega)).1 (by
      have e : slot W' (grid0.coords t 2) = slot W (grid0.coords t 2) := slot_ne hW' _ (by simp only [co2]; omega)
      rw [e]; exact slot_used m c hI.2 (by omega))
  iexists _; isplitr; swap; · iexact H20
  ipureintro; exact Rl_20 m c t

theorem sound_body (c : Dev nD) (t : Fin cfg0.N) :
    bodyPre m c t ⊢ wp frame (wpE (defs₀ (F := F)) Variants.none c none) Set.univ (bodyAt0 t) (fun _ => bodyPost m c t) := by
  have hlt := lt72 t
  by_cases h1 : t.val / 4 % 9 = 0
  · by_cases h2 : t.val < 4
    · exact sound_A m c t h2
    by_cases h3 : t.val = 36
    · exact sound_B m c t h3
    exact sound_C m c t h1 (by omega)
  by_cases h2 : t.val / 4 % 9 % 2 = 1
  · exact sound_D m c t h2
  by_cases h3 : t.val < 36 ∧ t.val / 4 % 9 = 8 ∧ 1 ≤ t.val % 4
  · exact sound_G m c t h3.1 h3.2.1 h3.2.2
  exact sound_E m c t (by omega) (by omega) h3

end Cert.ProjIdeal.Hand

end
-- ==== Proof.ProjIdealLaunch.lean ====
/- The run of the projection's program: it ends, the arguments are unchanged, and every block written back is what `Rl` says. -/
module

public import proofs.«01_k».proof.Proof.ProjIdealBody
public import Idealize.ShloMosaic.Lib.Claim
public import Idealize.ShloMosaic.Lib.Pipeline.ArrRel

@[expose] public section

set_option maxRecDepth 16384

noncomputable section

namespace Cert.ProjIdeal.Hand

open Cert.ProjIdeal Cert.ProjIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ outs (Rl m c) := fun t => by
  rw [bigSep_W0, bigSep_W0, defs₀_row]
  exact triple_restated (sound_body m c t) rfl .rfl fun _ => .rfl

/-- The proof data with the outputs held to `Rl`. -/
abbrev rdats (c : Dev nD) : Pipeline.RDat τ (Elt F) Unit ℕ (UR sig nD τ) ℕ (cfgs 0) c := (dats m 0 c).toRRel outs (Rl m c)

set_option backward.isDefEq.respectTransparency.types false in
theorem run_quiescent : θ_run defs (onTc (τ := τ) (main (F := F))) (s₀ m ρ) (fun r => Pipeline.RDat.FramePost (cfgs 0) (rdats m) (V m) r ∧ r.2.sem = fun _ => 0) :=
  Pipeline.RDat.θ_run_frame_track_shared cfgs (0 : Fin 1) launch₀0 defs₀ Variants.none (rdats m) m ρ main
    (fun c => (body_obligation m c).toRRel) (fun _ _ _ => rfl) (fun _ _ => rfl) (V m) (hmain m Variants.none) (A_eq m)
    (PHI_in m) (fun c => PHI_out m c _) _ (fun _ h => h)

theorem run_rel : θ_run defs (onTc (τ := τ) (main (F := F))) (s₀ m ρ) (Pipeline.RDat.FramePost (cfgs 0) (rdats m) (V m)) :=
  (θ_run defs _ _).mono (fun _ h => h.1) (run_quiescent m ρ)

/-- The run of @main from any memory with zero counters ends, leaves the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => by
    have h := h.1
    exact ⟨(Pipeline.RDat.FramePost.arr_in h c 0 rfl).trans ((A_eq m c 0).trans (V_main_arg0 m c)),
      (Pipeline.RDat.FramePost.arr_in h c 2 rfl).trans ((A_eq m c 2).trans (V_main_arg1 m c)),
      (Pipeline.RDat.FramePost.arr_in h c 3 rfl).trans ((A_eq m c 3).trans (V_main_arg2 m c)),
      (Pipeline.RDat.FramePost.arr_in h c 11 rfl).trans ((A_eq m c 11).trans (V_main_arg3 m c)),
      (Pipeline.RDat.FramePost.arr_in h c 12 rfl).trans ((A_eq m c 12).trans (V_main_arg4 m c)),
      (Pipeline.RDat.FramePost.arr_in h c 13 rfl).trans ((A_eq m c 13).trans (V_main_arg5 m c)),
      (Pipeline.RDat.FramePost.arr_in h c 14 rfl).trans ((A_eq m c 14).trans (V_main_arg6 m c)),
      (Pipeline.RDat.FramePost.arr_in h c 15 rfl).trans ((A_eq m c 15).trans (V_main_arg7 m c))⟩, h.2⟩) (run_quiescent m ρ)

end Cert.ProjIdeal.Hand

end
-- ==== Proof.ProjPay.lean ====
/- The projection kernel's payloads, entry by entry, on the extended reals: each is the specification's function of the columns of
   the accumulator, which hold the eight groups of columns side by side. -/
module

public import proofs.«01_k».proof.Proof.ProjSpec
public import proofs.«01_k».proof.Proof.ProjIdealInv
public import Idealize.ShloMosaic.Lib.Pipeline.ValueKit
public import Idealize.ShloMosaic.Lib.Pointwise

@[expose] public section

set_option maxRecDepth 16384

noncomputable section

namespace Cert.ProjIdeal.Hand

open Cert.ProjIdeal Cert.ProjIdeal.Gen Idealize.ShloMosaic Idealize.ShloMosaic.TcCoe Idealize.SL.Sem
open Cert.ProjSpec Cert.ProjScalars

/-- Row `r` of the accumulator holds head `h`'s columns of the row `P`, group by group. -/
structure Acc (acc : FVec Ideal S1024x1024 .f32) (r : Fin 1024) (P : ℕ → EReal) (h : ℕ) : Prop where
  g0 : ∀ (u : ℕ) (hu : u < 128), acc (ix2 r (⟨u, by omega⟩ : Fin 1024)) = P (5120 + (h * 128 + u))
  g1 : ∀ (u : ℕ) (hu : u < 128), acc (ix2 r (⟨128 + u, by omega⟩ : Fin 1024)) = P (4096 + (h * 128 + u))
  g2 : ∀ (u : ℕ) (hu : u < 128), acc (ix2 r (⟨256 + u, by omega⟩ : Fin 1024)) = P (h * 128 + u)
  g3 : ∀ (u : ℕ) (hu : u < 128), acc (ix2 r (⟨384 + u, by omega⟩ : Fin 1024)) = P (1024 + (h * 128 + u))
  g4 : ∀ (u : ℕ) (hu : u < 128), acc (ix2 r (⟨512 + u, by omega⟩ : Fin 1024)) = P (7168 + (h * 128 + u))
  g5 : ∀ (u : ℕ) (hu : u < 128), acc (ix2 r (⟨640 + u, by omega⟩ : Fin 1024)) = P (3072 + (h * 128 + u))
  g6 : ∀ (u : ℕ) (hu : u < 128), acc (ix2 r (⟨768 + u, by omega⟩ : Fin 1024)) = P (2048 + (h * 128 + u))
  g7 : ∀ (u : ℕ) (hu : u < 128), acc (ix2 r (⟨896 + u, by omega⟩ : Fin 1024)) = P (6144 + (h * 128 + u))

section
variable {acc : FVec Ideal S1024x1024 .f32} {r : Fin 1024} {P : ℕ → EReal} {h : ℕ} (H : Acc acc r P h) (u : Fin 128)
include H

theorem q_at (g : FVec Ideal S1x128 .f32) : k0_pay1 (F := Ideal) (k0_pay38 acc) g (k0_pay39 acc) (ix2 r u) = qz P g h u.val := by
  pointwise [k0_pay1, k0_pay38, k0_pay39]
  unfold qz rms
  rw [dif_pos u.isLt, mul_q_scale]
  simp only [H.g2 _ (Fin.isLt _)]

theorem z_at (g : FVec Ideal S1x128 .f32) : k0_pay37 (F := Ideal) acc (ix2 r u) = qz P g h (128 + u.val) := by
  pointwise [k0_pay37]
  unfold qz silu
  rw [dif_neg (by omega), H.g5 _ u.isLt, ← sg_eq, Nat.add_sub_cancel_left]
  rfl

theorem k_at (g : FVec Ideal S1x128 .f32) : k0_pay2 (F := Ideal) acc g (ix2 r u) = kv P g h u.val := by
  pointwise [k0_pay2]
  unfold kv rms
  rw [dif_pos u.isLt]
  simp only [H.g3 _ (Fin.isLt _)]

theorem v_at (g : FVec Ideal S1x128 .f32) : k0_pay3 (F := Ideal) acc (ix2 r u) = kv P g h (128 + u.val) := by
  pointwise [k0_pay3]
  unfold kv
  rw [dif_neg (by omega), H.g6 _ u.isLt, Nat.add_sub_cancel_left]

theorem gi_at (L : FVec Ideal S2x1024 .f32) : k0_pay36 (F := Ideal) acc (ix2 r u) = hgp P L h (256 + u.val) := by
  pointwise [k0_pay36]
  unfold hgp
  rw [if_neg (by omega), if_neg (by omega), if_pos (by omega), H.g7 _ u.isLt, Nat.add_sub_cancel_left]

theorem gz_at (L : FVec Ideal S2x1024 .f32) : k0_pay35 (F := Ideal) acc (ix2 r u) = hgp P L h (384 + u.val) := by
  pointwise [k0_pay35]
  unfold hgp silu
  rw [if_neg (by omega), if_neg (by omega), if_neg (by omega), H.g4 _ u.isLt, ← sg_eq, Nat.add_sub_cancel_left]
  rfl
end

section
variable {a : Vec Ideal S1024x2048 .bf16} {w : FVec Ideal S2048x1024 .bf16} {r : Fin 1024} {P : ℕ → EReal} {h : ℕ}
  (H : Acc (k0_pay27 a w) r P h) (u : Fin 128)

include H in
theorem gq_at (L : FVec Ideal S2x1024 .f32) : k0_pay34 (F := Ideal) (k0_pay32 a w) (k0_pay33 a w) (ix2 r u) = hgp P L h u.val := by
  pointwise [k0_pay34, k0_pay32, k0_pay33]
  unfold hgp silu
  rw [if_pos u.isLt, H.g1 _ u.isLt, ← sg_eq]
  rfl

/-- The two rows of lower bounds that head `h` reads. -/
def LbAt (lb : FVec Ideal S2x128 .f32) (L : FVec Ideal S2x1024 .f32) (h : ℕ) : Prop :=
  ∀ (i : Fin 2) (u : Fin 128), lb (ix2 i u) = L (ix2 i (nn (h * 128 + u.val)))

variable {lb : FVec Ideal S2x128 .f32} {L : FVec Ideal S2x1024 .f32} (hL : LbAt lb L h)

include hL in
theorem lb_at : k0_pay28 (F := Ideal) lb (ix2 0 u) = lbs L (h * 128 + u.val) := by
  pointwise [k0_pay28]
  unfold lbs
  simp only [hL _ u]

include H hL in
theorem gk_at : k0_pay31 (F := Ideal) a w lb (ix2 r u) = hgp P L h (128 + u.val) := by
  pointwise [k0_pay31, k0_pay29]
  unfold hgp
  rw [if_neg (by omega), if_pos (by omega), Nat.add_sub_cancel_left, H.g0 _ u.isLt, lb_at u hL, ← one_sub_sg]
  rfl

include H hL in
theorem logf_at : k0_pay30 (F := Ideal) a w lb (ix2 r u) = logf P L (h * 128 + u.val) := by
  pointwise [k0_pay30, k0_pay29]
  unfold logf
  rw [H.g0 _ u.isLt, lb_at u hL, mul_log2e, ← sg_eq]
  rfl
end

end Cert.ProjIdeal.Hand

end
-- ==== Proof.ProjRows.lean ====
/- What the projection kernel multiplies, entry by entry, on the extended reals: a slab's rows are the specification's rows, a
   head's cast weights the eight columns of the weights that it takes, and the accumulator the specification's product. -/
module

public import proofs.«01_k».proof.Proof.ProjPay

@[expose] public section

set_option maxRecDepth 16384

noncomputable section

namespace Cert.ProjIdeal.Hand

open Cert.ProjIdeal Cert.ProjIdeal.Gen Idealize.ShloMosaic Idealize.ShloMosaic.TcCoe Idealize.SL.Sem
open Cert.ProjSpec Cert.ProjScalars

variable (m : (ℓ : Loc nD τ sig) → Buf (Elt Ideal) ℓ) (c : Dev nD)

/-- Where the blocks of rows, of modulation and of the norm's weights lie at grid point `t`. -/
theorem idxA : ∀ t : Fin cfg0.N, win0_0.index t = ![4 * min (t.val / 4 % 9) 7 + t.val % 4, 0] ∧
    win0_1.index t = ![min (t.val / 4 % 9) 7 / 2, 0, 0] ∧ win0_2.index t = ![min (t.val / 4 % 9) 7 / 2, 0, 1] ∧ win0_3.index t = ![0, 0] :=
  (by decide +kernel : ∀ t : Fin grid0.N, _)

/-- Which columns of the weights the eight groups' blocks hold where head `h` is cast. -/
theorem idxW : ∀ h : Fin 8, win0_4.index (pt (repW h.val)) = ![0, h.val] ∧ win0_5.index (pt (repW h.val)) = ![0, 8 + h.val] ∧
    win0_6.index (pt (repW h.val)) = ![0, 16 + h.val] ∧ win0_7.index (pt (repW h.val)) = ![0, 24 + h.val] ∧
    win0_8.index (pt (repW h.val)) = ![0, 32 + h.val] ∧ win0_9.index (pt (repW h.val)) = ![0, 40 + h.val] ∧
    win0_10.index (pt (repW h.val)) = ![0, 48 + h.val] ∧ win0_11.index (pt (repW h.val)) = ![0, 56 + h.val] := by decide +kernel

/-- A projected entry, from the kernel's arguments. -/
abbrev PK (r n : ℕ) : EReal :=
  proj (m ((c : Thread nD τ).loc main_arg0)) (m ((c : Thread nD τ).loc main_arg1)) (m ((c : Thread nD τ).loc main_arg2))
    (m ((c : Thread nD τ).loc main_arg3)) r n

theorem row_at (t : Fin cfg0.N) (i : Fin 256) (k : Fin 2048) :
    k0_pay24 (F := Ideal) (iblk m c 0 t) (iblk m c 3 t) (iblk m c 2 t) (iblk m c 1 t) (ix2 i k)
      = row (m ((c : Thread nD τ).loc main_arg0)) (m ((c : Thread nD τ).loc main_arg1)) (m ((c : Thread nD τ).loc main_arg2))
        (1024 * min (t.val / 4 % 9) 7 + 256 * (t.val % 4) + i.val) k := by
  pointwise [k0_pay24]
  rw [row_assoc]
  unfold rr bb
  blk_point [iblk, V, idxA t]

/-- Slab `b`'s row `y`, normalised, is row `1024 b + y`. -/
theorem Hn_at (b : ℕ) (hb : b < 8) (y : Fin 1024) (k : Fin 2048) :
    Hn m c b (ix2 y k) = row (m ((c : Thread nD τ).loc main_arg0)) (m ((c : Thread nD τ).loc main_arg1))
      (m ((c : Thread nD τ).loc main_arg2)) (1024 * b + y.val) k := by
  have hv : (pt (4 * b + y.val / 256)).val = 4 * b + y.val / 256 := Nat.mod_eq_of_lt (by omega)
  refine (row_at m c (pt (4 * b + y.val / 256)) ⟨y.val % 256, Nat.mod_lt _ (by decide)⟩ k).trans ?_
  rw [hv]
  congr 1
  show 1024 * min ((4 * b + y.val / 256) / 4 % 9) 7 + 256 * ((4 * b + y.val / 256) % 4) + y.val % 256 = 1024 * b + y.val
  omega

/-- The group of columns that lies at lanes `128 p` to `128 p + 127`. -/
def grp : Fin 8 → ℕ := ![5, 4, 0, 1, 7, 3, 2, 6]

theorem wcol_at (h : ℕ) (hh : h < 8) (p : Fin 8) (k : Fin 2048) (l : Fin 128) :
    wcols m c (pt (repW h)) p (ix2 k l)
      = (m ((c : Thread nD τ).loc main_arg3) : FVec Ideal S2048x8192 .f32) (ix2 k (rr (1024 * grp p + (h * 128 + l.val)))) := by
  have e := idxW ⟨h, hh⟩
  unfold rr
  fin_cases p
  · show (iblk m c 9 (pt (repW h)) : FVec Ideal S2048x128 .f32) (ix2 k l) = _
    show _ = (m ((c : Thread nD τ).loc main_arg3) : FVec Ideal S2048x8192 .f32) (ix2 k ⟨(1024 * 5 + (h * 128 + l.val)) % 8192, _⟩)
    blk_ext [iblk, V, e]
  · show (iblk m c 8 (pt (repW h)) : FVec Ideal S2048x128 .f32) (ix2 k l) = _
    show _ = (m ((c : Thread nD τ).loc main_arg3) : FVec Ideal S2048x8192 .f32) (ix2 k ⟨(1024 * 4 + (h * 128 + l.val)) % 8192, _⟩)
    blk_ext [iblk, V, e]
  · show (iblk m c 4 (pt (repW h)) : FVec Ideal S2048x128 .f32) (ix2 k l) = _
    show _ = (m ((c : Thread nD τ).loc main_arg3) : FVec Ideal S2048x8192 .f32) (ix2 k ⟨(1024 * 0 + (h * 128 + l.val)) % 8192, _⟩)
    blk_ext [iblk, V, e]
  · show (iblk m c 5 (pt (repW h)) : FVec Ideal S2048x128 .f32) (ix2 k l) = _
    show _ = (m ((c : Thread nD τ).loc main_arg3) : FVec Ideal S2048x8192 .f32) (ix2 k ⟨(1024 * 1 + (h * 128 + l.val)) % 8192, _⟩)
    blk_ext [iblk, V, e]
  · show (iblk m c 11 (pt (repW h)) : FVec Ideal S2048x128 .f32) (ix2 k l) = _
    show _ = (m ((c : Thread nD τ).loc main_arg3) : FVec Ideal S2048x8192 .f32) (ix2 k ⟨(1024 * 7 + (h * 128 + l.val)) % 8192, _⟩)
    blk_ext [iblk, V, e]
  · show (iblk m c 7 (pt (repW h)) : FVec Ideal S2048x128 .f32) (ix2 k l) = _
    show _ = (m ((c : Thread nD τ).loc main_arg3) : FVec Ideal S2048x8192 .f32) (ix2 k ⟨(1024 * 3 + (h * 128 + l.val)) % 8192, _⟩)
    blk_ext [iblk, V, e]
  · show (iblk m c 6 (pt (repW h)) : FVec Ideal S2048x128 .f32) (ix2 k l) = _
    show _ = (m ((c : Thread nD τ).loc main_arg3) : FVec Ideal S2048x8192 .f32) (ix2 k ⟨(1024 * 2 + (h * 128 + l.val)) % 8192, _⟩)
    blk_ext [iblk, V, e]
  · show (iblk m c 10 (pt (repW h)) : FVec Ideal S2048x128 .f32) (ix2 k l) = _
    show _ = (m ((c : Thread nD τ).loc main_arg3) : FVec Ideal S2048x8192 .f32) (ix2 k ⟨(1024 * 6 + (h * 128 + l.val)) % 8192, _⟩)
    blk_ext [iblk, V, e]

/-- A cast block of weights is the block. -/
theorem cast_at (w : FVec Ideal S2048x128 .f32) (k : Fin 2048) (l : Fin 128) : k0_pay7 (F := Ideal) w (ix3 0 k l) = w (ix2 k l) := by
  pointwise [k0_pay7]

theorem whead_at (h : ℕ) (hh : h < 8) (k : Fin 2048) (n : Fin 1024) (p : Fin 8) (l : ℕ) (hl : l < 128) (e : n.val = 128 * p.val + l) :
    whead m c h (ix3 0 k n)
      = (m ((c : Thread nD τ).loc main_arg3) : FVec Ideal S2048x8192 .f32) (ix2 k (rr (1024 * grp p + (h * 128 + l)))) := by
  have hp : (⟨n.val / 128, by omega⟩ : Fin 8) = p := Fin.ext (show n.val / 128 = p.val by omega)
  have hr : (⟨n.val % 128, Nat.mod_lt _ (by decide)⟩ : Fin 128) = ⟨l, hl⟩ := Fin.ext (show n.val % 128 = l by omega)
  refine Eq.trans ?_ (wcol_at m c h hh p k ⟨l, hl⟩)
  refine Eq.trans ?_ (cast_at (wcols m c (pt (repW h)) p) k ⟨l, hl⟩)
  show k0_pay7 (wcols m c (pt (repW h)) ⟨n.val / 128, _⟩) (ix3 _ k (⟨n.val % 128, _⟩ : Fin 128)) = _
  rw [hp, hr]
  rfl

theorem acc_entry (b h : ℕ) (hb : b < 8) (hh : h < 8) (r : Fin 1024) (n : Fin 1024) (p : Fin 8) (l : ℕ) (hl : l < 128)
    (e : n.val = 128 * p.val + l) :
    k0_pay27 (F := Ideal) (Hn m c b) (k0_pay26 (whead m c h)) (ix2 r n) = PK m c (1024 * b + r.val) (1024 * grp p + (h * 128 + l)) := by
  have hw : ∀ k : Fin 2048, _ := fun k => whead_at m c h hh k n p l hl e
  pointwise [k0_pay27, k0_pay26]
  unfold PK proj
  exact Finset.sum_congr rfl fun k _ => Ideal.mul_congr (Hn_at m c b hb r k) (hw k)

/-- The accumulator of slab `b` and head `h`. -/
theorem acc_at (b h : ℕ) (hb : b < 8) (hh : h < 8) (r : Fin 1024) :
    Acc (k0_pay27 (F := Ideal) (Hn m c b) (k0_pay26 (whead m c h))) r (PK m c (1024 * b + r.val)) h where
  g0 u hu := acc_entry m c b h hb hh r _ 0 u hu (show u = 128 * 0 + u by omega)
  g1 u hu := acc_entry m c b h hb hh r _ 1 u hu rfl
  g2 u hu := (acc_entry m c b h hb hh r _ 2 u hu rfl).trans (congrArg _ (show 1024 * 0 + (h * 128 + u) = _ by omega))
  g3 u hu := acc_entry m c b h hb hh r _ 3 u hu rfl
  g4 u hu := acc_entry m c b h hb hh r _ 4 u hu rfl
  g5 u hu := acc_entry m c b h hb hh r _ 5 u hu rfl
  g6 u hu := acc_entry m c b h hb hh r _ 6 u hu rfl
  g7 u hu := acc_entry m c b h hb hh r _ 7 u hu rfl

end Cert.ProjIdeal.Hand

end
-- ==== Proof.ProjValue.lean ====
/- The five result arrays of the projection call, for the extended-real reading of the numbers: each written block is the
   specification's function of the rows and columns that the block lies at. -/
module

public import proofs.«01_k».proof.Proof.ProjRows

@[expose] public section

set_option maxRecDepth 16384

noncomputable section

namespace Cert.ProjIdeal.Hand

open Cert.ProjIdeal Cert.ProjIdeal.Gen Idealize.ShloMosaic Idealize.ShloMosaic.TcCoe Idealize.SL.Sem
open Cert.ProjSpec Cert.ProjScalars

variable (m : (ℓ : Loc nD τ sig) → Buf (Elt Ideal) ℓ) (c : Dev nD)

/-! ## One block -/

theorem at_row {n0 n1 : ℕ} (x : (⟨2, ![n0, n1]⟩ : Shape).Idx) (r : Fin n0) (h : r.val = (x 0).val) : x = ix2 r (x 1) :=
  (eq_ix2 x).trans (congrArg (fun i => ix2 i (x 1)) (Fin.ext h.symm))

section
variable {a : Vec Ideal S1024x2048 .bf16} {w : FVec Ideal S2048x1024 .bf16} {r : Fin 1024} {P : ℕ → EReal} {k : ℕ}
  (H : Acc (k0_pay27 a w) r P k)

include H in
theorem qzOut_at (g : FVec Ideal S1x128 .f32) (n : Fin 256) : qzOut (F := Ideal) a w g (ix2 r n) = qz P g k n.val := by
  unfold qzOut
  canon_tiles x h
  · rw [at_row x r h0]; exact (q_at H (x 1) g).trans (congrArg (qz P g k) h1.symm)
  · rw [at_row x r h0]; exact (z_at H (x 1) g).trans (congrArg (qz P g k) h1.symm)

include H in
theorem kvOut_at (g : FVec Ideal S1x128 .f32) (n : Fin 256) : kvOut (F := Ideal) a w g (ix2 r n) = kv P g k n.val := by
  unfold kvOut
  canon_tiles x h
  · rw [at_row x r h0]; exact (v_at H (x 1) g).trans (congrArg (kv P g k) h1.symm)
  · rw [at_row x r h0]; exact (k_at H (x 1) g).trans (congrArg (kv P g k) h1.symm)

variable {lb : FVec Ideal S2x128 .f32} {L : FVec Ideal S2x1024 .f32} (hL : LbAt lb L k)

include H hL in
theorem hgpOut_at (n : Fin 512) : hgpOut (F := Ideal) a w lb (ix2 r n) = hgp P L k n.val := by
  unfold hgpOut
  canon_tiles x h
  · rw [at_row x r h0]; exact (gi_at H (x 1) L).trans (congrArg (hgp P L k) h1.symm)
  · rw [at_row x r h0]; exact (gz_at H (x 1) L).trans (congrArg (hgp P L k) h1.symm)
  · rw [at_row x r h0]; exact (gq_at H (x 1) L).trans (congrArg (hgp P L k) h1.symm)
  · rw [at_row x r h0]; exact (gk_at H (x 1) hL).trans (congrArg (hgp P L k) h1.symm)
end

/-! ## Where the blocks lie -/

theorem idxG : ∀ t : Fin cfg0.N, win0_12.index t = ![0, 0] ∧ win0_13.index t = ![0, 0] ∧
    win0_14.index t = ![0, 4 * (t.val / 36) + t.val % 4] :=
  (by decide +kernel : ∀ t : Fin grid0.N, _)

theorem idxO : ∀ t : Fin cfg0.N, 1 ≤ t.val / 4 % 9 →
    win0_16.index t = ![t.val / 4 % 9 - 1, 4 * (t.val / 36) + t.val % 4] ∧
    win0_17.index t = ![t.val / 4 % 9 - 1, 4 * (t.val / 36) + t.val % 4] ∧
    win0_18.index t = ![t.val / 4 % 9 - 1, 4 * (t.val / 36) + t.val % 4] ∧
    win0_19.index t = ![t.val / 4 % 9 - 1, 4 * (t.val / 36) + t.val % 4] ∧
    win0_15.index t = ![(t.val / 36 * 8 + (t.val / 4 % 9 - 1)) * 4 + t.val % 4, 0] ∧
    win0_20.index t = ![(t.val / 36 * 8 + (t.val / 4 % 9 - 1)) * 4 + t.val % 4, 0] :=
  (by decide +kernel : ∀ t : Fin grid0.N, _)

/-- A block is written back at a product's point only. -/
theorem flushed : ∀ t : Fin cfg0.N, ((cfg0.win 16).flush t = true → 1 ≤ t.val / 4 % 9) ∧ ((cfg0.win 17).flush t = true → 1 ≤ t.val / 4 % 9)
    ∧ ((cfg0.win 18).flush t = true → 1 ≤ t.val / 4 % 9) ∧ ((cfg0.win 19).flush t = true → 1 ≤ t.val / 4 % 9)
    ∧ ((cfg0.win 20).flush t = true → 1 ≤ t.val / 4 % 9) :=
  (by decide +kernel : ∀ t : Fin grid0.N, _)

theorem iblk12_eq (t : Fin cfg0.N) : (iblk m c 12 t : FVec Ideal S1x128 .f32) = m ((c : Thread nD τ).loc main_arg4) := by
  blk_ext! [iblk, V, idxG t]
theorem iblk13_eq (t : Fin cfg0.N) : (iblk m c 13 t : FVec Ideal S1x128 .f32) = m ((c : Thread nD τ).loc main_arg5) := by
  blk_ext! [iblk, V, idxG t]

theorem lbAt (t : Fin cfg0.N) : LbAt (iblk m c 14 t) (m ((c : Thread nD τ).loc main_arg6)) (4 * (t.val / 36) + t.val % 4) := by
  intro i u
  have ht := lt72 t
  unfold nn
  blk_ext [iblk, V, idxG t]

/-! ## The arrays -/

variable (dat : Pipeline.Dat τ (Elt Ideal) Unit ℕ (UR sig nD τ) ℕ cfg0 c)

theorem final16 (hR : ∀ t, (cfg0.win 16).flush t = true → Rl m c 16 t (dat.after 16 t)) (r : Fin 8192) (n : Fin 2048) :
    (dat.arrAt 16 cfg0.N : FVec Ideal S8192x2048 .bf16) (ix2 r n) = qz (PK m c r.val) (m ((c : Thread nD τ).loc main_arg4)) (n.val / 256) (n.val % 256) := by
  suffices h : dat.arrAt 16 cfg0.N = (fun j => qz (PK m c (j 0).val) (m ((c : Thread nD τ).loc main_arg4)) ((j 1).val / 256) ((j 1).val % 256) : FVec Ideal S8192x2048 .bf16) from congrFun h (ix2 r n)
  refine dat.arrAt_eq_of_covers 16 _ (by decide +kernel) fun t hf y => ?_
  have hi := (flushed t).1 hf
  have e := (idxO t hi).1
  have ht := lt72 t
  have hX := hR t hf hi
  blk_simp
  rw [hX, iblk12_eq]
  have h0 : win0_16.index t 0 = t.val / 4 % 9 - 1 := congrFun e 0
  have h1 : win0_16.index t 1 = 4 * (t.val / 36) + t.val % 4 := congrFun e 1
  have l0 : (y 0).val < 1024 := (y 0).isLt
  have l1 : (y 1).val < 256 := (y 1).isLt
  have H := acc_at m c (t.val / 4 % 9 - 1) (4 * (t.val / 36) + t.val % 4) (by omega) (by omega) (y 0)
  have e0 : win0_16.index t 0 * 1024 + (y 0).val = 1024 * (t.val / 4 % 9 - 1) + (y 0).val := by rw [h0, Nat.mul_comm]
  have e1 : (win0_16.index t 1 * 256 + (y 1).val) / 256 = 4 * (t.val / 36) + t.val % 4 := by rw [h1]; omega
  have e2 : (win0_16.index t 1 * 256 + (y 1).val) % 256 = (y 1).val := by omega
  rw [e0, e1, e2]
  exact (congrArg _ (eq_ix2 y)).trans (qzOut_at H _ (y 1))

theorem final17 (hR : ∀ t, (cfg0.win 17).flush t = true → Rl m c 17 t (dat.after 17 t)) (r : Fin 8192) (n : Fin 2048) :
    (dat.arrAt 17 cfg0.N : FVec Ideal S8192x2048 .bf16) (ix2 r n) = kv (PK m c r.val) (m ((c : Thread nD τ).loc main_arg5)) (n.val / 256) (n.val % 256) := by
  suffices h : dat.arrAt 17 cfg0.N = (fun j => kv (PK m c (j 0).val) (m ((c : Thread nD τ).loc main_arg5)) ((j 1).val / 256) ((j 1).val % 256) : FVec Ideal S8192x2048 .bf16) from congrFun h (ix2 r n)
  refine dat.arrAt_eq_of_covers 17 _ (by decide +kernel) fun t hf y => ?_
  have hi := (flushed t).2.1 hf
  have e := (idxO t hi).2.1
  have ht := lt72 t
  have hX := hR t hf hi
  blk_simp
  rw [hX, iblk13_eq]
  have h0 : win0_17.index t 0 = t.val / 4 % 9 - 1 := congrFun e 0
  have h1 : win0_17.index t 1 = 4 * (t.val / 36) + t.val % 4 := congrFun e 1
  have l0 : (y 0).val < 1024 := (y 0).isLt
  have l1 : (y 1).val < 256 := (y 1).isLt
  have H := acc_at m c (t.val / 4 % 9 - 1) (4 * (t.val / 36) + t.val % 4) (by omega) (by omega) (y 0)
  have e0 : win0_17.index t 0 * 1024 + (y 0).val = 1024 * (t.val / 4 % 9 - 1) + (y 0).val := by rw [h0, Nat.mul_comm]
  have e1 : (win0_17.index t 1 * 256 + (y 1).val) / 256 = 4 * (t.val / 36) + t.val % 4 := by rw [h1]; omega
  have e2 : (win0_17.index t 1 * 256 + (y 1).val) % 256 = (y 1).val := by omega
  rw [e0, e1, e2]
  exact (congrArg _ (eq_ix2 y)).trans (kvOut_at H _ (y 1))

theorem final18 (hR : ∀ t, (cfg0.win 18).flush t = true → Rl m c 18 t (dat.after 18 t)) (r : Fin 8192) (n : Fin 4096) :
    (dat.arrAt 18 cfg0.N : FVec Ideal S8192x4096 .bf16) (ix2 r n) = hgp (PK m c r.val) (m ((c : Thread nD τ).loc main_arg6)) (n.val / 512) (n.val % 512) := by
  suffices h : dat.arrAt 18 cfg0.N = (fun j => hgp (PK m c (j 0).val) (m ((c : Thread nD τ).loc main_arg6)) ((j 1).val / 512) ((j 1).val % 512) : FVec Ideal S8192x4096 .bf16) from congrFun h (ix2 r n)
  refine dat.arrAt_eq_of_covers 18 _ (by decide +kernel) fun t hf y => ?_
  have hi := (flushed t).2.2.1 hf
  have e := (idxO t hi).2.2.1
  have ht := lt72 t
  have hX := hR t hf hi
  blk_simp
  rw [hX]
  have h0 : win0_18.index t 0 = t.val / 4 % 9 - 1 := congrFun e 0
  have h1 : win0_18.index t 1 = 4 * (t.val / 36) + t.val % 4 := congrFun e 1
  have l0 : (y 0).val < 1024 := (y 0).isLt
  have l1 : (y 1).val < 512 := (y 1).isLt
  have H := acc_at m c (t.val / 4 % 9 - 1) (4 * (t.val / 36) + t.val % 4) (by omega) (by omega) (y 0)
  have e0 : win0_18.index t 0 * 1024 + (y 0).val = 1024 * (t.val / 4 % 9 - 1) + (y 0).val := by rw [h0, Nat.mul_comm]
  have e1 : (win0_18.index t 1 * 512 + (y 1).val) / 512 = 4 * (t.val / 36) + t.val % 4 := by rw [h1]; omega
  have e2 : (win0_18.index t 1 * 512 + (y 1).val) % 512 = (y 1).val := by omega
  rw [e0, e1, e2]
  exact (congrArg _ (eq_ix2 y)).trans (hgpOut_at H (lbAt m c t) (y 1))

theorem final19 (hR : ∀ t, (cfg0.win 19).flush t = true → Rl m c 19 t (dat.after 19 t)) (r : Fin 8192) (n : Fin 1024) :
    (dat.arrAt 19 cfg0.N : FVec Ideal S8192x1024 .f32) (ix2 r n) = logf (PK m c r.val) (m ((c : Thread nD τ).loc main_arg6)) n.val := by
  suffices h : dat.arrAt 19 cfg0.N = (fun j => logf (PK m c (j 0).val) (m ((c : Thread nD τ).loc main_arg6)) (j 1).val : FVec Ideal S8192x1024 .f32) from congrFun h (ix2 r n)
  refine dat.arrAt_eq_of_covers 19 _ (by decide +kernel) fun t hf y => ?_
  have hi := (flushed t).2.2.2.1 hf
  have e := (idxO t hi).2.2.2.1
  have ht := lt72 t
  have hX := hR t hf hi
  blk_simp
  rw [hX]
  have h0 : win0_19.index t 0 = t.val / 4 % 9 - 1 := congrFun e 0
  have h1 : win0_19.index t 1 = 4 * (t.val / 36) + t.val % 4 := congrFun e 1
  have l0 : (y 0).val < 1024 := (y 0).isLt
  have l1 : (y 1).val < 128 := (y 1).isLt
  have H := acc_at m c (t.val / 4 % 9 - 1) (4 * (t.val / 36) + t.val % 4) (by omega) (by omega) (y 0)
  have e0 : win0_19.index t 0 * 1024 + (y 0).val = 1024 * (t.val / 4 % 9 - 1) + (y 0).val := by rw [h0, Nat.mul_comm]
  have e1 : win0_19.index t 1 * 128 + (y 1).val = (4 * (t.val / 36) + t.val % 4) * 128 + (y 1).val := by rw [h1]
  rw [e0, e1]
  exact (congrArg _ (eq_ix2 y)).trans (logf_at H (y 1) (lbAt m c t))

/-- The output weights are only converted, which over the extended reals changes nothing. -/
theorem final20 (hR : ∀ t, (cfg0.win 20).flush t = true → Rl m c 20 t (dat.after 20 t)) :
    dat.arrAt 20 cfg0.N = (fun j => m ((c : Thread nD τ).loc main_arg7) j : FVec Ideal S2048x2048 .bf16) := by
  refine dat.arrAt_eq_of_covers 20 _ (by decide +kernel) fun t hf y => ?_
  have hi := (flushed t).2.2.2.2 hf
  have e := (idxO t hi).2.2.2.2
  have ht := lt72 t
  have hX := hR t hf hi
  blk_simp
  rw [hX]
  unfold k0_pay25
  simp only [iblk, V]
  blk_ext [e]

end Cert.ProjIdeal.Hand

end
-- ==== Proof.ProjRefValue.lean ====
/- What the projection's reference computes, entry by entry: each of its five results is the specification's function of the
   arguments. -/
module

public import proofs.«01_k».proof.Proof.ProjSpec
public import proofs.«01_k».proof.Proof.Gen.ProjRefIdeal.Run
public import Idealize.ShloMosaic.Lib.Pipeline.ValueKit
public import Idealize.ShloMosaic.Lib.Pointwise

@[expose] public section

set_option maxRecDepth 16384

noncomputable section

namespace Cert.ProjRefIdeal.Hand

open Idealize.ShloMosaic Idealize.ShloMosaic.TcCoe Idealize.SL.Sem
open Cert.ProjRefIdeal Cert.ProjRefIdeal.Gen Cert.ProjRefIdeal.Value Cert.ProjSpec

/-- The result `main_v128`, as the reference composes it. -/
def R128 (V0 : Valuation τ sig (Elt Ideal)) : FVec Ideal S8192x2048 .bf16 :=
  truncf .bf16 (shapeCast _ (concatenate S4x2048x8x256 3 [⟨S4x2048x8x128, (Host.divf (Host.divf (mulf (mulf (res_main_v49 V0) (broadcastInDim S4x2048x8x128 ![0, 1, 2, 3] bcast_S4x2048x8x1_S4x2048x8x128_0_1_2_3 (Host.rsqrt (addf (Host.divf (broadcastInDim S4x2048x8x1 ![0, 1, 2] bcast_S4x2048x8_S4x2048x8x1_0_1_2 (Host.reduceAdd (mulf (res_main_v49 V0) (res_main_v49 V0)) (constant S_ .f32 0x00000000#32) reducesTo_S4x2048x8x128_S4x2048x8_d3 h_S_)) (broadcastInDim S4x2048x8x1 ![] bcast_S_S4x2048x8x1 (constant S_ .f32 0x43000000#32))) (broadcastInDim S4x2048x8x1 ![] bcast_S_S4x2048x8x1 (constant S_ .f32 0x358637BD#32)))))) (broadcastInDim S4x2048x8x128 ![0, 1, 2, 3] bcast_S1x1x1x128_S4x2048x8x128_0_1_2_3 (broadcastInDim S1x1x1x128 ![3] bcast_S128_S1x1x1x128_3 (shapeCast _ (V0 (Proc.devRef .tc main_arg4)) shapeCasts_S1x128_S128)))) (broadcastInDim S4x2048x8x128 ![] bcast_S_S4x2048x8x128 (Host.sqrt (constant S_ .f32 0x43000000#32)))) (broadcastInDim S4x2048x8x128 ![] bcast_S_S4x2048x8x128 (res_main_v48 V0)))⟩, ⟨S4x2048x8x128, (shapeCast _ (mulf (res_main_v43 V0) (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (res_main_v43 V0)))))) shapeCasts_S4x2048x1024_S4x2048x8x128)⟩] concatenates_S4x2048x8x128_S4x2048x8x128_S4x2048x8x256_d3) shapeCasts_S4x2048x8x256_S8192x2048) bitsLt_bf16_f32

/-- The result `main_v130`, as the reference composes it. -/
def R130 (V0 : Valuation τ sig (Elt Ideal)) : FVec Ideal S8192x2048 .bf16 :=
  truncf .bf16 (shapeCast _ (concatenate S4x2048x8x256 3 [⟨S4x2048x8x128, (mulf (mulf (res_main_v69 V0) (broadcastInDim S4x2048x8x128 ![0, 1, 2, 3] bcast_S4x2048x8x1_S4x2048x8x128_0_1_2_3 (Host.rsqrt (addf (Host.divf (broadcastInDim S4x2048x8x1 ![0, 1, 2] bcast_S4x2048x8_S4x2048x8x1_0_1_2 (Host.reduceAdd (mulf (res_main_v69 V0) (res_main_v69 V0)) (constant S_ .f32 0x00000000#32) reducesTo_S4x2048x8x128_S4x2048x8_d3 h_S_)) (broadcastInDim S4x2048x8x1 ![] bcast_S_S4x2048x8x1 (constant S_ .f32 0x43000000#32))) (broadcastInDim S4x2048x8x1 ![] bcast_S_S4x2048x8x1 (constant S_ .f32 0x358637BD#32)))))) (broadcastInDim S4x2048x8x128 ![0, 1, 2, 3] bcast_S1x1x1x128_S4x2048x8x128_0_1_2_3 (broadcastInDim S1x1x1x128 ![3] bcast_S128_S1x1x1x128_3 (shapeCast _ (V0 (Proc.devRef .tc main_arg5)) shapeCasts_S1x128_S128))))⟩, ⟨S4x2048x8x128, (shapeCast _ (extractStridedSlice S4x2048x1024 ![0, 0, 2048] (res_main_v39 V0) slices_S4x2048x8192_S4x2048x1024_0_0_2048) shapeCasts_S4x2048x1024_S4x2048x8x128)⟩] concatenates_S4x2048x8x128_S4x2048x8x128_S4x2048x8x256_d3) shapeCasts_S4x2048x8x256_S8192x2048) bitsLt_bf16_f32

/-- The result `main_v132`, as the reference composes it. -/
def R132 (V0 : Valuation τ sig (Elt Ideal)) : FVec Ideal S8192x4096 .bf16 :=
  truncf .bf16 (shapeCast _ ((concatenate S4x2048x8x512 3 [⟨S4x2048x8x128, ((shapeCast _ (mulf (res_main_v44 V0) (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (res_main_v44 V0)))))) shapeCasts_S4x2048x1024_S4x2048x8x128) : (⟨S4x2048x8x128, .f32⟩ : BufTy).Contents (Elt Ideal))⟩, ⟨S4x2048x8x128, ((shapeCast _ (mulf (broadcastInDim S4x2048x1024 ![0, 1, 2] bcast_S1x1x1024_S4x2048x1024_0_1_2 (broadcastInDim S1x1x1024 ![2] bcast_S1024_S1x1x1024_2 (subf (broadcastInDim S1024 ![] bcast_S_S1024 (constant S_ .f32 0x3F800000#32)) (res_main_v90 V0)))) (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (Host.negf (res_main_v45 V0))))))) shapeCasts_S4x2048x1024_S4x2048x8x128) : (⟨S4x2048x8x128, .f32⟩ : BufTy).Contents (Elt Ideal))⟩, ⟨S4x2048x8x128, ((shapeCast _ (extractStridedSlice S4x2048x1024 ![0, 0, 6144] (res_main_v39 V0) slices_S4x2048x8192_S4x2048x1024_0_0_6144) shapeCasts_S4x2048x1024_S4x2048x8x128) : (⟨S4x2048x8x128, .f32⟩ : BufTy).Contents (Elt Ideal))⟩, ⟨S4x2048x8x128, ((shapeCast _ (mulf (res_main_v47 V0) (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (res_main_v47 V0)))))) shapeCasts_S4x2048x1024_S4x2048x8x128) : (⟨S4x2048x8x128, .f32⟩ : BufTy).Contents (Elt Ideal))⟩] concatenates_S4x2048x8x128_S4x2048x8x128_S4x2048x8x128_S4x2048x8x128_S4x2048x8x512_d3 : (⟨S4x2048x8x512, .f32⟩ : BufTy).Contents (Elt Ideal))) shapeCasts_S4x2048x8x512_S8192x4096) bitsLt_bf16_f32

/-- The result `main_v133`, as the reference composes it. -/
def R133 (V0 : Valuation τ sig (Elt Ideal)) : FVec Ideal S8192x1024 .f32 :=
  shapeCast _ (Host.divf (Host.log (addf (broadcastInDim S4x2048x1024 ![0, 1, 2] bcast_S1x1x1024_S4x2048x1024_0_1_2 (broadcastInDim S1x1x1024 ![2] bcast_S1024_S1x1x1024_2 (res_main_v90 V0))) (mulf (broadcastInDim S4x2048x1024 ![0, 1, 2] bcast_S1x1x1024_S4x2048x1024_0_1_2 (broadcastInDim S1x1x1024 ![2] bcast_S1024_S1x1x1024_2 (subf (broadcastInDim S1024 ![] bcast_S_S1024 (constant S_ .f32 0x3F800000#32)) (res_main_v90 V0)))) (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf (res_main_v45 V0)))))))) (broadcastInDim S4x2048x1024 ![] bcast_S_S4x2048x1024 (res_main_v48 V0))) shapeCasts_S4x2048x1024_S8192x1024

/-- The result `main_v134`, as the reference composes it. -/
def R134 (V0 : Valuation τ sig (Elt Ideal)) : FVec Ideal S2048x2048 .bf16 :=
  truncf .bf16 (V0 (Proc.devRef .tc main_arg7)) bitsLt_bf16_f32

variable (V0 : Valuation τ sig (Elt Ideal))

/-- Column `n` of row `r` of the projection, from the reference's arguments. -/
def P0 (r n : ℕ) : EReal :=
  proj (V0 (Proc.devRef .tc main_arg0)) (V0 (Proc.devRef .tc main_arg1)) (V0 (Proc.devRef .tc main_arg2)) (V0 (Proc.devRef .tc main_arg3)) r n

theorem v39_at (b : Fin 4) (t : Fin 2048) (n : Fin 8192) :
    res_main_v39 (F := Ideal) V0 (ix3 b t n) = P0 V0 (b.val * 2048 + t.val) n.val := by
  have hr : rr (b.val * 2048 + t.val) = ⟨b.val * 2048 + t.val, by omega⟩ := Fin.ext (Nat.mod_eq_of_lt (by omega))
  have hb : bb (b.val * 2048 + t.val) = b := Fin.ext (show (b.val * 2048 + t.val) / 2048 % 4 = b.val by omega)
  have hn : rr n.val = n := Fin.ext (Nat.mod_eq_of_lt n.isLt)
  pointwise [res_main_v39, res_main_v0, res_main_v13]
  unfold P0 proj row
  rw [hr, hb, hn]

/-- The first row of the running sum is the first row. -/
theorem window_row0 (x : FVec Ideal S2x1024 .f32) (init : FVec Ideal S_ .f32) (n : Fin 1024)
    (hz : (init (Shape.Idx.first h_S_) : EReal) = 0) :
    Host.reduceWindowAdd ![2, 1] ![1, 1] ![1, 0] ![0, 0] x init reduceWindows_S2x1024_S2x1024_w2s1p1_0_w1s1p0_0 h_S_ (ix2 0 n)
      = x (ix2 0 n) := by
  refine Eq.trans (b := (init (Shape.Idx.first h_S_) + init (Shape.Idx.first h_S_) + x (ix2 0 n) : EReal)) ?_ (by
    rw [hz, add_zero]; exact zero_add _)
  show Ideal.hostReduceWindowAdd ![2, 1] ![1, 1] ![1, 0] ![0, 0] reduceWindows_S2x1024_S2x1024_w2s1p1_0_w1s1p0_0 x (init (Shape.Idx.first h_S_)) (ix2 0 n) = _
  unfold Ideal.hostReduceWindowAdd Host.reduceWindow
  have hl : List.finRange (⟨S2x1024.rank, ![2, 1]⟩ : Shape).numel = [⟨0, by decide⟩, ⟨1, by decide⟩] := by decide
  simp only [hl, List.foldl_cons, List.foldl_nil]
  have h0 : ∀ a, ((⟨S2x1024.rank, ![2, 1]⟩ : Shape).rowMajor.symm ⟨0, by decide⟩ a).val = ![0, 0] a := by decide
  have h1 : ∀ a, ((⟨S2x1024.rank, ![2, 1]⟩ : Shape).rowMajor.symm ⟨1, by decide⟩ a).val = ![1, 0] a := by decide
  rw [dif_neg, dif_pos]
  · congr 1
    congr 1
    funext a
    apply Fin.ext
    fin_cases a
    · show _ + ((⟨S2x1024.rank, ![2, 1]⟩ : Shape).rowMajor.symm ⟨1, by decide⟩ 0).val - 1 = 0
      rw [h1]; rfl
    · show n.val * 1 + ((⟨S2x1024.rank, ![2, 1]⟩ : Shape).rowMajor.symm ⟨1, by decide⟩ 1).val - 0 = n.val
      rw [h1]; show n.val * 1 + 0 - 0 = n.val; omega
  · intro a
    fin_cases a
    · show 1 ≤ 0 * 1 + ((⟨S2x1024.rank, ![2, 1]⟩ : Shape).rowMajor.symm ⟨1, by decide⟩ 0).val ∧ 0 * 1 + ((⟨S2x1024.rank, ![2, 1]⟩ : Shape).rowMajor.symm ⟨1, by decide⟩ 0).val - 1 < 2
      rw [h1]; decide
    · show 0 ≤ n.val * 1 + ((⟨S2x1024.rank, ![2, 1]⟩ : Shape).rowMajor.symm ⟨1, by decide⟩ 1).val ∧ n.val * 1 + ((⟨S2x1024.rank, ![2, 1]⟩ : Shape).rowMajor.symm ⟨1, by decide⟩ 1).val - 0 < 1024
      rw [h1]; show 0 ≤ n.val * 1 + 0 ∧ n.val * 1 + 0 - 0 < 1024; omega
  · intro h
    have h' := (h 0).1
    have e : (1 : ℕ) ≤ 0 * 1 + ((⟨S2x1024.rank, ![2, 1]⟩ : Shape).rowMajor.symm ⟨0, by decide⟩ 0).val := h'
    rw [h0] at e; exact absurd e (by decide)

/-- The softmax's exponentials, over the two rows of lower bounds. -/
def expL (L : FVec Ideal S2x1024 .f32) : FVec Ideal S2x1024 .f32 :=
  Host.exp (subf L (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf L (constant S_ .f32 0xFF800000#32) reducesTo_S2x1024_S1024_d0 h_S_)))))

theorem soft_row0 (L : FVec Ideal S2x1024 .f32) (n : Fin 1024) :
    Host.divf (expL L) (broadcastInDim S2x1024 ![0, 1] bcast_S1x1024_S2x1024_0_1 (broadcastInDim S1x1024 ![1] bcast_S1024_S1x1024_1
      (Host.reduceAdd (expL L) (constant S_ .f32 0x00000000#32) reducesTo_S2x1024_S1024_d0 h_S_))) (ix2 0 n) = lbs L n.val := by
  have hn : nn n.val = n := Fin.ext (Nat.mod_eq_of_lt n.isLt)
  have hb : ∀ x : EReal, max (Ideal.ofBits .f32 0xFF800000#32) x = x := fun x => by rw [Cert.ProjScalars.bits_negInf]; exact max_bot_left x
  pointwise [expL]
  unfold lbs
  rw [hn]
  simp only [hb]

theorem v90_at (n : Fin 1024) : res_main_v90 (F := Ideal) V0 (ix1 n) = lbs (V0 (Proc.devRef .tc main_arg6)) n.val := by
  pointwise [res_main_v90]
  refine (window_row0 _ _ n ?_).trans ?_
  · exact Cert.ProjScalars.bits_zero
  · exact soft_row0 (V0 (Proc.devRef .tc main_arg6)) n

theorem R128_at (r : Fin 8192) (n : Fin 2048) : R128 V0 (ix2 r n) = qz (P0 V0 r.val) (V0 (Proc.devRef .tc main_arg4)) (n.val / 256) (n.val % 256) := by
  pointwise [R128, res_main_v43, res_main_v49, res_main_v48]
  simp only [v39_at, Nat.div_add_mod']
  rfl

theorem R130_at (r : Fin 8192) (n : Fin 2048) : R130 V0 (ix2 r n) = kv (P0 V0 r.val) (V0 (Proc.devRef .tc main_arg5)) (n.val / 256) (n.val % 256) := by
  pointwise [R130, res_main_v69]
  simp only [v39_at, Nat.div_add_mod']
  rfl

theorem R132_at (r : Fin 8192) (n : Fin 4096) : R132 V0 (ix2 r n) = hgp (P0 V0 r.val) (V0 (Proc.devRef .tc main_arg6)) (n.val / 512) (n.val % 512) := by
  pointwise [R132, res_main_v44, res_main_v45, res_main_v47]
  simp only [v39_at, v90_at, Nat.div_add_mod', Nat.sub_sub, Nat.reduceAdd]
  unfold hgp silu
  by_cases h1 : n.val % 512 < 128
  · rw [dif_pos h1, if_pos h1]
  rw [dif_neg h1, if_neg h1]
  by_cases h2 : n.val % 512 < 256
  · rw [dif_pos (by omega), if_pos h2]
  rw [dif_neg (by omega), if_neg h2]
  by_cases h3 : n.val % 512 < 384
  · rw [dif_pos (by omega), if_pos h3]
  · rw [dif_neg (by omega), if_neg h3]

theorem R133_at (r : Fin 8192) (n : Fin 1024) : R133 V0 (ix2 r n) = logf (P0 V0 r.val) (V0 (Proc.devRef .tc main_arg6)) n.val := by
  pointwise [R133, res_main_v45, res_main_v48]
  simp only [v39_at, v90_at, Nat.div_add_mod']
  rfl

theorem R134_at (j) : R134 V0 j = (V0 (Proc.devRef .tc main_arg7) : FVec Ideal S2048x2048 .f32) j := rfl

end Cert.ProjRefIdeal.Hand

end
-- ==== Proof.ProjFinal.lean ====
/- The projection's run and its reference's, result by result: both are the specification's functions of the arguments. -/
module

public import proofs.«01_k».proof.Proof.ProjIdealLaunch
public import proofs.«01_k».proof.Proof.ProjValue
public import proofs.«01_k».proof.Proof.ProjRefValue
public import Idealize.ShloMosaic.Lib.Pipeline.DatRel

@[expose] public section

set_option maxRecDepth 16384

noncomputable section

namespace Cert.ProjIdeal.Hand

open Cert.ProjIdeal Cert.ProjIdeal.Gen Idealize.ShloMosaic Idealize.ShloMosaic.TcCoe Idealize.SL Idealize.SL.Sem
open Cert.ProjSpec
open Cert.ProjRefIdeal.Hand (R128 R130 R132 R133 R134 P0 R128_at R130_at R132_at R133_at R134_at)

variable (m : (ℓ : Loc nD τ sig) → Buf (Elt Ideal) ℓ) (ρ : Dev nD → PrngReg)

/-- The five result arrays of a finished run are the five arrays of one choice of blocks that `Rl` allows. -/
theorem arrays {r : PUnit × MemSt nD τ sig (Elt Ideal)} (h : Pipeline.RDat.FramePost (cfgs 0) (rdats (F := Ideal) m) (V m) r) (c : Dev nD) :
    ∃ dat : Pipeline.Dat τ (Elt Ideal) Unit ℕ (UR sig nD τ) ℕ cfg0 c,
      (∀ w t, outs w = true → (cfg0.win w).flush t = true → Rl m c w t (dat.after w t))
      ∧ ∀ w, r.2.mem ((cfg0.spec w).arr.view.loc (c.tc)) = dat.arrAt w cfg0.N := by
  obtain ⟨after, hl, ha⟩ := Pipeline.RDat.FramePost.exists_exact h c
  exact ⟨(rdats m c).withAfter after, fun w t ho hf => (dats m 0 c).toRRel_leaves ho (hl w t hf), ha⟩

/-- The five results as functions of the arguments. -/
def K0 (c : Dev nD) : FVec Ideal S8192x2048 .bf16 := fun j =>
  qz (PK m c (j 0).val) (m ((c : Thread nD τ).loc main_arg4)) ((j 1).val / 256) ((j 1).val % 256)
def K1 (c : Dev nD) : FVec Ideal S8192x2048 .bf16 := fun j =>
  kv (PK m c (j 0).val) (m ((c : Thread nD τ).loc main_arg5)) ((j 1).val / 256) ((j 1).val % 256)
def K2 (c : Dev nD) : FVec Ideal S8192x4096 .bf16 := fun j =>
  hgp (PK m c (j 0).val) (m ((c : Thread nD τ).loc main_arg6)) ((j 1).val / 512) ((j 1).val % 512)
def K3 (c : Dev nD) : FVec Ideal S8192x1024 .f32 := fun j =>
  logf (PK m c (j 0).val) (m ((c : Thread nD τ).loc main_arg6)) (j 1).val
def K4 (c : Dev nD) : FVec Ideal S2048x2048 .bf16 := fun j => m ((c : Thread nD τ).loc main_arg7) j

theorem results : θ_run defs (onTc (τ := τ) (main (F := Ideal))) ⟨m, fun _ => 0, ρ⟩ (fun r => ∀ c : Dev nD,
      r.2.mem ((c.tc : Thread nD τ).loc main_v0_0) = K0 m c
      ∧ r.2.mem ((c.tc : Thread nD τ).loc main_v0_1) = K1 m c
      ∧ r.2.mem ((c.tc : Thread nD τ).loc main_v0_2) = K2 m c
      ∧ r.2.mem ((c.tc : Thread nD τ).loc main_v0_3) = K3 m c
      ∧ r.2.mem ((c.tc : Thread nD τ).loc main_v0_4) = K4 m c) := by
  refine (θ_run defs _ _).mono (fun r h c => ?_) (run_rel m ρ)
  obtain ⟨dat, hR, ha⟩ := arrays m h c
  refine ⟨(ha 16).trans (funext fun j => ?_), (ha 17).trans (funext fun j => ?_), (ha 18).trans (funext fun j => ?_),
    (ha 19).trans (funext fun j => ?_), (ha 20).trans (final20 m c dat fun t hf => hR 20 t rfl hf)⟩
  · exact (congrArg (dat.arrAt 16 cfg0.N) (eq_ix2 j)).trans (final16 m c dat (fun t hf => hR 16 t rfl hf) (j 0) (j 1))
  · exact (congrArg (dat.arrAt 17 cfg0.N) (eq_ix2 j)).trans (final17 m c dat (fun t hf => hR 17 t rfl hf) (j 0) (j 1))
  · exact (congrArg (dat.arrAt 18 cfg0.N) (eq_ix2 j)).trans (final18 m c dat (fun t hf => hR 18 t rfl hf) (j 0) (j 1))
  · exact (congrArg (dat.arrAt 19 cfg0.N) (eq_ix2 j)).trans (final19 m c dat (fun t hf => hR 19 t rfl hf) (j 0) (j 1))

/-! ## The reference's results -/

section
variable (V0 : Valuation Cert.ProjRefIdeal.τ Cert.ProjRefIdeal.sig (Elt Ideal)) (c : Dev nD)
    (a0 : V0 (Proc.devRef .tc Cert.ProjRefIdeal.main_arg0) = m ((c.tc : Thread nD τ).loc main_arg0))
    (a1 : V0 (Proc.devRef .tc Cert.ProjRefIdeal.main_arg1) = m ((c.tc : Thread nD τ).loc main_arg1))
    (a2 : V0 (Proc.devRef .tc Cert.ProjRefIdeal.main_arg2) = m ((c.tc : Thread nD τ).loc main_arg2))
    (a3 : V0 (Proc.devRef .tc Cert.ProjRefIdeal.main_arg3) = m ((c.tc : Thread nD τ).loc main_arg3))
    (a4 : V0 (Proc.devRef .tc Cert.ProjRefIdeal.main_arg4) = m ((c.tc : Thread nD τ).loc main_arg4))
    (a5 : V0 (Proc.devRef .tc Cert.ProjRefIdeal.main_arg5) = m ((c.tc : Thread nD τ).loc main_arg5))
    (a6 : V0 (Proc.devRef .tc Cert.ProjRefIdeal.main_arg6) = m ((c.tc : Thread nD τ).loc main_arg6))
    (a7 : V0 (Proc.devRef .tc Cert.ProjRefIdeal.main_arg7) = m ((c.tc : Thread nD τ).loc main_arg7))

include a0 a1 a2 a3 in
theorem P0_eq (r : ℕ) : P0 V0 r = PK m c r := by
  funext n; unfold P0 PK; rw [a0, a1, a2, a3]

include a0 a1 a2 a3 a4 in
theorem ref0 : R128 V0 = K0 m c := funext fun j => by
  refine (congrArg (R128 V0) (eq_ix2 j)).trans ((R128_at V0 (j 0) (j 1)).trans ?_)
  rw [P0_eq m V0 c a0 a1 a2 a3, a4]; rfl

include a0 a1 a2 a3 a5 in
theorem ref1 : R130 V0 = K1 m c := funext fun j => by
  refine (congrArg (R130 V0) (eq_ix2 j)).trans ((R130_at V0 (j 0) (j 1)).trans ?_)
  rw [P0_eq m V0 c a0 a1 a2 a3, a5]; rfl

include a0 a1 a2 a3 a6 in
theorem ref2 : R132 V0 = K2 m c := funext fun j => by
  refine (congrArg (R132 V0) (eq_ix2 j)).trans ((R132_at V0 (j 0) (j 1)).trans ?_)
  rw [P0_eq m V0 c a0 a1 a2 a3, a6]; rfl

include a0 a1 a2 a3 a6 in
theorem ref3 : R133 V0 = K3 m c := funext fun j => by
  refine (congrArg (R133 V0) (eq_ix2 j)).trans ((R133_at V0 (j 0) (j 1)).trans ?_)
  rw [P0_eq m V0 c a0 a1 a2 a3, a6]; rfl

include a7 in
theorem ref4 : R134 V0 = K4 m c := funext fun j => by
  rw [R134_at, a7]; rfl
end

end Cert.ProjIdeal.Hand

end
-- ==== Proof.AnyContents.lean ====
/- Programs that only load from and store to buffers they hold, whatever these contain: from the buffers at some
   contents, such a program ends and gives the buffers back at some contents. -/
module

public import Idealize.ShloMosaic.Rules.Step
public import Idealize.ShloMosaic.Lib.Memref
public import Idealize.ShloMosaic.Lib.Writes
public import Idealize.ShloMosaic.Lib.Scf
public import Idealize.ShloMosaic.Lib.Tactic

@[expose] public section

noncomputable section

namespace Cert.AnyContents

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} {Λ : Labels}
local notation "𝕄" => MT nD τ sig Ix Val Name U Lvl

variable (I : sProp (MT nD τ sig Ix Val Name U Lvl)) (c : Thread nD τ)

/-- `I` holds the memref's elements, at some contents. -/
def Held {cs : Space} {s : Shape} {e : EltTy} (m : Memref sig c.2.kind cs s e) : Prop :=
  ∃ S, m.view.set ⊆ S ∧
    (I ⊢ iprop((∃ f, m.view.loc c ↦[S]{fullShare} f) ∗ ((∃ f, m.view.loc c ↦[S]{fullShare} f) -∗ I)))

variable {I c}

theorem Held.slice {cs : Space} {s : Shape} {e : EltTy} {m : Memref sig c.2.kind cs s e} (h : Held I c m) (r : Rect s)
    (hr : ∀ a, r.stride a = 1) : Held I c (m.slice r hr) := by
  obtain ⟨S, hS, h⟩ := h
  exact ⟨S, (m.view.set_slice_subset r).trans hS, h⟩

/-- `I` hands out `P` and takes it back. -/
def Lends (I P : sProp (MT nD τ sig Ix Val Name U Lvl)) : Prop := I ⊢ iprop(P ∗ (P -∗ I))

theorem Lends.refl (P : sProp (MT nD τ sig Ix Val Name U Lvl)) : Lends P P := by
  unfold Lends
  iintro H
  isplitl [H]
  · iexact H
  iintro H; iexact H

theorem Lends.left {A B P : sProp (MT nD τ sig Ix Val Name U Lvl)} (h : Lends A P) : Lends iprop(A ∗ B) P := by
  unfold Lends at h ⊢
  refine (sep_mono_left h).trans ?_
  iintro ⟨⟨HP, Hk⟩, HB⟩
  isplitl [HP]
  · iexact HP
  iintro HP
  isplitr [HB]
  · iapply Hk; iexact HP
  iexact HB

theorem Lends.right {A B P : sProp (MT nD τ sig Ix Val Name U Lvl)} (h : Lends B P) : Lends iprop(A ∗ B) P := by
  unfold Lends at h ⊢
  refine (sep_mono_right h).trans ?_
  iintro ⟨HA, HP, Hk⟩
  isplitl [HP]
  · iexact HP
  iintro HP
  isplitl [HA]
  · iexact HA
  iapply Hk; iexact HP

/-- A memref whose elements one conjunct owns at some contents. -/
theorem Lends.held {cs : Space} {s : Shape} {e : EltTy} {m : Memref sig c.2.kind cs s e}
    (h : Lends I iprop(∃ X, owns c m fullShare X)) : Held I c m := by
  refine ⟨m.view.set, subset_rfl, h.trans ?_⟩
  unfold owns
  iintro ⟨⟨%X, %f, -, Hf⟩, Hk⟩
  isplitl [Hf]
  · iexists f; iexact Hf
  iintro ⟨%g, Hg⟩
  iapply Hk
  iexists m.view.read Val g, g
  isplitr
  · ipureintro; rfl
  iexact Hg

variable (I c)

/-- The program loads from and stores to memrefs that `I` holds, and does nothing else. -/
inductive Safe {α : Type} : Prog (TpuEff nD τ sig Val Λ c.2) α → Prop
  | ret (a : α) : Safe (.ret a)
  | load {cs : CoreSpace} {s : Shape} {e : EltTy} {m : Memref sig c.2.kind cs s e} {r : LoadRect s} {hl : m.view.LoadsAt r}
      {k : (r.shape.Idx → Val e) → Prog (TpuEff nD τ sig Val Λ c.2) α} (hm : Held I c m) (hk : ∀ x, Safe (k x)) :
      Safe (.op (.load m r hl) k)
  | store {cs : CoreSpace} {s : Shape} {e : EltTy} {m : Memref sig c.2.kind cs s e} {r : Rect s} {w : r.shape.Idx → Val e}
      {M : Finset r.shape.Idx} {hx : (m.access r).Stores M} {hu : M = Finset.univ ∨ ∀ a, r.stride a = 1}
      {k : PUnit → Prog (TpuEff nD τ sig Val Λ c.2) α} (hm : Held I c m) (hk : ∀ x, Safe (k x)) :
      Safe (.op (.store m r w M hx hu) k)

variable {I c}
variable {α β : Type}

theorem Safe.bind {p : Prog (TpuEff nD τ sig Val Λ c.2) α} {f : α → Prog (TpuEff nD τ sig Val Λ c.2) β}
    (h : Safe I c p) (hf : ∀ a, Safe I c (f a)) : Safe I c (p >>= f) := by
  induction h with
  | ret a => exact hf a
  | load hm _ ih => exact .load hm ih
  | store hm _ ih => exact .store hm ih

theorem Safe.ld {cs : CoreSpace} {s : Shape} {e : EltTy} {m : Memref sig c.2.kind cs s e} {r : LoadRect s} {hl : m.view.LoadsAt r}
    {k : (r.shape.Idx → Val e) → Prog (TpuEff nD τ sig Val Λ c.2) α} (hm : Held I c m) (hk : ∀ x, Safe I c (k x)) :
    Safe I c (Prog.lift (.load m r hl) >>= k) := .load hm hk

theorem Safe.st {cs : CoreSpace} {s : Shape} {e : EltTy} {m : Memref sig c.2.kind cs s e} {r : Rect s} {w : r.shape.Idx → Val e}
    {M : Finset r.shape.Idx} {hx : (m.access r).Stores M} {hu : M = Finset.univ ∨ ∀ a, r.stride a = 1}
    {k : PUnit → Prog (TpuEff nD τ sig Val Λ c.2) α} (hm : Held I c m) (hk : ∀ x, Safe I c (k x)) :
    Safe I c (Prog.lift (.store m r w M hx hu) >>= k) := .store hm hk

theorem Safe.forFrom {n : ℕ} {body : Fin n → α → Prog (TpuEff nD τ sig Val Λ c.2) α} (h : ∀ k a, Safe I c (body k a)) :
    ∀ (l : List (Fin n)) (a : α), Safe I c (Scf.forFrom body l a)
  | [], a => .ret a
  | k :: l, a => .bind (h k a) fun a' => Safe.forFrom h l a'

theorem Safe.loop {w : ℕ} {l : Scf.Loop w} {hok : l.OK} {init : α} {body : Fin l.trips → α → Prog (TpuEff nD τ sig Val Λ c.2) α}
    (h : ∀ k a, Safe I c (body k a)) : Safe I c (Scf.Loop.for l hok init body) := by
  unfold Scf.Loop.for
  rw [Scf.for_eq]; exact .forFrom h _ _

/-- A branch one of whose sides goes straight to what follows it. -/
theorem Safe.dite {P : Prop} [Decidable P] {p : P → Prog (TpuEff nD τ sig Val Λ c.2) α} {q : Prog (TpuEff nD τ sig Val Λ c.2) α}
    (hq : Safe I c q) (hp : Safe I c q → ∀ h, Safe I c (p h)) : Safe I c (if h : P then p h else q) := by
  split
  · exact hp hq _
  · exact hq

theorem Safe.ite {P : Prop} [Decidable P] {p q : Prog (TpuEff nD τ sig Val Λ c.2) α} (hq : Safe I c q) (hp : Safe I c q → Safe I c p) :
    Safe I c (if P then p else q) := by
  split
  · exact hp hq
  · exact hq

variable [Preorder Lvl] {defs : Defs nD τ sig Val Λ} (𝒱 : Variants) (bd : Option 𝒱.V) (E : Set Name)

theorem Safe.sound {p : Prog (TpuEff nD τ sig Val Λ c.2) α} (h : Safe I c p) :
    I ⊢ wp frame (wpE defs 𝒱 c bd) E p (fun _ => I) := by
  induction h with
  | ret a => rw [wp_ret]; iintro H; imodintro; iexact H
  | load hm _ ih =>
    obtain ⟨S, hS, hm⟩ := hm
    refine hm.trans ?_
    iintro ⟨⟨%f, Hf⟩, Hk⟩
    iapply (wp_load 𝒱 c bd E ((View.setOn_subset_set _ _).trans hS)) $$ Hf
    iintro Hf
    iapply (ih _)
    iapply Hk
    iexists f; iexact Hf
  | @store cs s e m r w M hx hu k hm _ ih =>
    obtain ⟨S, hS, hm⟩ := hm
    refine hm.trans ?_
    have hS' : (m.access r).setOn M ⊆ S := (Memref.setOn_access_subset m r M).trans hS
    iintro ⟨⟨%f, Hf⟩, Hk⟩
    have hst : (View.loc c m.view ↦[S]{fullShare} f) ⊢
        iprop(((View.loc c m.view ↦[S]{fullShare} (View.write Val (m.access r) f w M)) -∗
          wp frame (wpE defs 𝒱 c bd) E (k PUnit.unit) (fun _ => I)) -∗
            wp frame (wpE defs 𝒱 c bd) E (.op (.store m r w M hx hu) k) (fun _ => I)) :=
      wp_store 𝒱 c bd E (Q := fun _ => I) (w := w) (hx := hx) (hm := hu) (k := k) (Mk := M) (f := f) hS'
    iapply hst $$ Hf
    iintro Hf
    iapply (ih _)
    iapply Hk
    iexists _; iexact Hf

end Cert.AnyContents

end
-- ==== Proof.MixIdealParts.lean ====
/- The mixers' body only loads from and stores to the buffers it is called on, part by part. -/
module

public import proofs.«01_k».proof.Proof.Gen.MixIdeal.Launch
public import proofs.«01_k».proof.Proof.AnyContents

@[expose] public section

set_option maxRecDepth 16384

noncomputable section

namespace Cert.MixIdeal.Hand

open Cert.MixIdeal Cert.MixIdeal.Gen Cert.AnyContents Idealize.ShloMosaic Idealize.ShloMosaic.TcCoe
open Idealize.SL Idealize.SL.RA Idealize.SL.BI Idealize.ShloMosaic.Rounds

variable {F : FTy → Type} [FloatOps F]
variable {I : sProp (MT nD τ sig Unit (Elt F) ℕ (UR sig nD τ) ℕ)} {c : Dev nD}

/-- Every buffer the body is called on is held. -/
structure Bufs (I : sProp (MT nD τ sig Unit (Elt F) ℕ (UR sig nD τ) ℕ)) (c : Dev nD)
  (a2 : Memref sig .tc .vmem S8x257 .f32) (a3 : Memref sig .tc .vmem S256x2048 .bf16) (a4 : Memref sig .tc .vmem S256x2048 .bf16) (a5 : Memref sig .tc .vmem S256x2048 .bf16) (a6 : Memref sig .tc .vmem S256x2048 .bf16) (a7 : Memref sig .tc .vmem S256x4096 .bf16) (a8 : Memref sig .tc .vmem S256x1024 .f32) (a9 : Memref sig .tc .vmem S1x128 .f32) (a10 : Memref sig .tc .vmem S256x2048 .bf16) (a11 : Memref sig .tc .vmem S8x256x768 .f32) (a12 : Memref sig .tc .vmem S8x128x128 .f32) (a13 : Memref sig .tc .vmem S8x128x128 .f32) (a14 : Memref sig .tc .vmem S256x1024 .f32) (a15 : Memref sig .tc .vmem S256x1024 .f32) (a16 : Memref sig .tc .vmem S256x1024 .f32) (a17 : Memref sig .tc .vmem S256x1024 .f32) (a18 : Memref sig .tc .vmem S256x1024 .f32) : Prop where
  h2 : Held I (c : Thread nD τ) a2
  h3 : Held I (c : Thread nD τ) a3
  h4 : Held I (c : Thread nD τ) a4
  h5 : Held I (c : Thread nD τ) a5
  h6 : Held I (c : Thread nD τ) a6
  h7 : Held I (c : Thread nD τ) a7
  h8 : Held I (c : Thread nD τ) a8
  h9 : Held I (c : Thread nD τ) a9
  h10 : Held I (c : Thread nD τ) a10
  h11 : Held I (c : Thread nD τ) a11
  h12 : Held I (c : Thread nD τ) a12
  h13 : Held I (c : Thread nD τ) a13
  h14 : Held I (c : Thread nD τ) a14
  h15 : Held I (c : Thread nD τ) a15
  h16 : Held I (c : Thread nD τ) a16
  h17 : Held I (c : Thread nD τ) a17
  h18 : Held I (c : Thread nD τ) a18

variable {i : grid0.Coords} {a2 : Memref sig .tc .vmem S8x257 .f32} {h2 : a2.IsWhole} {a3 : Memref sig .tc .vmem S256x2048 .bf16} {h3 : a3.IsWhole} {a4 : Memref sig .tc .vmem S256x2048 .bf16} {h4 : a4.IsWhole} {a5 : Memref sig .tc .vmem S256x2048 .bf16} {h5 : a5.IsWhole} {a6 : Memref sig .tc .vmem S256x2048 .bf16} {h6 : a6.IsWhole} {a7 : Memref sig .tc .vmem S256x4096 .bf16} {h7 : a7.IsWhole} {a8 : Memref sig .tc .vmem S256x1024 .f32} {h8 : a8.IsWhole} {a9 : Memref sig .tc .vmem S1x128 .f32} {h9 : a9.IsWhole} {a10 : Memref sig .tc .vmem S256x2048 .bf16} {h10 : a10.IsWhole} {a11 : Memref sig .tc .vmem S8x256x768 .f32} {h11 : a11.IsWhole} {a12 : Memref sig .tc .vmem S8x128x128 .f32} {h12 : a12.IsWhole} {a13 : Memref sig .tc .vmem S8x128x128 .f32} {h13 : a13.IsWhole} {a14 : Memref sig .tc .vmem S256x1024 .f32} {h14 : a14.IsWhole} {a15 : Memref sig .tc .vmem S256x1024 .f32} {h15 : a15.IsWhole} {a16 : Memref sig .tc .vmem S256x1024 .f32} {h16 : a16.IsWhole} {a17 : Memref sig .tc .vmem S256x1024 .f32} {h17 : a17.IsWhole} {a18 : Memref sig .tc .vmem S256x1024 .f32} {h18 : a18.IsWhole}
variable (H : Bufs I c a2 a3 a4 a5 a6 a7 a8 a9 a10 a11 a12 a13 a14 a15 a16 a17 a18)
include H

local notation "⟪" f "⟫" => f i a2 h2 a3 h3 a4 h4 a5 h5 a6 h6 a7 h7 a8 h8 a9 h9 a10 h10 a11 h11 a12 h12 a13 h13 a14 h14 a15 h15 a16 h16 a17 h17 a18 h18
local notation "𝕊" => Safe I (c : Thread nD τ)

theorem s1 : 𝕊 (⟪k0_part1⟫) := by
  unfold k0_part1; exact .ld H.h2 fun _=>.ld H.h11 fun _=>.st H.h11 fun _=>.ret _
theorem s2 {p q} : 𝕊 (⟪k0_part2⟫ p q) := by
  unfold k0_part2; exact .ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.ret _
theorem s3 {p q r s t u} : 𝕊 (⟪k0_part3⟫ p q r s t u) := by
  unfold k0_part3; exact .st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ret _
theorem s4 {p q r} : 𝕊 (⟪k0_part4⟫ p q r) := by
  unfold k0_part4; exact .ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.ret _
theorem s5 {p q r s t u} : 𝕊 (⟪k0_part5⟫ p q r s t u) := by
  unfold k0_part5; exact .st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ret _
theorem s6 {p q} : 𝕊 (⟪k0_part6⟫ p q) := by
  unfold k0_part6; exact .ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ret _
theorem s7 {p q r s t u} : 𝕊 (⟪k0_part7⟫ p q r s t u) := by
  unfold k0_part7; exact .ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ret _
theorem s8 {p q r} : 𝕊 (⟪k0_part8⟫ p q r) := by
  unfold k0_part8; exact .ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ret _
theorem s9 {p q r s t} : 𝕊 (⟪k0_part9⟫ p q r s t) := by
  unfold k0_part9; exact .ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.ret _
theorem s10 {p q r} : 𝕊 (⟪k0_part10⟫ p q r) := by
  unfold k0_part10; exact .st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ret _
theorem s11 {p q r s t u} : 𝕊 (⟪k0_part11⟫ p q r s t u) := by
  unfold k0_part11; exact .ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ret _
theorem s12 {p q r} : 𝕊 (⟪k0_part12⟫ p q r) := by
  unfold k0_part12; exact .ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ret _
theorem s13 {p q r s t} : 𝕊 (⟪k0_part13⟫ p q r s t) := by
  unfold k0_part13; exact .ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ret _
theorem s14 {p q} : 𝕊 (⟪k0_part14⟫ p q) := by
  unfold k0_part14; exact .ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ret _
theorem s15 {p q r s t} : 𝕊 (⟪k0_part15⟫ p q r s t) := by
  unfold k0_part15; exact .ld H.h11 fun _=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.ret _
theorem s16 : 𝕊 (⟪k0_part16⟫) := by
  unfold k0_part16; exact .bind (s1 H) fun ⟨_,_,_,_,_⟩=>.bind (s2 H) fun _=>.bind (s3 H) fun ⟨_,_⟩=>.bind (s4 H) fun _=>.bind (s5 H) fun _=>.bind (s6 H) fun _=>.bind (s7 H) fun ⟨_,_⟩=>.bind (s8 H) fun _=>.bind (s9 H) fun ⟨_,_⟩=>.bind (s10 H) fun _=>.bind (s11 H) fun ⟨_,_⟩=>.bind (s12 H) fun _=>.bind (s13 H) fun _=>.bind (s14 H) fun _=>.bind (s15 H) fun ⟨_,_⟩=>.st H.h11 fun _=>.ld H.h11 fun _=>.st H.h11 fun _=>.ld H.h11 fun _=>.st H.h11 fun _=>.ld H.h11 fun _=>.st H.h11 fun _=>.ld H.h11 fun _=>.st H.h11 fun _=>.ld H.h11 fun _=>.ret _
theorem s17 {p q r s t} : 𝕊 (⟪k0_part17⟫ p q r s t) := by
  unfold k0_part17; exact .ld H.h15 fun _=>.ld H.h16 fun _=>.ld H.h17 fun _=>.ld H.h17 fun _=>.ld H.h14 fun _=>.ret _
theorem s18 {p q r s t u v w x} : 𝕊 (⟪k0_part18⟫ p q r s t u v w x) := by
  unfold k0_part18; exact .ld H.h18 fun _=>.ld H.h18 fun _=>.st H.h18 fun _=>.ld H.h17 fun _=>.ld H.h14 fun _=>.ld H.h18 fun _=>.ld H.h18 fun _=>.st H.h18 fun _=>.ld H.h17 fun _=>.ret _
theorem s19 {p q r s t u v w x} : 𝕊 (⟪k0_part19⟫ p q r s t u v w x) := by
  unfold k0_part19; exact .ld H.h14 fun _=>.ld H.h18 fun _=>.ld H.h18 fun _=>.st H.h18 fun _=>.ld H.h17 fun _=>.ld H.h14 fun _=>.ret _
theorem s20 {p q r s t u v w x} : 𝕊 (⟪k0_part20⟫ p q r s t u v w x) := by
  unfold k0_part20; exact .ld H.h18 fun _=>.ld H.h18 fun _=>.st H.h18 fun _=>.ld H.h17 fun _=>.ld H.h14 fun _=>.ld H.h18 fun _=>.ld H.h18 fun _=>.st H.h18 fun _=>.ld H.h17 fun _=>.ret _
theorem s21 {p q r s t u v w x} : 𝕊 (⟪k0_part21⟫ p q r s t u v w x) := by
  unfold k0_part21; exact .ld H.h14 fun _=>.ld H.h18 fun _=>.ld H.h18 fun _=>.st H.h18 fun _=>.ld H.h17 fun _=>.ld H.h14 fun _=>.ret _
theorem s22 {p q r s t} : 𝕊 (⟪k0_part22⟫ p q r s t) := by
  unfold k0_part22; exact .bind (s17 H) fun ⟨_,_,_,_,_,_⟩=>.bind (s18 H) fun _=>.bind (s19 H) fun _=>.bind (s20 H) fun _=>.bind (s21 H) fun _=>.ld H.h18 fun _=>.ld H.h18 fun _=>.st H.h18 fun _=>.ld H.h17 fun _=>.ld H.h14 fun _=>.ld H.h18 fun _=>.ld H.h18 fun _=>.ret _
theorem s23 : 𝕊 (⟪k0_part23⟫) := by
  unfold k0_part23; exact .ld H.h7 fun _=>.ld H.h14 fun _=>.st H.h14 fun _=>.ld H.h7 fun _=>.ld H.h15 fun _=>.st H.h15 fun _=>.ld H.h7 fun _=>.ld H.h16 fun _=>.st H.h16 fun _=>.ld H.h7 fun _=>.ld H.h14 fun _=>.st H.h14 fun _=>.ld H.h7 fun _=>.ld H.h15 fun _=>.st H.h15 fun _=>.ld H.h7 fun _=>.ld H.h16 fun _=>.st H.h16 fun _=>.ret _
theorem s24 : 𝕊 (⟪k0_part24⟫) := by
  unfold k0_part24; exact .ld H.h7 fun _=>.ld H.h14 fun _=>.st H.h14 fun _=>.ld H.h7 fun _=>.ld H.h15 fun _=>.st H.h15 fun _=>.ld H.h7 fun _=>.ld H.h16 fun _=>.st H.h16 fun _=>.ld H.h7 fun _=>.ld H.h14 fun _=>.st H.h14 fun _=>.ld H.h7 fun _=>.ld H.h15 fun _=>.st H.h15 fun _=>.ld H.h7 fun _=>.ld H.h16 fun _=>.st H.h16 fun _=>.ret _
theorem s25 : 𝕊 (⟪k0_part25⟫) := by
  unfold k0_part25; exact .ld H.h7 fun _=>.ld H.h14 fun _=>.st H.h14 fun _=>.ld H.h7 fun _=>.ld H.h15 fun _=>.st H.h15 fun _=>.ld H.h7 fun _=>.ld H.h16 fun _=>.st H.h16 fun _=>.ld H.h7 fun _=>.ld H.h14 fun _=>.st H.h14 fun _=>.ld H.h7 fun _=>.ld H.h15 fun _=>.st H.h15 fun _=>.ld H.h7 fun _=>.ld H.h16 fun _=>.st H.h16 fun _=>.ret _
theorem s26 : 𝕊 (⟪k0_part26⟫) := by
  unfold k0_part26; exact .ld H.h7 fun _=>.ld H.h14 fun _=>.st H.h14 fun _=>.ld H.h7 fun _=>.ld H.h15 fun _=>.st H.h15 fun _=>.ld H.h7 fun _=>.ld H.h16 fun _=>.st H.h16 fun _=>.ld H.h7 fun _=>.ld H.h14 fun _=>.st H.h14 fun _=>.ld H.h7 fun _=>.ld H.h15 fun _=>.st H.h15 fun _=>.ld H.h7 fun _=>.ld H.h16 fun _=>.st H.h16 fun _=>.ret _
theorem s27 {p q r s t} : 𝕊 (⟪k0_part27⟫ p q r s t) := by
  unfold k0_part27; exact .ld H.h17 fun _=>.st H.h17 fun _=>.ld H.h18 fun _=>.st H.h18 fun _=>.bind (.loop fun _ _=>.bind (s22 H) fun _=>.st H.h18 fun _=>.ret _) fun _=>.ld H.h7 fun _=>.ld H.h7 fun _=>.ld H.h7 fun _=>.ret _
theorem s28 {p q r s t u v} : 𝕊 (⟪k0_part28⟫ p q r s t u v) := by
  unfold k0_part28; exact .ld H.h13 fun _=>.ld H.h18 fun _=>.ret _
theorem s29 {p q r s t u v} : 𝕊 (⟪k0_part29⟫ p q r s t u v) := by
  unfold k0_part29; exact .ld H.h7 fun _=>.ld (H.h10.slice _ _) fun _=>.st H.h10 fun _=>.ld H.h7 fun _=>.ld H.h7 fun _=>.ld H.h7 fun _=>.ret _
theorem s30 {p q r s t u v} : 𝕊 (⟪k0_part30⟫ p q r s t u v) := by
  unfold k0_part30; exact .ld H.h13 fun _=>.ld H.h18 fun _=>.ret _
theorem s31 {p q r s t} : 𝕊 (⟪k0_part31⟫ p q r s t) := by
  unfold k0_part31; exact .ld H.h7 fun _=>.ld (H.h10.slice _ _) fun _=>.st H.h10 fun _=>.ld H.h7 fun _=>.ld H.h7 fun _=>.ld H.h7 fun _=>.ret _
theorem s32 {p q r s t u v} : 𝕊 (⟪k0_part32⟫ p q r s t u v) := by
  unfold k0_part32; exact .ld H.h13 fun _=>.ret _
theorem s33 {p q r s t} : 𝕊 (⟪k0_part33⟫ p q r s t) := by
  unfold k0_part33; exact .ld H.h18 fun _=>.ld H.h7 fun _=>.ld (H.h10.slice _ _) fun _=>.st H.h10 fun _=>.ld H.h7 fun _=>.ld H.h7 fun _=>.ld H.h7 fun _=>.ret _
theorem s34 {p q r s t u v} : 𝕊 (⟪k0_part34⟫ p q r s t u v) := by
  unfold k0_part34; exact .ld H.h13 fun _=>.ret _
theorem s35 {p q r s t u v} : 𝕊 (⟪k0_part35⟫ p q r s t u v) := by
  unfold k0_part35; exact .ld H.h18 fun _=>.ld H.h7 fun _=>.ld (H.h10.slice _ _) fun _=>.st H.h10 fun _=>.ld H.h7 fun _=>.ld H.h7 fun _=>.ld H.h7 fun _=>.ret _
theorem s36 {p q r s t u v w x y} : 𝕊 (⟪k0_part36⟫ p q r s t u v w x y) := by
  unfold k0_part36; exact .ret _
theorem s37 {p q r s t u v} : 𝕊 (⟪k0_part37⟫ p q r s t u v) := by
  unfold k0_part37; exact .ld H.h13 fun _=>.ld H.h18 fun _=>.ld H.h7 fun _=>.ld (H.h10.slice _ _) fun _=>.st H.h10 fun _=>.ld H.h7 fun _=>.ld H.h7 fun _=>.ld H.h7 fun _=>.ret _
theorem s38 {p q r s t u v w x} : 𝕊 (⟪k0_part38⟫ p q r s t u v w x) := by
  unfold k0_part38; exact .ret _
theorem s39 {p q r s t u v w x} : 𝕊 (⟪k0_part39⟫ p q r s t u v w x) := by
  unfold k0_part39; exact .ld H.h13 fun _=>.ld H.h18 fun _=>.ld H.h7 fun _=>.ld (H.h10.slice _ _) fun _=>.st H.h10 fun _=>.ld H.h7 fun _=>.ld H.h7 fun _=>.ld H.h7 fun _=>.ret _
theorem s40 {p q r s t u v w x} : 𝕊 (⟪k0_part40⟫ p q r s t u v w x) := by
  unfold k0_part40; exact .ret _
theorem s41 {p q r s t u} : 𝕊 (⟪k0_part41⟫ p q r s t u) := by
  unfold k0_part41; exact .ld H.h13 fun _=>.ld H.h18 fun _=>.ld H.h7 fun _=>.ld (H.h10.slice _ _) fun _=>.st H.h10 fun _=>.ld H.h7 fun _=>.ld H.h7 fun _=>.ld H.h7 fun _=>.ret _
theorem s42 {p q r s t u v} : 𝕊 (⟪k0_part42⟫ p q r s t u v) := by
  unfold k0_part42; exact .ret _
theorem s43 {p q r s t u v} : 𝕊 (⟪k0_part43⟫ p q r s t u v) := by
  unfold k0_part43; exact .bind (s23 H) fun _=>.bind (s24 H) fun _=>.bind (s25 H) fun _=>.bind (s26 H) fun _=>.bind (s27 H) fun ⟨_,_,_,_,_,_⟩=>.bind (s28 H) fun ⟨_,_⟩=>.bind (s29 H) fun ⟨_,_,_,_,_,_⟩=>.bind (s30 H) fun _=>.bind (s31 H) fun ⟨_,_,_,_,_⟩=>.bind (s32 H) fun _=>.bind (s33 H) fun ⟨_,_,_,_,_⟩=>.bind (s34 H) fun ⟨_,_,_⟩=>.bind (s35 H) fun ⟨_,_,_,_,_,_,_,_⟩=>.bind (s36 H) fun ⟨_,_⟩=>.bind (s37 H) fun ⟨_,_,_,_,_,_,_,_⟩=>.bind (s38 H) fun ⟨_,_,_⟩=>.bind (s39 H) fun ⟨_,_,_,_,_,_,_⟩=>.bind (s40 H) fun ⟨_,_,_⟩=>.bind (s41 H) fun ⟨_,_,_⟩=>.bind (s42 H) fun ⟨_,_,_,_,_⟩=>.ld H.h13 fun _=>.ld H.h18 fun _=>.ret _
theorem s44 : 𝕊 (⟪k0_part44⟫) := by
  unfold k0_part44; exact .ret _
theorem s45 {p q r s t} : 𝕊 (⟪k0_part45⟫ p q r s t) := by
  unfold k0_part45; exact .ld H.h9 fun _=>.ld H.h8 fun _=>.ret _
theorem s46 {p q r s t u} : 𝕊 (⟪k0_part46⟫ p q r s t u) := by
  unfold k0_part46; exact .ret _
theorem s47 {p q r s t u v w x} : 𝕊 (⟪k0_part47⟫ p q r s t u v w x) := by
  unfold k0_part47; exact .ld H.h7 fun _=>.ld H.h7 fun _=>.ld H.h12 fun _=>.ld H.h13 fun _=>.st H.h13 fun _=>.ret _
theorem s48 {p q r s t u v w x} : 𝕊 (⟪k0_part48⟫ p q r s t u v w x) := by
  unfold k0_part48; exact .ret _
theorem s49 {p q r s t u v w x y z j k l m} : 𝕊 (⟪k0_part49⟫ p q r s t u v w x y z j k l m) := by
  unfold k0_part49; exact .ld H.h7 fun _=>.ld H.h7 fun _=>.ld H.h7 fun _=>.ld H.h12 fun _=>.ld H.h13 fun _=>.st H.h13 fun _=>.ret _
theorem s50 {p q r s t u v w} : 𝕊 (⟪k0_part50⟫ p q r s t u v w) := by
  unfold k0_part50; exact .ret _
theorem s51 {p q r s t u v w x y z j k l m n o b d e} : 𝕊 (⟪k0_part51⟫ p q r s t u v w x y z j k l m n o b d e) := by
  unfold k0_part51; exact .ld H.h7 fun _=>.ld H.h12 fun _=>.st H.h12 fun _=>.ret _
theorem s52 {p q r s t u v} : 𝕊 (⟪k0_part52⟫ p q r s t u v) := by
  unfold k0_part52; exact .ld H.h7 fun _=>.ld (H.h10.slice _ _) fun _=>.st H.h10 fun _=>.ld H.h12 fun _=>.st H.h12 fun _=>.ld H.h7 fun _=>.ret _
theorem s53 {p q r s t u v w x} : 𝕊 (⟪k0_part53⟫ p q r s t u v w x) := by
  unfold k0_part53; exact .ld (H.h10.slice _ _) fun _=>.st H.h10 fun _=>.ld H.h7 fun _=>.ld H.h7 fun _=>.ld H.h12 fun _=>.ld H.h13 fun _=>.st H.h13 fun _=>.ret _
theorem s54 {p q r s t u v w} : 𝕊 (⟪k0_part54⟫ p q r s t u v w) := by
  unfold k0_part54; exact .ret _
theorem s55 {p q r s t u v w x y z j k l m} : 𝕊 (⟪k0_part55⟫ p q r s t u v w x y z j k l m) := by
  unfold k0_part55; exact .ld H.h7 fun _=>.ld H.h7 fun _=>.ld H.h7 fun _=>.ld H.h12 fun _=>.ld H.h13 fun _=>.st H.h13 fun _=>.ret _
theorem s56 {p q r s t u v w x y z} : 𝕊 (⟪k0_part56⟫ p q r s t u v w x y z) := by
  unfold k0_part56; exact .ret _
theorem s57 {p q r s t u v w x y z j k l m n o b d e g} : 𝕊 (⟪k0_part57⟫ p q r s t u v w x y z j k l m n o b d e g) := by
  unfold k0_part57; exact .ld H.h7 fun _=>.ld H.h12 fun _=>.st H.h12 fun _=>.ret _
theorem s58 {p q r s t u v} : 𝕊 (⟪k0_part58⟫ p q r s t u v) := by
  unfold k0_part58; exact .ld H.h7 fun _=>.ld (H.h10.slice _ _) fun _=>.st H.h10 fun _=>.ld H.h12 fun _=>.st H.h12 fun _=>.ld H.h7 fun _=>.ret _
theorem s59 {p q r s t u v w} : 𝕊 (⟪k0_part59⟫ p q r s t u v w) := by
  unfold k0_part59; exact .ld (H.h10.slice _ _) fun _=>.st H.h10 fun _=>.ld H.h7 fun _=>.ld H.h7 fun _=>.ld H.h12 fun _=>.ld H.h13 fun _=>.st H.h13 fun _=>.ret _
theorem s60 {p q r s t u v w} : 𝕊 (⟪k0_part60⟫ p q r s t u v w) := by
  unfold k0_part60; exact .ret _
theorem s61 {p q r s t u v w x y z j k l m n o b} : 𝕊 (⟪k0_part61⟫ p q r s t u v w x y z j k l m n o b) := by
  unfold k0_part61; exact .ld H.h7 fun _=>.ld H.h7 fun _=>.ld H.h7 fun _=>.ld H.h12 fun _=>.ld H.h13 fun _=>.st H.h13 fun _=>.ret _
theorem s62 {p q r s t u v w x y z} : 𝕊 (⟪k0_part62⟫ p q r s t u v w x y z) := by
  unfold k0_part62; exact .ret _
theorem s63 {p q r s t u v w x y z j k l m n o b d e} : 𝕊 (⟪k0_part63⟫ p q r s t u v w x y z j k l m n o b d e) := by
  unfold k0_part63; exact .ld H.h7 fun _=>.ld H.h12 fun _=>.st H.h12 fun _=>.ret _
theorem s64 {p q r s t u v} : 𝕊 (⟪k0_part64⟫ p q r s t u v) := by
  unfold k0_part64; exact .ld H.h7 fun _=>.ld (H.h10.slice _ _) fun _=>.st H.h10 fun _=>.ld H.h12 fun _=>.st H.h12 fun _=>.ld H.h7 fun _=>.ret _
theorem s65 {p q r s t u v w x} : 𝕊 (⟪k0_part65⟫ p q r s t u v w x) := by
  unfold k0_part65; exact .ld (H.h10.slice _ _) fun _=>.st H.h10 fun _=>.ld H.h7 fun _=>.ld H.h7 fun _=>.ld H.h12 fun _=>.ld H.h13 fun _=>.st H.h13 fun _=>.ret _
theorem s66 {p q r s t u v w} : 𝕊 (⟪k0_part66⟫ p q r s t u v w) := by
  unfold k0_part66; exact .ret _
theorem s67 {p q r s t u v w x y z j k l m n o b} : 𝕊 (⟪k0_part67⟫ p q r s t u v w x y z j k l m n o b) := by
  unfold k0_part67; exact .ld H.h7 fun _=>.ld H.h7 fun _=>.ld H.h7 fun _=>.ld H.h12 fun _=>.ld H.h13 fun _=>.st H.h13 fun _=>.ret _
theorem s68 {p q r s t u v w x y z} : 𝕊 (⟪k0_part68⟫ p q r s t u v w x y z) := by
  unfold k0_part68; exact .ret _
theorem s69 {p q r s t u v w x y z j k l m n o b d} : 𝕊 (⟪k0_part69⟫ p q r s t u v w x y z j k l m n o b d) := by
  unfold k0_part69; exact .ld H.h7 fun _=>.ld H.h12 fun _=>.ret _
theorem s70 {p q r s t u} : 𝕊 (⟪k0_part70⟫ p q r s t u) := by
  unfold k0_part70; exact .st H.h12 fun _=>.ld H.h7 fun _=>.ld (H.h10.slice _ _) fun _=>.st H.h10 fun _=>.ld H.h12 fun _=>.st H.h12 fun _=>.ret _
theorem s71 {p} : 𝕊 (⟪k0_part71⟫ p) := by
  unfold k0_part71; exact .ld H.h7 fun _=>.ld (H.h10.slice _ _) fun _=>.st H.h10 fun _=>.ld H.h3 fun _=>.ld H.h6 fun _=>.ld H.h11 fun _=>.ld H.h6 fun _=>.ld H.h3 fun _=>.ld (H.h10.slice _ _) fun _=>.st H.h10 fun _=>.ret _
theorem s72 {p} : 𝕊 (⟪k0_part72⟫ p) := by
  unfold k0_part72; exact .ld H.h3 fun _=>.ld H.h6 fun _=>.ld H.h11 fun _=>.ld H.h6 fun _=>.ld H.h3 fun _=>.ld (H.h10.slice _ _) fun _=>.st H.h10 fun _=>.ld H.h3 fun _=>.ld H.h6 fun _=>.ld H.h11 fun _=>.ret _
theorem s73 {p q r} : 𝕊 (⟪k0_part73⟫ p q r) := by
  unfold k0_part73; exact .ld H.h6 fun _=>.ld H.h3 fun _=>.ld (H.h10.slice _ _) fun _=>.st H.h10 fun _=>.ld H.h3 fun _=>.ld H.h6 fun _=>.ld H.h11 fun _=>.ld H.h6 fun _=>.ld H.h3 fun _=>.ret _
theorem s74 {p q r} : 𝕊 (⟪k0_part74⟫ p q r) := by
  unfold k0_part74; exact .ld (H.h10.slice _ _) fun _=>.st H.h10 fun _=>.ld H.h3 fun _=>.ld H.h6 fun _=>.ld H.h11 fun _=>.ld H.h6 fun _=>.ld H.h3 fun _=>.ld (H.h10.slice _ _) fun _=>.st H.h10 fun _=>.ld H.h3 fun _=>.ret _
theorem s75 {p q} : 𝕊 (⟪k0_part75⟫ p q) := by
  unfold k0_part75; exact .ld H.h6 fun _=>.ld H.h11 fun _=>.ld H.h6 fun _=>.ld H.h3 fun _=>.ld (H.h10.slice _ _) fun _=>.st H.h10 fun _=>.ld H.h3 fun _=>.ld H.h6 fun _=>.ld H.h11 fun _=>.ret _
theorem s76 {p q} : 𝕊 (⟪k0_part76⟫ p q) := by
  unfold k0_part76; exact .ld H.h6 fun _=>.ld H.h3 fun _=>.ld (H.h10.slice _ _) fun _=>.st H.h10 fun _=>.ld H.h3 fun _=>.ld H.h6 fun _=>.ld H.h11 fun _=>.ld H.h6 fun _=>.ld H.h3 fun _=>.ret _
theorem s77 {p q r s t} : 𝕊 (⟪k0_part77⟫ p q r s t) := by
  unfold k0_part77; exact .ld H.h15 fun _=>.ld H.h16 fun _=>.ld H.h17 fun _=>.ld H.h17 fun _=>.ld H.h14 fun _=>.ret _
theorem s78 {p q r s t u v w x} : 𝕊 (⟪k0_part78⟫ p q r s t u v w x) := by
  unfold k0_part78; exact .ld H.h18 fun _=>.ld H.h18 fun _=>.st H.h18 fun _=>.ld H.h17 fun _=>.ld H.h14 fun _=>.ld H.h18 fun _=>.ld H.h18 fun _=>.st H.h18 fun _=>.ld H.h17 fun _=>.ret _
theorem s79 {p q r s t u v w x} : 𝕊 (⟪k0_part79⟫ p q r s t u v w x) := by
  unfold k0_part79; exact .ld H.h14 fun _=>.ld H.h18 fun _=>.ld H.h18 fun _=>.st H.h18 fun _=>.ld H.h17 fun _=>.ld H.h14 fun _=>.ret _
theorem s80 {p q r s t u v w x} : 𝕊 (⟪k0_part80⟫ p q r s t u v w x) := by
  unfold k0_part80; exact .ld H.h18 fun _=>.ld H.h18 fun _=>.st H.h18 fun _=>.ld H.h17 fun _=>.ld H.h14 fun _=>.ld H.h18 fun _=>.ld H.h18 fun _=>.st H.h18 fun _=>.ld H.h17 fun _=>.ret _
theorem s81 {p q r s t u v w x} : 𝕊 (⟪k0_part81⟫ p q r s t u v w x) := by
  unfold k0_part81; exact .ld H.h14 fun _=>.ld H.h18 fun _=>.ld H.h18 fun _=>.st H.h18 fun _=>.ld H.h17 fun _=>.ld H.h14 fun _=>.ret _
theorem s82 {p q r s t} : 𝕊 (⟪k0_part82⟫ p q r s t) := by
  unfold k0_part82; exact .bind (s77 H) fun ⟨_,_,_,_,_,_⟩=>.bind (s78 H) fun _=>.bind (s79 H) fun _=>.bind (s80 H) fun _=>.bind (s81 H) fun _=>.ld H.h18 fun _=>.ld H.h18 fun _=>.st H.h18 fun _=>.ld H.h17 fun _=>.ld H.h14 fun _=>.ld H.h18 fun _=>.ld H.h18 fun _=>.ret _
theorem s83 : 𝕊 (⟪k0_part83⟫) := by
  unfold k0_part83; exact .ld H.h7 fun _=>.ld H.h14 fun _=>.st H.h14 fun _=>.ld H.h7 fun _=>.ld H.h15 fun _=>.st H.h15 fun _=>.ld H.h7 fun _=>.ld H.h16 fun _=>.st H.h16 fun _=>.ld H.h7 fun _=>.ld H.h14 fun _=>.st H.h14 fun _=>.ld H.h7 fun _=>.ld H.h15 fun _=>.st H.h15 fun _=>.ld H.h7 fun _=>.ld H.h16 fun _=>.st H.h16 fun _=>.ret _
theorem s84 : 𝕊 (⟪k0_part84⟫) := by
  unfold k0_part84; exact .ld H.h7 fun _=>.ld H.h14 fun _=>.st H.h14 fun _=>.ld H.h7 fun _=>.ld H.h15 fun _=>.st H.h15 fun _=>.ld H.h7 fun _=>.ld H.h16 fun _=>.st H.h16 fun _=>.ld H.h7 fun _=>.ld H.h14 fun _=>.st H.h14 fun _=>.ld H.h7 fun _=>.ld H.h15 fun _=>.st H.h15 fun _=>.ld H.h7 fun _=>.ld H.h16 fun _=>.st H.h16 fun _=>.ret _
theorem s85 : 𝕊 (⟪k0_part85⟫) := by
  unfold k0_part85; exact .ld H.h7 fun _=>.ld H.h14 fun _=>.st H.h14 fun _=>.ld H.h7 fun _=>.ld H.h15 fun _=>.st H.h15 fun _=>.ld H.h7 fun _=>.ld H.h16 fun _=>.st H.h16 fun _=>.ld H.h7 fun _=>.ld H.h14 fun _=>.st H.h14 fun _=>.ld H.h7 fun _=>.ld H.h15 fun _=>.st H.h15 fun _=>.ld H.h7 fun _=>.ld H.h16 fun _=>.st H.h16 fun _=>.ret _
theorem s86 : 𝕊 (⟪k0_part86⟫) := by
  unfold k0_part86; exact .ld H.h7 fun _=>.ld H.h14 fun _=>.st H.h14 fun _=>.ld H.h7 fun _=>.ld H.h15 fun _=>.st H.h15 fun _=>.ld H.h7 fun _=>.ld H.h16 fun _=>.st H.h16 fun _=>.ld H.h7 fun _=>.ld H.h14 fun _=>.st H.h14 fun _=>.ld H.h7 fun _=>.ld H.h15 fun _=>.st H.h15 fun _=>.ld H.h7 fun _=>.ld H.h16 fun _=>.st H.h16 fun _=>.ret _
theorem s87 {p q r s t} : 𝕊 (⟪k0_part87⟫ p q r s t) := by
  unfold k0_part87; exact .ld H.h17 fun _=>.st H.h17 fun _=>.ld H.h18 fun _=>.st H.h18 fun _=>.bind (.loop fun _ _=>.bind (s82 H) fun _=>.st H.h18 fun _=>.ret _) fun _=>.ld H.h7 fun _=>.ld H.h7 fun _=>.ld H.h7 fun _=>.ret _
theorem s88 {p q r s t u v} : 𝕊 (⟪k0_part88⟫ p q r s t u v) := by
  unfold k0_part88; exact .ld H.h13 fun _=>.ld H.h18 fun _=>.ret _
theorem s89 {p q r s t u v} : 𝕊 (⟪k0_part89⟫ p q r s t u v) := by
  unfold k0_part89; exact .ld H.h7 fun _=>.ld (H.h10.slice _ _) fun _=>.st H.h10 fun _=>.ld H.h7 fun _=>.ld H.h7 fun _=>.ld H.h7 fun _=>.ret _
theorem s90 {p q r s t u v} : 𝕊 (⟪k0_part90⟫ p q r s t u v) := by
  unfold k0_part90; exact .ld H.h13 fun _=>.ld H.h18 fun _=>.ret _
theorem s91 {p q r s t} : 𝕊 (⟪k0_part91⟫ p q r s t) := by
  unfold k0_part91; exact .ld H.h7 fun _=>.ld (H.h10.slice _ _) fun _=>.st H.h10 fun _=>.ld H.h7 fun _=>.ld H.h7 fun _=>.ld H.h7 fun _=>.ret _
theorem s92 {p q r s t u v} : 𝕊 (⟪k0_part92⟫ p q r s t u v) := by
  unfold k0_part92; exact .ld H.h13 fun _=>.ret _
theorem s93 {p q r s t} : 𝕊 (⟪k0_part93⟫ p q r s t) := by
  unfold k0_part93; exact .ld H.h18 fun _=>.ld H.h7 fun _=>.ld (H.h10.slice _ _) fun _=>.st H.h10 fun _=>.ld H.h7 fun _=>.ld H.h7 fun _=>.ld H.h7 fun _=>.ret _
theorem s94 {p q r s t u v} : 𝕊 (⟪k0_part94⟫ p q r s t u v) := by
  unfold k0_part94; exact .ld H.h13 fun _=>.ret _
theorem s95 {p q r s t u v} : 𝕊 (⟪k0_part95⟫ p q r s t u v) := by
  unfold k0_part95; exact .ld H.h18 fun _=>.ld H.h7 fun _=>.ld (H.h10.slice _ _) fun _=>.st H.h10 fun _=>.ld H.h7 fun _=>.ld H.h7 fun _=>.ld H.h7 fun _=>.ret _
theorem s96 {p q r s t u v w x y} : 𝕊 (⟪k0_part96⟫ p q r s t u v w x y) := by
  unfold k0_part96; exact .ret _
theorem s97 {p q r s t u v} : 𝕊 (⟪k0_part97⟫ p q r s t u v) := by
  unfold k0_part97; exact .ld H.h13 fun _=>.ld H.h18 fun _=>.ld H.h7 fun _=>.ld (H.h10.slice _ _) fun _=>.st H.h10 fun _=>.ld H.h7 fun _=>.ld H.h7 fun _=>.ld H.h7 fun _=>.ret _
theorem s98 {p q r s t u v w x} : 𝕊 (⟪k0_part98⟫ p q r s t u v w x) := by
  unfold k0_part98; exact .ret _
theorem s99 {p q r s t u v w x} : 𝕊 (⟪k0_part99⟫ p q r s t u v w x) := by
  unfold k0_part99; exact .ld H.h13 fun _=>.ld H.h18 fun _=>.ld H.h7 fun _=>.ld (H.h10.slice _ _) fun _=>.st H.h10 fun _=>.ld H.h7 fun _=>.ld H.h7 fun _=>.ld H.h7 fun _=>.ret _
theorem s100 {p q r s t u v w x} : 𝕊 (⟪k0_part100⟫ p q r s t u v w x) := by
  unfold k0_part100; exact .ret _
theorem s101 {p q r s t u} : 𝕊 (⟪k0_part101⟫ p q r s t u) := by
  unfold k0_part101; exact .ld H.h13 fun _=>.ld H.h18 fun _=>.ld H.h7 fun _=>.ld (H.h10.slice _ _) fun _=>.st H.h10 fun _=>.ld H.h7 fun _=>.ld H.h7 fun _=>.ld H.h7 fun _=>.ret _
theorem s102 {p q r s t u v} : 𝕊 (⟪k0_part102⟫ p q r s t u v) := by
  unfold k0_part102; exact .ret _
theorem s103 {p q r s t u v} : 𝕊 (⟪k0_part103⟫ p q r s t u v) := by
  unfold k0_part103; exact .bind (s83 H) fun _=>.bind (s84 H) fun _=>.bind (s85 H) fun _=>.bind (s86 H) fun _=>.bind (s87 H) fun ⟨_,_,_,_,_,_⟩=>.bind (s88 H) fun ⟨_,_⟩=>.bind (s89 H) fun ⟨_,_,_,_,_,_⟩=>.bind (s90 H) fun _=>.bind (s91 H) fun ⟨_,_,_,_,_⟩=>.bind (s92 H) fun _=>.bind (s93 H) fun ⟨_,_,_,_,_⟩=>.bind (s94 H) fun ⟨_,_,_⟩=>.bind (s95 H) fun ⟨_,_,_,_,_,_,_,_⟩=>.bind (s96 H) fun ⟨_,_⟩=>.bind (s97 H) fun ⟨_,_,_,_,_,_,_,_⟩=>.bind (s98 H) fun ⟨_,_,_⟩=>.bind (s99 H) fun ⟨_,_,_,_,_,_,_⟩=>.bind (s100 H) fun ⟨_,_,_⟩=>.bind (s101 H) fun ⟨_,_,_⟩=>.bind (s102 H) fun ⟨_,_,_,_,_⟩=>.ld H.h13 fun _=>.ld H.h18 fun _=>.ret _
theorem s104 : 𝕊 (⟪k0_part104⟫) := by
  unfold k0_part104; exact .ret _
theorem s105 {p q r s t} : 𝕊 (⟪k0_part105⟫ p q r s t) := by
  unfold k0_part105; exact .ld H.h9 fun _=>.ld H.h8 fun _=>.ret _
theorem s106 {p q r s t u} : 𝕊 (⟪k0_part106⟫ p q r s t u) := by
  unfold k0_part106; exact .ret _
theorem s107 {p q r s t u v w x} : 𝕊 (⟪k0_part107⟫ p q r s t u v w x) := by
  unfold k0_part107; exact .ld H.h7 fun _=>.ld H.h7 fun _=>.ld H.h12 fun _=>.ld H.h13 fun _=>.st H.h13 fun _=>.ret _
theorem s108 {p q r s t u v w x} : 𝕊 (⟪k0_part108⟫ p q r s t u v w x) := by
  unfold k0_part108; exact .ret _
theorem s109 {p q r s t u v w x y z j k l m} : 𝕊 (⟪k0_part109⟫ p q r s t u v w x y z j k l m) := by
  unfold k0_part109; exact .ld H.h7 fun _=>.ld H.h7 fun _=>.ld H.h7 fun _=>.ld H.h12 fun _=>.ld H.h13 fun _=>.st H.h13 fun _=>.ret _
theorem s110 {p q r s t u v w} : 𝕊 (⟪k0_part110⟫ p q r s t u v w) := by
  unfold k0_part110; exact .ret _
theorem s111 {p q r s t u v w x y z j k l m n o b d e} : 𝕊 (⟪k0_part111⟫ p q r s t u v w x y z j k l m n o b d e) := by
  unfold k0_part111; exact .ld H.h7 fun _=>.ld H.h12 fun _=>.st H.h12 fun _=>.ret _
theorem s112 {p q r s t u v} : 𝕊 (⟪k0_part112⟫ p q r s t u v) := by
  unfold k0_part112; exact .ld H.h7 fun _=>.ld (H.h10.slice _ _) fun _=>.st H.h10 fun _=>.ld H.h12 fun _=>.st H.h12 fun _=>.ld H.h7 fun _=>.ret _
theorem s113 {p q r s t u v w x} : 𝕊 (⟪k0_part113⟫ p q r s t u v w x) := by
  unfold k0_part113; exact .ld (H.h10.slice _ _) fun _=>.st H.h10 fun _=>.ld H.h7 fun _=>.ld H.h7 fun _=>.ld H.h12 fun _=>.ld H.h13 fun _=>.st H.h13 fun _=>.ret _
theorem s114 {p q r s t u v w} : 𝕊 (⟪k0_part114⟫ p q r s t u v w) := by
  unfold k0_part114; exact .ret _
theorem s115 {p q r s t u v w x y z j k l m} : 𝕊 (⟪k0_part115⟫ p q r s t u v w x y z j k l m) := by
  unfold k0_part115; exact .ld H.h7 fun _=>.ld H.h7 fun _=>.ld H.h7 fun _=>.ld H.h12 fun _=>.ld H.h13 fun _=>.st H.h13 fun _=>.ret _
theorem s116 {p q r s t u v w x y z} : 𝕊 (⟪k0_part116⟫ p q r s t u v w x y z) := by
  unfold k0_part116; exact .ret _
theorem s117 {p q r s t u v w x y z j k l m n o b d e g} : 𝕊 (⟪k0_part117⟫ p q r s t u v w x y z j k l m n o b d e g) := by
  unfold k0_part117; exact .ld H.h7 fun _=>.ld H.h12 fun _=>.st H.h12 fun _=>.ret _
theorem s118 {p q r s t u v} : 𝕊 (⟪k0_part118⟫ p q r s t u v) := by
  unfold k0_part118; exact .ld H.h7 fun _=>.ld (H.h10.slice _ _) fun _=>.st H.h10 fun _=>.ld H.h12 fun _=>.st H.h12 fun _=>.ld H.h7 fun _=>.ret _
theorem s119 {p q r s t u v w} : 𝕊 (⟪k0_part119⟫ p q r s t u v w) := by
  unfold k0_part119; exact .ld (H.h10.slice _ _) fun _=>.st H.h10 fun _=>.ld H.h7 fun _=>.ld H.h7 fun _=>.ld H.h12 fun _=>.ld H.h13 fun _=>.st H.h13 fun _=>.ret _
theorem s120 {p q r s t u v w} : 𝕊 (⟪k0_part120⟫ p q r s t u v w) := by
  unfold k0_part120; exact .ret _
theorem s121 {p q r s t u v w x y z j k l m n o b} : 𝕊 (⟪k0_part121⟫ p q r s t u v w x y z j k l m n o b) := by
  unfold k0_part121; exact .ld H.h7 fun _=>.ld H.h7 fun _=>.ld H.h7 fun _=>.ld H.h12 fun _=>.ld H.h13 fun _=>.st H.h13 fun _=>.ret _
theorem s122 {p q r s t u v w x y z} : 𝕊 (⟪k0_part122⟫ p q r s t u v w x y z) := by
  unfold k0_part122; exact .ret _
theorem s123 {p q r s t u v w x y z j k l m n o b d e} : 𝕊 (⟪k0_part123⟫ p q r s t u v w x y z j k l m n o b d e) := by
  unfold k0_part123; exact .ld H.h7 fun _=>.ld H.h12 fun _=>.st H.h12 fun _=>.ret _
theorem s124 {p q r s t u v} : 𝕊 (⟪k0_part124⟫ p q r s t u v) := by
  unfold k0_part124; exact .ld H.h7 fun _=>.ld (H.h10.slice _ _) fun _=>.st H.h10 fun _=>.ld H.h12 fun _=>.st H.h12 fun _=>.ld H.h7 fun _=>.ret _
theorem s125 {p q r s t u v w x} : 𝕊 (⟪k0_part125⟫ p q r s t u v w x) := by
  unfold k0_part125; exact .ld (H.h10.slice _ _) fun _=>.st H.h10 fun _=>.ld H.h7 fun _=>.ld H.h7 fun _=>.ld H.h12 fun _=>.ld H.h13 fun _=>.st H.h13 fun _=>.ret _
theorem s126 {p q r s t u v w} : 𝕊 (⟪k0_part126⟫ p q r s t u v w) := by
  unfold k0_part126; exact .ret _
theorem s127 {p q r s t u v w x y z j k l m n o b} : 𝕊 (⟪k0_part127⟫ p q r s t u v w x y z j k l m n o b) := by
  unfold k0_part127; exact .ld H.h7 fun _=>.ld H.h7 fun _=>.ld H.h7 fun _=>.ld H.h12 fun _=>.ld H.h13 fun _=>.st H.h13 fun _=>.ret _
theorem s128 {p q r s t u v w x y z} : 𝕊 (⟪k0_part128⟫ p q r s t u v w x y z) := by
  unfold k0_part128; exact .ret _
theorem s129 {p q r s t u v w x y z j k l m n o b d} : 𝕊 (⟪k0_part129⟫ p q r s t u v w x y z j k l m n o b d) := by
  unfold k0_part129; exact .ld H.h7 fun _=>.ld H.h12 fun _=>.ret _
theorem s130 {p q r s t u} : 𝕊 (⟪k0_part130⟫ p q r s t u) := by
  unfold k0_part130; exact .st H.h12 fun _=>.ld H.h7 fun _=>.ld (H.h10.slice _ _) fun _=>.st H.h10 fun _=>.ld H.h12 fun _=>.st H.h12 fun _=>.ret _
theorem s131 {p} : 𝕊 (⟪k0_part131⟫ p) := by
  unfold k0_part131; exact .ld H.h7 fun _=>.ld (H.h10.slice _ _) fun _=>.st H.h10 fun _=>.ld H.h3 fun _=>.ld H.h5 fun _=>.ld H.h6 fun _=>.ld H.h11 fun _=>.ld H.h5 fun _=>.ld H.h6 fun _=>.ret _
theorem s132 {p q} : 𝕊 (⟪k0_part132⟫ p q) := by
  unfold k0_part132; exact .ld H.h3 fun _=>.ld (H.h10.slice _ _) fun _=>.st H.h10 fun _=>.ld H.h3 fun _=>.ld H.h5 fun _=>.ld H.h6 fun _=>.ld H.h11 fun _=>.ld H.h5 fun _=>.ld H.h6 fun _=>.ret _
theorem s133 {p q} : 𝕊 (⟪k0_part133⟫ p q) := by
  unfold k0_part133; exact .ld H.h3 fun _=>.ld (H.h10.slice _ _) fun _=>.st H.h10 fun _=>.ld H.h3 fun _=>.ld H.h5 fun _=>.ld H.h6 fun _=>.ld H.h11 fun _=>.ld H.h5 fun _=>.ld H.h6 fun _=>.ret _
theorem s134 {p q} : 𝕊 (⟪k0_part134⟫ p q) := by
  unfold k0_part134; exact .ld H.h3 fun _=>.ld (H.h10.slice _ _) fun _=>.st H.h10 fun _=>.ld H.h3 fun _=>.ld H.h5 fun _=>.ld H.h6 fun _=>.ld H.h11 fun _=>.ld H.h5 fun _=>.ld H.h6 fun _=>.ld H.h3 fun _=>.ret _
theorem s135 {p q r} : 𝕊 (⟪k0_part135⟫ p q r) := by
  unfold k0_part135; exact .ld (H.h10.slice _ _) fun _=>.st H.h10 fun _=>.ld H.h3 fun _=>.ld H.h5 fun _=>.ld H.h6 fun _=>.ld H.h11 fun _=>.ld H.h5 fun _=>.ld H.h6 fun _=>.ld H.h3 fun _=>.ret _
theorem s136 {p q r} : 𝕊 (⟪k0_part136⟫ p q r) := by
  unfold k0_part136; exact .ld (H.h10.slice _ _) fun _=>.st H.h10 fun _=>.ld H.h3 fun _=>.ld H.h5 fun _=>.ld H.h6 fun _=>.ld H.h11 fun _=>.ld H.h5 fun _=>.ld H.h6 fun _=>.ld H.h3 fun _=>.ret _
theorem s137 {p q} : 𝕊 (⟪k0_part137⟫ p q) := by
  unfold k0_part137; exact .ld (H.h10.slice _ _) fun _=>.st H.h10 fun _=>.ld H.h3 fun _=>.ld H.h5 fun _=>.ld H.h6 fun _=>.ld H.h11 fun _=>.ld H.h5 fun _=>.ld H.h6 fun _=>.ld H.h3 fun _=>.ret _
theorem s138 {p q} : 𝕊 (⟪k0_part138⟫ p q) := by
  unfold k0_part138; exact .ld (H.h10.slice _ _) fun _=>.st H.h10 fun _=>.ld H.h3 fun _=>.ld H.h5 fun _=>.ld H.h6 fun _=>.ld H.h11 fun _=>.ld H.h5 fun _=>.ld H.h6 fun _=>.ld H.h3 fun _=>.ret _
theorem s139 {p q r s t} : 𝕊 (⟪k0_part139⟫ p q r s t) := by
  unfold k0_part139; exact .ld H.h15 fun _=>.ld H.h16 fun _=>.ld H.h17 fun _=>.ld H.h17 fun _=>.ld H.h14 fun _=>.ret _
theorem s140 {p q r s t u v w x} : 𝕊 (⟪k0_part140⟫ p q r s t u v w x) := by
  unfold k0_part140; exact .ld H.h18 fun _=>.ld H.h18 fun _=>.st H.h18 fun _=>.ld H.h17 fun _=>.ld H.h14 fun _=>.ld H.h18 fun _=>.ld H.h18 fun _=>.st H.h18 fun _=>.ld H.h17 fun _=>.ret _
theorem s141 {p q r s t u v w x} : 𝕊 (⟪k0_part141⟫ p q r s t u v w x) := by
  unfold k0_part141; exact .ld H.h14 fun _=>.ld H.h18 fun _=>.ld H.h18 fun _=>.st H.h18 fun _=>.ld H.h17 fun _=>.ld H.h14 fun _=>.ret _
theorem s142 {p q r s t u v w x} : 𝕊 (⟪k0_part142⟫ p q r s t u v w x) := by
  unfold k0_part142; exact .ld H.h18 fun _=>.ld H.h18 fun _=>.st H.h18 fun _=>.ld H.h17 fun _=>.ld H.h14 fun _=>.ld H.h18 fun _=>.ld H.h18 fun _=>.st H.h18 fun _=>.ld H.h17 fun _=>.ret _
theorem s143 {p q r s t u v w x} : 𝕊 (⟪k0_part143⟫ p q r s t u v w x) := by
  unfold k0_part143; exact .ld H.h14 fun _=>.ld H.h18 fun _=>.ld H.h18 fun _=>.st H.h18 fun _=>.ld H.h17 fun _=>.ld H.h14 fun _=>.ret _
theorem s144 {p q r s t} : 𝕊 (⟪k0_part144⟫ p q r s t) := by
  unfold k0_part144; exact .bind (s139 H) fun ⟨_,_,_,_,_,_⟩=>.bind (s140 H) fun _=>.bind (s141 H) fun _=>.bind (s142 H) fun _=>.bind (s143 H) fun _=>.ld H.h18 fun _=>.ld H.h18 fun _=>.st H.h18 fun _=>.ld H.h17 fun _=>.ld H.h14 fun _=>.ld H.h18 fun _=>.ld H.h18 fun _=>.ret _
theorem s145 : 𝕊 (⟪k0_part145⟫) := by
  unfold k0_part145; exact .ld H.h7 fun _=>.ld H.h14 fun _=>.st H.h14 fun _=>.ld H.h7 fun _=>.ld H.h15 fun _=>.st H.h15 fun _=>.ld H.h7 fun _=>.ld H.h16 fun _=>.st H.h16 fun _=>.ld H.h7 fun _=>.ld H.h14 fun _=>.st H.h14 fun _=>.ld H.h7 fun _=>.ld H.h15 fun _=>.st H.h15 fun _=>.ld H.h7 fun _=>.ld H.h16 fun _=>.st H.h16 fun _=>.ret _
theorem s146 : 𝕊 (⟪k0_part146⟫) := by
  unfold k0_part146; exact .ld H.h7 fun _=>.ld H.h14 fun _=>.st H.h14 fun _=>.ld H.h7 fun _=>.ld H.h15 fun _=>.st H.h15 fun _=>.ld H.h7 fun _=>.ld H.h16 fun _=>.st H.h16 fun _=>.ld H.h7 fun _=>.ld H.h14 fun _=>.st H.h14 fun _=>.ld H.h7 fun _=>.ld H.h15 fun _=>.st H.h15 fun _=>.ld H.h7 fun _=>.ld H.h16 fun _=>.st H.h16 fun _=>.ret _
theorem s147 : 𝕊 (⟪k0_part147⟫) := by
  unfold k0_part147; exact .ld H.h7 fun _=>.ld H.h14 fun _=>.st H.h14 fun _=>.ld H.h7 fun _=>.ld H.h15 fun _=>.st H.h15 fun _=>.ld H.h7 fun _=>.ld H.h16 fun _=>.st H.h16 fun _=>.ld H.h7 fun _=>.ld H.h14 fun _=>.st H.h14 fun _=>.ld H.h7 fun _=>.ld H.h15 fun _=>.st H.h15 fun _=>.ld H.h7 fun _=>.ld H.h16 fun _=>.st H.h16 fun _=>.ret _
theorem s148 : 𝕊 (⟪k0_part148⟫) := by
  unfold k0_part148; exact .ld H.h7 fun _=>.ld H.h14 fun _=>.st H.h14 fun _=>.ld H.h7 fun _=>.ld H.h15 fun _=>.st H.h15 fun _=>.ld H.h7 fun _=>.ld H.h16 fun _=>.st H.h16 fun _=>.ld H.h7 fun _=>.ld H.h14 fun _=>.st H.h14 fun _=>.ld H.h7 fun _=>.ld H.h15 fun _=>.st H.h15 fun _=>.ld H.h7 fun _=>.ld H.h16 fun _=>.st H.h16 fun _=>.ret _
theorem s149 {p q r s t} : 𝕊 (⟪k0_part149⟫ p q r s t) := by
  unfold k0_part149; exact .ld H.h17 fun _=>.st H.h17 fun _=>.ld H.h18 fun _=>.st H.h18 fun _=>.bind (.loop fun _ _=>.bind (s144 H) fun _=>.st H.h18 fun _=>.ret _) fun _=>.ld H.h7 fun _=>.ld H.h7 fun _=>.ld H.h7 fun _=>.ret _
theorem s150 {p q r s t u v} : 𝕊 (⟪k0_part150⟫ p q r s t u v) := by
  unfold k0_part150; exact .ld H.h13 fun _=>.ld H.h18 fun _=>.ret _
theorem s151 {p q r s t u v} : 𝕊 (⟪k0_part151⟫ p q r s t u v) := by
  unfold k0_part151; exact .ld H.h7 fun _=>.ld (H.h10.slice _ _) fun _=>.st H.h10 fun _=>.ld H.h7 fun _=>.ld H.h7 fun _=>.ld H.h7 fun _=>.ret _
theorem s152 {p q r s t u v} : 𝕊 (⟪k0_part152⟫ p q r s t u v) := by
  unfold k0_part152; exact .ld H.h13 fun _=>.ld H.h18 fun _=>.ret _
theorem s153 {p q r s t} : 𝕊 (⟪k0_part153⟫ p q r s t) := by
  unfold k0_part153; exact .ld H.h7 fun _=>.ld (H.h10.slice _ _) fun _=>.st H.h10 fun _=>.ld H.h7 fun _=>.ld H.h7 fun _=>.ld H.h7 fun _=>.ret _
theorem s154 {p q r s t u v} : 𝕊 (⟪k0_part154⟫ p q r s t u v) := by
  unfold k0_part154; exact .ld H.h13 fun _=>.ret _
theorem s155 {p q r s t} : 𝕊 (⟪k0_part155⟫ p q r s t) := by
  unfold k0_part155; exact .ld H.h18 fun _=>.ld H.h7 fun _=>.ld (H.h10.slice _ _) fun _=>.st H.h10 fun _=>.ld H.h7 fun _=>.ld H.h7 fun _=>.ld H.h7 fun _=>.ret _
theorem s156 {p q r s t u v} : 𝕊 (⟪k0_part156⟫ p q r s t u v) := by
  unfold k0_part156; exact .ld H.h13 fun _=>.ret _
theorem s157 {p q r s t u v} : 𝕊 (⟪k0_part157⟫ p q r s t u v) := by
  unfold k0_part157; exact .ld H.h18 fun _=>.ld H.h7 fun _=>.ld (H.h10.slice _ _) fun _=>.st H.h10 fun _=>.ld H.h7 fun _=>.ld H.h7 fun _=>.ld H.h7 fun _=>.ret _
theorem s158 {p q r s t u v w x y} : 𝕊 (⟪k0_part158⟫ p q r s t u v w x y) := by
  unfold k0_part158; exact .ret _
theorem s159 {p q r s t u v} : 𝕊 (⟪k0_part159⟫ p q r s t u v) := by
  unfold k0_part159; exact .ld H.h13 fun _=>.ld H.h18 fun _=>.ld H.h7 fun _=>.ld (H.h10.slice _ _) fun _=>.st H.h10 fun _=>.ld H.h7 fun _=>.ld H.h7 fun _=>.ld H.h7 fun _=>.ret _
theorem s160 {p q r s t u v w x} : 𝕊 (⟪k0_part160⟫ p q r s t u v w x) := by
  unfold k0_part160; exact .ret _
theorem s161 {p q r s t u v w x} : 𝕊 (⟪k0_part161⟫ p q r s t u v w x) := by
  unfold k0_part161; exact .ld H.h13 fun _=>.ld H.h18 fun _=>.ld H.h7 fun _=>.ld (H.h10.slice _ _) fun _=>.st H.h10 fun _=>.ld H.h7 fun _=>.ld H.h7 fun _=>.ld H.h7 fun _=>.ret _
theorem s162 {p q r s t u v w x} : 𝕊 (⟪k0_part162⟫ p q r s t u v w x) := by
  unfold k0_part162; exact .ret _
theorem s163 {p q r s t u} : 𝕊 (⟪k0_part163⟫ p q r s t u) := by
  unfold k0_part163; exact .ld H.h13 fun _=>.ld H.h18 fun _=>.ld H.h7 fun _=>.ld (H.h10.slice _ _) fun _=>.st H.h10 fun _=>.ld H.h7 fun _=>.ld H.h7 fun _=>.ld H.h7 fun _=>.ret _
theorem s164 {p q r s t u v} : 𝕊 (⟪k0_part164⟫ p q r s t u v) := by
  unfold k0_part164; exact .ret _
theorem s165 {p q r s t u v} : 𝕊 (⟪k0_part165⟫ p q r s t u v) := by
  unfold k0_part165; exact .bind (s145 H) fun _=>.bind (s146 H) fun _=>.bind (s147 H) fun _=>.bind (s148 H) fun _=>.bind (s149 H) fun ⟨_,_,_,_,_,_⟩=>.bind (s150 H) fun ⟨_,_⟩=>.bind (s151 H) fun ⟨_,_,_,_,_,_⟩=>.bind (s152 H) fun _=>.bind (s153 H) fun ⟨_,_,_,_,_⟩=>.bind (s154 H) fun _=>.bind (s155 H) fun ⟨_,_,_,_,_⟩=>.bind (s156 H) fun ⟨_,_,_⟩=>.bind (s157 H) fun ⟨_,_,_,_,_,_,_,_⟩=>.bind (s158 H) fun ⟨_,_⟩=>.bind (s159 H) fun ⟨_,_,_,_,_,_,_,_⟩=>.bind (s160 H) fun ⟨_,_,_⟩=>.bind (s161 H) fun ⟨_,_,_,_,_,_,_⟩=>.bind (s162 H) fun ⟨_,_,_⟩=>.bind (s163 H) fun ⟨_,_,_⟩=>.bind (s164 H) fun ⟨_,_,_,_,_⟩=>.ld H.h13 fun _=>.ld H.h18 fun _=>.ret _
theorem s166 : 𝕊 (⟪k0_part166⟫) := by
  unfold k0_part166; exact .ret _
theorem s167 {p q r s t} : 𝕊 (⟪k0_part167⟫ p q r s t) := by
  unfold k0_part167; exact .ld H.h9 fun _=>.ld H.h8 fun _=>.ret _
theorem s168 {p q r s t u} : 𝕊 (⟪k0_part168⟫ p q r s t u) := by
  unfold k0_part168; exact .ret _
theorem s169 {p q r s t u v w x} : 𝕊 (⟪k0_part169⟫ p q r s t u v w x) := by
  unfold k0_part169; exact .ld H.h7 fun _=>.ld H.h7 fun _=>.ld H.h12 fun _=>.ld H.h13 fun _=>.st H.h13 fun _=>.ret _
theorem s170 {p q r s t u v w x} : 𝕊 (⟪k0_part170⟫ p q r s t u v w x) := by
  unfold k0_part170; exact .ret _
theorem s171 {p q r s t u v w x y z j k l m} : 𝕊 (⟪k0_part171⟫ p q r s t u v w x y z j k l m) := by
  unfold k0_part171; exact .ld H.h7 fun _=>.ld H.h7 fun _=>.ld H.h7 fun _=>.ld H.h12 fun _=>.ld H.h13 fun _=>.st H.h13 fun _=>.ret _
theorem s172 {p q r s t u v w} : 𝕊 (⟪k0_part172⟫ p q r s t u v w) := by
  unfold k0_part172; exact .ret _
theorem s173 {p q r s t u v w x y z j k l m n o b d e} : 𝕊 (⟪k0_part173⟫ p q r s t u v w x y z j k l m n o b d e) := by
  unfold k0_part173; exact .ld H.h7 fun _=>.ld H.h12 fun _=>.st H.h12 fun _=>.ret _
theorem s174 {p q r s t u v} : 𝕊 (⟪k0_part174⟫ p q r s t u v) := by
  unfold k0_part174; exact .ld H.h7 fun _=>.ld (H.h10.slice _ _) fun _=>.st H.h10 fun _=>.ld H.h12 fun _=>.st H.h12 fun _=>.ld H.h7 fun _=>.ret _
theorem s175 {p q r s t u v w x} : 𝕊 (⟪k0_part175⟫ p q r s t u v w x) := by
  unfold k0_part175; exact .ld (H.h10.slice _ _) fun _=>.st H.h10 fun _=>.ld H.h7 fun _=>.ld H.h7 fun _=>.ld H.h12 fun _=>.ld H.h13 fun _=>.st H.h13 fun _=>.ret _
theorem s176 {p q r s t u v w} : 𝕊 (⟪k0_part176⟫ p q r s t u v w) := by
  unfold k0_part176; exact .ret _
theorem s177 {p q r s t u v w x y z j k l m} : 𝕊 (⟪k0_part177⟫ p q r s t u v w x y z j k l m) := by
  unfold k0_part177; exact .ld H.h7 fun _=>.ld H.h7 fun _=>.ld H.h7 fun _=>.ld H.h12 fun _=>.ld H.h13 fun _=>.st H.h13 fun _=>.ret _
theorem s178 {p q r s t u v w x y z} : 𝕊 (⟪k0_part178⟫ p q r s t u v w x y z) := by
  unfold k0_part178; exact .ret _
theorem s179 {p q r s t u v w x y z j k l m n o b d e g} : 𝕊 (⟪k0_part179⟫ p q r s t u v w x y z j k l m n o b d e g) := by
  unfold k0_part179; exact .ld H.h7 fun _=>.ld H.h12 fun _=>.st H.h12 fun _=>.ret _
theorem s180 {p q r s t u v} : 𝕊 (⟪k0_part180⟫ p q r s t u v) := by
  unfold k0_part180; exact .ld H.h7 fun _=>.ld (H.h10.slice _ _) fun _=>.st H.h10 fun _=>.ld H.h12 fun _=>.st H.h12 fun _=>.ld H.h7 fun _=>.ret _
theorem s181 {p q r s t u v w} : 𝕊 (⟪k0_part181⟫ p q r s t u v w) := by
  unfold k0_part181; exact .ld (H.h10.slice _ _) fun _=>.st H.h10 fun _=>.ld H.h7 fun _=>.ld H.h7 fun _=>.ld H.h12 fun _=>.ld H.h13 fun _=>.st H.h13 fun _=>.ret _
theorem s182 {p q r s t u v w} : 𝕊 (⟪k0_part182⟫ p q r s t u v w) := by
  unfold k0_part182; exact .ret _
theorem s183 {p q r s t u v w x y z j k l m n o b} : 𝕊 (⟪k0_part183⟫ p q r s t u v w x y z j k l m n o b) := by
  unfold k0_part183; exact .ld H.h7 fun _=>.ld H.h7 fun _=>.ld H.h7 fun _=>.ld H.h12 fun _=>.ld H.h13 fun _=>.st H.h13 fun _=>.ret _
theorem s184 {p q r s t u v w x y z} : 𝕊 (⟪k0_part184⟫ p q r s t u v w x y z) := by
  unfold k0_part184; exact .ret _
theorem s185 {p q r s t u v w x y z j k l m n o b d e} : 𝕊 (⟪k0_part185⟫ p q r s t u v w x y z j k l m n o b d e) := by
  unfold k0_part185; exact .ld H.h7 fun _=>.ld H.h12 fun _=>.st H.h12 fun _=>.ret _
theorem s186 {p q r s t u v} : 𝕊 (⟪k0_part186⟫ p q r s t u v) := by
  unfold k0_part186; exact .ld H.h7 fun _=>.ld (H.h10.slice _ _) fun _=>.st H.h10 fun _=>.ld H.h12 fun _=>.st H.h12 fun _=>.ld H.h7 fun _=>.ret _
theorem s187 {p q r s t u v w x} : 𝕊 (⟪k0_part187⟫ p q r s t u v w x) := by
  unfold k0_part187; exact .ld (H.h10.slice _ _) fun _=>.st H.h10 fun _=>.ld H.h7 fun _=>.ld H.h7 fun _=>.ld H.h12 fun _=>.ld H.h13 fun _=>.st H.h13 fun _=>.ret _
theorem s188 {p q r s t u v w} : 𝕊 (⟪k0_part188⟫ p q r s t u v w) := by
  unfold k0_part188; exact .ret _
theorem s189 {p q r s t u v w x y z j k l m n o b} : 𝕊 (⟪k0_part189⟫ p q r s t u v w x y z j k l m n o b) := by
  unfold k0_part189; exact .ld H.h7 fun _=>.ld H.h7 fun _=>.ld H.h7 fun _=>.ld H.h12 fun _=>.ld H.h13 fun _=>.st H.h13 fun _=>.ret _
theorem s190 {p q r s t u v w x y z} : 𝕊 (⟪k0_part190⟫ p q r s t u v w x y z) := by
  unfold k0_part190; exact .ret _
theorem s191 {p q r s t u v w x y z j k l m n o b d} : 𝕊 (⟪k0_part191⟫ p q r s t u v w x y z j k l m n o b d) := by
  unfold k0_part191; exact .ld H.h7 fun _=>.ld H.h12 fun _=>.ret _
theorem s192 {p q r s t u} : 𝕊 (⟪k0_part192⟫ p q r s t u) := by
  unfold k0_part192; exact .st H.h12 fun _=>.ld H.h7 fun _=>.ld (H.h10.slice _ _) fun _=>.st H.h10 fun _=>.ld H.h12 fun _=>.st H.h12 fun _=>.ret _
theorem s193 {p} : 𝕊 (⟪k0_part193⟫ p) := by
  unfold k0_part193; exact .ld H.h7 fun _=>.ld (H.h10.slice _ _) fun _=>.st H.h10 fun _=>.ld H.h3 fun _=>.ld H.h4 fun _=>.ld H.h5 fun _=>.ld H.h6 fun _=>.ld H.h11 fun _=>.ld H.h4 fun _=>.ld H.h5 fun _=>.ret _
theorem s194 {p q r s t u} : 𝕊 (⟪k0_part194⟫ p q r s t u) := by
  unfold k0_part194; exact .ld H.h6 fun _=>.ld H.h3 fun _=>.ld (H.h10.slice _ _) fun _=>.st H.h10 fun _=>.ld H.h3 fun _=>.ld H.h4 fun _=>.ld H.h5 fun _=>.ld H.h6 fun _=>.ld H.h11 fun _=>.ret _
theorem s195 {p q} : 𝕊 (⟪k0_part195⟫ p q) := by
  unfold k0_part195; exact .ld H.h4 fun _=>.ld H.h5 fun _=>.ld H.h6 fun _=>.ld H.h3 fun _=>.ld (H.h10.slice _ _) fun _=>.st H.h10 fun _=>.ld H.h3 fun _=>.ld H.h4 fun _=>.ld H.h5 fun _=>.ld H.h6 fun _=>.ret _
theorem s196 {p q} : 𝕊 (⟪k0_part196⟫ p q) := by
  unfold k0_part196; exact .ld H.h11 fun _=>.ld H.h4 fun _=>.ld H.h5 fun _=>.ld H.h6 fun _=>.ld H.h3 fun _=>.ld (H.h10.slice _ _) fun _=>.st H.h10 fun _=>.ld H.h3 fun _=>.ld H.h4 fun _=>.ret _
theorem s197 {p q r} : 𝕊 (⟪k0_part197⟫ p q r) := by
  unfold k0_part197; exact .ld H.h5 fun _=>.ld H.h6 fun _=>.ld H.h11 fun _=>.ld H.h4 fun _=>.ld H.h5 fun _=>.ld H.h6 fun _=>.ld H.h3 fun _=>.ret _
theorem s198 {p q} : 𝕊 (⟪k0_part198⟫ p q) := by
  unfold k0_part198; exact .ld (H.h10.slice _ _) fun _=>.st H.h10 fun _=>.ld H.h3 fun _=>.ld H.h4 fun _=>.ld H.h5 fun _=>.ld H.h6 fun _=>.ld H.h11 fun _=>.ld H.h4 fun _=>.ld H.h5 fun _=>.ld H.h6 fun _=>.ret _
theorem s199 {p q r} : 𝕊 (⟪k0_part199⟫ p q r) := by
  unfold k0_part199; exact .ld H.h3 fun _=>.ld (H.h10.slice _ _) fun _=>.st H.h10 fun _=>.ld H.h3 fun _=>.ld H.h4 fun _=>.ld H.h5 fun _=>.ld H.h6 fun _=>.ld H.h11 fun _=>.ld H.h4 fun _=>.ld H.h5 fun _=>.ret _
theorem s200 {p q r s t u} : 𝕊 (⟪k0_part200⟫ p q r s t u) := by
  unfold k0_part200; exact .ld H.h6 fun _=>.ld H.h3 fun _=>.ld (H.h10.slice _ _) fun _=>.st H.h10 fun _=>.ld H.h3 fun _=>.ld H.h4 fun _=>.ld H.h5 fun _=>.ld H.h6 fun _=>.ld H.h11 fun _=>.ret _
theorem s201 {p q} : 𝕊 (⟪k0_part201⟫ p q) := by
  unfold k0_part201; exact .ld H.h4 fun _=>.ld H.h5 fun _=>.ld H.h6 fun _=>.ld H.h3 fun _=>.ld (H.h10.slice _ _) fun _=>.st H.h10 fun _=>.ld H.h3 fun _=>.ld H.h4 fun _=>.ld H.h5 fun _=>.ld H.h6 fun _=>.ret _
theorem s202 : 𝕊 (⟪k0_part202⟫) := by
  unfold k0_part202; exact .bind (s166 H) fun ⟨_,_,_,_,_⟩=>.bind (s167 H) fun ⟨_,_,_,_,_,_,_,_⟩=>.bind (s168 H) fun ⟨_,_,_,_,_,_,_,_,_,_,_,_,_,_⟩=>.bind (s169 H) fun ⟨_,_,_,_,_,_,_,_,_⟩=>.bind (s170 H) fun ⟨_,_,_,_,_⟩=>.bind (s171 H) fun ⟨_,_,_,_,_,_,_,_,_,_⟩=>.bind (s172 H) fun ⟨_,_,_,_,_,_,_⟩=>.bind (s173 H) fun ⟨_,_,_,_⟩=>.bind (s174 H) fun _=>.bind (s175 H) fun ⟨_,_,_,_,_,_,_⟩=>.bind (s176 H) fun ⟨_,_,_,_,_⟩=>.bind (s177 H) fun ⟨_,_,_,_,_,_,_,_,_,_,_,_,_⟩=>.bind (s178 H) fun ⟨_,_,_,_,_,_,_,_⟩=>.bind (s179 H) fun ⟨_,_,_,_⟩=>.bind (s180 H) fun _=>.bind (s181 H) fun ⟨_,_,_,_,_,_⟩=>.bind (s182 H) fun ⟨_,_,_,_,_,_,_⟩=>.bind (s183 H) fun ⟨_,_,_,_,_,_,_,_,_,_,_,_,_⟩=>.bind (s184 H) fun ⟨_,_,_,_,_,_,_⟩=>.bind (s185 H) fun ⟨_,_,_,_⟩=>.bind (s186 H) fun ⟨_,_⟩=>.bind (s187 H) fun ⟨_,_,_,_,_,_⟩=>.bind (s188 H) fun ⟨_,_,_,_,_,_,_⟩=>.bind (s189 H) fun ⟨_,_,_,_,_,_,_,_,_,_,_,_,_⟩=>.bind (s190 H) fun ⟨_,_,_,_,_,_⟩=>.bind (s191 H) fun ⟨_,_,_⟩=>.bind (s192 H) fun _=>.bind (s193 H) fun ⟨_,_,_,_,_,_⟩=>.bind (s194 H) fun _=>.bind (s195 H) fun _=>.bind (s196 H) fun ⟨_,_⟩=>.bind (s197 H) fun _=>.bind (s198 H) fun ⟨_,_⟩=>.bind (s199 H) fun ⟨_,_,_,_,_⟩=>.bind (s200 H) fun _=>.bind (s201 H) fun _=>.ld H.h11 fun _=>.ld H.h4 fun _=>.ld H.h5 fun _=>.ret _

/-- The body only loads from and stores to its buffers. -/
theorem safe : 𝕊 (⟪cc0_mixers⟫) := by
  unfold cc0_mixers
  exact .dite (.dite (.dite (.dite (.dite (.ret _)
    fun hR _=>.bind (s202 H) fun ⟨_,_,_,_,_,_,_,_,_,_,_,_,_⟩=>.ld H.h6 fun _=>.ld H.h3 fun _=>.ld (H.h10.slice _ _) fun _=>.st H.h10 fun _=>.ite (hR)
      fun hR =>.bind (s165 H) fun _=>.ld H.h7 fun _=>.ld (H.h10.slice _ _) fun _=>.st H.h10 fun _=>hR)
    fun hR _=>.bind (s104 H) fun ⟨_,_,_,_,_⟩=>.bind (s105 H) fun ⟨_,_,_,_,_,_,_,_⟩=>.bind (s106 H) fun ⟨_,_,_,_,_,_,_,_,_,_,_,_,_,_⟩=>.bind (s107 H) fun ⟨_,_,_,_,_,_,_,_,_⟩=>.bind (s108 H) fun ⟨_,_,_,_,_⟩=>.bind (s109 H) fun ⟨_,_,_,_,_,_,_,_,_,_⟩=>.bind (s110 H) fun ⟨_,_,_,_,_,_,_⟩=>.bind (s111 H) fun ⟨_,_,_,_⟩=>.bind (s112 H) fun _=>.bind (s113 H) fun ⟨_,_,_,_,_,_,_⟩=>.bind (s114 H) fun ⟨_,_,_,_,_⟩=>.bind (s115 H) fun ⟨_,_,_,_,_,_,_,_,_,_,_,_,_⟩=>.bind (s116 H) fun ⟨_,_,_,_,_,_,_,_⟩=>.bind (s117 H) fun ⟨_,_,_,_⟩=>.bind (s118 H) fun _=>.bind (s119 H) fun ⟨_,_,_,_,_,_⟩=>.bind (s120 H) fun ⟨_,_,_,_,_,_,_⟩=>.bind (s121 H) fun ⟨_,_,_,_,_,_,_,_,_,_,_,_,_⟩=>.bind (s122 H) fun ⟨_,_,_,_,_,_,_⟩=>.bind (s123 H) fun ⟨_,_,_,_⟩=>.bind (s124 H) fun ⟨_,_⟩=>.bind (s125 H) fun ⟨_,_,_,_,_,_⟩=>.bind (s126 H) fun ⟨_,_,_,_,_,_,_⟩=>.bind (s127 H) fun ⟨_,_,_,_,_,_,_,_,_,_,_,_,_⟩=>.bind (s128 H) fun ⟨_,_,_,_,_,_⟩=>.bind (s129 H) fun ⟨_,_,_⟩=>.bind (s130 H) fun _=>.bind (s131 H) fun ⟨_,_⟩=>.bind (s132 H) fun _=>.bind (s133 H) fun _=>.bind (s134 H) fun ⟨_,_⟩=>.bind (s135 H) fun ⟨_,_⟩=>.bind (s136 H) fun _=>.bind (s137 H) fun _=>.bind (s138 H) fun _=>.ld (H.h10.slice _ _) fun _=>.st H.h10 fun _=>.ite (hR)
      fun hR =>.bind (s103 H) fun _=>.ld H.h7 fun _=>.ld (H.h10.slice _ _) fun _=>.st H.h10 fun _=>hR)
    fun hR _=>.bind (s44 H) fun ⟨_,_,_,_,_⟩=>.bind (s45 H) fun ⟨_,_,_,_,_,_,_,_⟩=>.bind (s46 H) fun ⟨_,_,_,_,_,_,_,_,_,_,_,_,_,_⟩=>.bind (s47 H) fun ⟨_,_,_,_,_,_,_,_,_⟩=>.bind (s48 H) fun ⟨_,_,_,_,_⟩=>.bind (s49 H) fun ⟨_,_,_,_,_,_,_,_,_,_⟩=>.bind (s50 H) fun ⟨_,_,_,_,_,_,_⟩=>.bind (s51 H) fun ⟨_,_,_,_⟩=>.bind (s52 H) fun _=>.bind (s53 H) fun ⟨_,_,_,_,_,_,_⟩=>.bind (s54 H) fun ⟨_,_,_,_,_⟩=>.bind (s55 H) fun ⟨_,_,_,_,_,_,_,_,_,_,_,_,_⟩=>.bind (s56 H) fun ⟨_,_,_,_,_,_,_,_⟩=>.bind (s57 H) fun ⟨_,_,_,_⟩=>.bind (s58 H) fun _=>.bind (s59 H) fun ⟨_,_,_,_,_,_⟩=>.bind (s60 H) fun ⟨_,_,_,_,_,_,_⟩=>.bind (s61 H) fun ⟨_,_,_,_,_,_,_,_,_,_,_,_,_⟩=>.bind (s62 H) fun ⟨_,_,_,_,_,_,_⟩=>.bind (s63 H) fun ⟨_,_,_,_⟩=>.bind (s64 H) fun ⟨_,_⟩=>.bind (s65 H) fun ⟨_,_,_,_,_,_⟩=>.bind (s66 H) fun ⟨_,_,_,_,_,_,_⟩=>.bind (s67 H) fun ⟨_,_,_,_,_,_,_,_,_,_,_,_,_⟩=>.bind (s68 H) fun ⟨_,_,_,_,_,_⟩=>.bind (s69 H) fun ⟨_,_,_⟩=>.bind (s70 H) fun _=>.bind (s71 H) fun _=>.bind (s72 H) fun ⟨_,_⟩=>.bind (s73 H) fun ⟨_,_⟩=>.bind (s74 H) fun _=>.bind (s75 H) fun _=>.bind (s76 H) fun _=>.ld (H.h10.slice _ _) fun _=>.st H.h10 fun _=>.ite (hR)
      fun hR =>.bind (s43 H) fun _=>.ld H.h7 fun _=>.ld (H.h10.slice _ _) fun _=>.st H.h10 fun _=>hR)
    fun hR _=>.ld H.h12 fun _=>.st H.h12 fun _=>hR)
    fun hR _=>.bind (s16 H) fun ⟨_,_⟩=>.st H.h11 fun _=>.ld H.h11 fun _=>.st H.h11 fun _=>hR

end Cert.MixIdeal.Hand

end
-- ==== Proof.MixIdealFrame.lean ====
/- The mixers' run over the ideal numbers: it ends from any memory, whatever the body's buffers hold, with the arguments unchanged and the
   counters at zero. -/
module

public import proofs.«01_k».proof.Proof.MixIdealParts
public import proofs.«01_k».proof.Proof.Gen.MixIdeal.Frame
public import Idealize.ShloMosaic.Lib.Claim
public import Idealize.ShloMosaic.Lib.Pipeline.DatRel
public import Idealize.ShloMosaic.Lib.Pipeline.ArrRel

@[expose] public section

set_option maxRecDepth 16384

noncomputable section

namespace Cert.MixIdeal.Hand

open Cert.MixIdeal Cert.MixIdeal.Gen Cert.AnyContents Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch, each buffer at some contents, and the generator register. -/
def scratch (c : Dev nD) : sProp 𝕄 :=
  iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r))

theorem scratch_eq (c : Dev nD) : (Pipeline.ΦA spec0 c : sProp 𝕄) = scratch c := by
  unfold Pipeline.ΦA scratch; rw [scopedRest0_eq]; simp only [owns_whole]; try rfl

/-- The proof data: the arrays as launched, nothing known of the scratch. -/
def dats (_ : Fin 1) (c : Dev nD) : Dat τ (Elt F) Unit ℕ (UR sig nD τ) ℕ cfg0 c where
  A w := V m c (Pipeline.arrRef spec0 w)
  after _ _ := fun _ => Classical.choice inferInstance
  Φ _ := scratch c
  q w := Pipeline.shareOf spec0 w
  owed _ := 0

theorem A_eq (c : Dev nD) (w : Fin cfg0.W) : (dats m 0 c).A w = V m c (Pipeline.arrRef spec0 w) := by
  dsimp only [dats]

/-- What the body holds at a point. -/
def held (c : Dev nD) (t : Fin cfg0.N) : sProp 𝕄 :=
  iprop(scratch c ∗ (dats m 0 c).owesAt () t.castSucc
    ∗ (∃ d, owns (c : Thread nD τ) (win0_0.stage (cfg0.slots t 0)) fullShare d) ∗ (∃ d, owns (c : Thread nD τ) (win0_1.stage (cfg0.slots t 1)) fullShare d) ∗ (∃ d, owns (c : Thread nD τ) (win0_2.stage (cfg0.slots t 2)) fullShare d) ∗ (∃ d, owns (c : Thread nD τ) (win0_3.stage (cfg0.slots t 3)) fullShare d) ∗ (∃ d, owns (c : Thread nD τ) (win0_4.stage (cfg0.slots t 4)) fullShare d) ∗ (∃ d, owns (c : Thread nD τ) (win0_5.stage (cfg0.slots t 5)) fullShare d) ∗ (∃ d, owns (c : Thread nD τ) (win0_6.stage (cfg0.slots t 6)) fullShare d) ∗ (∃ d, owns (c : Thread nD τ) (win0_7.stage (cfg0.slots t 7)) fullShare d) ∗ (∃ d, owns (c : Thread nD τ) (win0_8.stage (cfg0.slots t 8)) fullShare d))

theorem bufs (c : Dev nD) (t : Fin cfg0.N) : Bufs (held m c t) c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8))
    (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) where
  h2 := Lends.held (.right (.right (.left (.refl _))))
  h3 := Lends.held (.right (.right (.right (.left (.refl _)))))
  h4 := Lends.held (.right (.right (.right (.right (.left (.refl _))))))
  h5 := Lends.held (.right (.right (.right (.right (.right (.left (.refl _)))))))
  h6 := Lends.held (.right (.right (.right (.right (.right (.right (.left (.refl _))))))))
  h7 := Lends.held (.right (.right (.right (.right (.right (.right (.right (.left (.refl _)))))))))
  h8 := Lends.held (.right (.right (.right (.right (.right (.right (.right (.right (.left (.refl _))))))))))
  h9 := Lends.held (.right (.right (.right (.right (.right (.right (.right (.right (.right (.left (.refl _)))))))))))
  h10 := Lends.held (.right (.right (.right (.right (.right (.right (.right (.right (.right (.right (.refl _)))))))))))
  h11 := Lends.held (.left (.left (.left (.refl _))))
  h12 := Lends.held (.left (.left (.right (.left (.refl _)))))
  h13 := Lends.held (.left (.left (.right (.right (.left (.refl _))))))
  h14 := Lends.held (.left (.left (.right (.right (.right (.left (.refl _)))))))
  h15 := Lends.held (.left (.left (.right (.right (.right (.right (.left (.refl _))))))))
  h16 := Lends.held (.left (.left (.right (.right (.right (.right (.right (.left (.refl _)))))))))
  h17 := Lends.held (.left (.left (.right (.right (.right (.right (.right (.right (.left (.refl _))))))))))
  h18 := Lends.held (.left (.left (.right (.right (.right (.right (.right (.right (.right (.refl _))))))))))

theorem sound_body (c : Dev nD) (t : Fin cfg0.N) :
    held m c t ⊢ wp frame (wpE (defs₀ (F := F)) Variants.none c none) Set.univ (bodyAt0 t) (fun _ => held m c t) :=
  (safe (bufs m c t)).sound Variants.none none Set.univ

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ (fun _ => true) := fun t => by
  rw [bigSep_W0, defs₀_row]
  exact triple_restated (sound_body m c t) rfl .rfl fun _ => .rfl

set_option backward.isDefEq.respectTransparency.types false in
theorem run_quiescent : θ_run defs (onTc (τ := τ) (main (F := F))) (s₀ m ρ)
    (fun r => Pipeline.RDat.FramePost (cfgs 0) (fun c => (dats m 0 c).toRForget fun _ => true) (V m) r ∧ r.2.sem = fun _ => 0) :=
  Pipeline.θ_run_frame_track_forget_shared cfgs (dats m) (0 : Fin 1) launch₀0 defs₀ Variants.none (fun _ => true) m ρ main
    (body_obligation m) (fun _ _ _ => rfl) (fun _ _ => rfl) (V m) (hmain m Variants.none) (A_eq m)
    (fun c => Entails.of_eq (scratch_eq c)) (fun c => Entails.of_eq (scratch_eq c).symm) _ (fun _ h => h)

/-- The run of @main from any memory with zero counters ends, leaves the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => by
    have h := h.1
    exact ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 4 rfl).trans ((A_eq m c 4).trans (V_main_arg2 m c)),
      (Pipeline.RDat.FramePost.arr_in h c 5 rfl).trans ((A_eq m c 5).trans (V_main_arg3 m c)),
      (Pipeline.RDat.FramePost.arr_in h c 6 rfl).trans ((A_eq m c 6).trans (V_main_arg4 m c)),
      (Pipeline.RDat.FramePost.arr_in h c 7 rfl).trans ((A_eq m c 7).trans (V_main_arg5 m c))⟩, h.2⟩) (run_quiescent m ρ)

end Cert.MixIdeal.Hand

end
-- ==== Proof.lean ====
module

public import proofs.«01_k».proof.Defs
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.Proj
public import proofs.«01_k».proof.Proof.Gen.ProjIdeal
public import proofs.«01_k».proof.Proof.Gen.ProjRefIdeal
public import proofs.«01_k».proof.Proof.Gen.Proj.Skeleton
public import proofs.«01_k».proof.Proof.Gen.ProjIdeal.Skeleton
public import proofs.«01_k».proof.Proof.Gen.Proj.Frame
public import proofs.«01_k».proof.Proof.Gen.ProjIdeal.Frame
public import proofs.«01_k».proof.Proof.Gen.ProjRefIdeal.Run
public import proofs.«01_k».proof.Proof.Gen.OutIdeal.Value
public import proofs.«01_k».proof.Proof.Gen.OutRefIdeal.Run
public import proofs.«01_k».proof.Proof.Gen.OutRefIdeal
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.Pre_finite
public import proofs.«01_k».proof.Proof.Gen.Mix
public import proofs.«01_k».proof.Proof.Gen.MixIdeal
public import proofs.«01_k».proof.Proof.Gen.Mix.Launch
public import proofs.«01_k».proof.Proof.Gen.MixIdeal.Launch
public import proofs.«01_k».proof.Proof.Gen.Mix.Points
public import proofs.«01_k».proof.Proof.Gen.MixIdeal.Points
public import proofs.«01_k».proof.Proof.Gen.Mix.Frame
public import proofs.«01_k».proof.Proof.Gen.MixIdeal.Frame
public import proofs.«01_k».proof.Proof.OutValue
public import proofs.«01_k».proof.Proof.AdaValue
public import proofs.«01_k».proof.Proof.ProjLaunch
public import proofs.«01_k».proof.Proof.ProjFinal
public import proofs.«01_k».proof.Proof.MixFrame
public import proofs.«01_k».proof.Proof.MixIdealFrame
public import Idealize.ShloMosaic.Lib.Claim
public import Idealize.ShloMosaic.Adequacy
public import Idealize.ShloMosaic.Init

@[expose] public section

noncomputable section

namespace Cert.Proof

open Idealize.ShloMosaic Idealize.SL.Sem

/-- The reference leaves its arguments as launched; it has no semaphores. -/
theorem frame_outref : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The output projection's result array is the reference's value. -/
theorem algebraic_out : Cert.algebraic_OutIdeal_OutRefIdeal := by
  pair_intro
  · run_from Cert.OutIdeal.Gen.run_main m g
  · run_from Cert.OutRefIdeal.Value.run m' g'
    exact (Cert.OutIdeal.Hand.final m c).symm

/-- The projection's reference leaves its arguments as launched; it has no semaphores. -/
theorem frame_projref : Cert.quiescent_ProjRefIdeal := fun m ρ _ =>
  (θ_run Cert.ProjRefIdeal.defs _ _).mono (fun r h => ⟨fun c => (h c).2.2.2.2.2, sem_eq_zero_of_no_sems (by decide) r.2⟩)
    (Cert.ProjRefIdeal.Value.run (F := Ideal) m ρ)

/-- The two constants named are what the program's bits round. -/
theorem preserves_proj : Cert.preserves_Proj_ProjIdeal :=
  ⟨IdealRules.named_const.statement Cert.ProjIdeal.κ "log2e" .f32 0x3FB8AA3B#32 (((Real.log 2)⁻¹ : ℝ) : EReal) rfl,
    IdealRules.named_const.statement Cert.ProjIdeal.κ "q_scale" .f32 0x3E0293EE#32 (((Real.sqrt 128)⁻¹ * (Real.log 2)⁻¹ : ℝ) : EReal) rfl⟩

/-- The projection's five result arrays are the reference's. -/
theorem algebraic_proj : Cert.algebraic_ProjIdeal_ProjRefIdeal := by
  intro m g m' g' _ ha
  refine ⟨Cert.ProjIdeal.Hand.K0 m, Cert.ProjIdeal.Hand.K1 m, Cert.ProjIdeal.Hand.K2 m, Cert.ProjIdeal.Hand.K3 m, Cert.ProjIdeal.Hand.K4 m, ?_, ?_⟩
  · run_from Cert.ProjIdeal.Hand.results m g & Cert.ProjIdeal.Hand.frame m g
  · refine (θ_run Cert.ProjRefIdeal.defs _ _).mono (fun r h c => ?_) (Cert.ProjRefIdeal.Value.run (F := Ideal) m' g')
    obtain ⟨a0, a1, a2, a3, a4, a5, a6, a7⟩ := ha c
    obtain ⟨h0, h1, h2, h3, h4, hargs⟩ := h c
    exact ⟨h0.trans (Cert.ProjIdeal.Hand.ref0 m _ c a0 a1 a2 a3 a4), h1.trans (Cert.ProjIdeal.Hand.ref1 m _ c a0 a1 a2 a3 a5),
      h2.trans (Cert.ProjIdeal.Hand.ref2 m _ c a0 a1 a2 a3 a6), h3.trans (Cert.ProjIdeal.Hand.ref3 m _ c a0 a1 a2 a3 a6),
      h4.trans (Cert.ProjIdeal.Hand.ref4 m _ c a7), hargs⟩

/-- The modulation's reference leaves its arguments as launched; it has no semaphores. -/
theorem frame_adaref : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- The modulation's result array is the reference's value, where the conditioning rows and the weights are finite. -/
theorem algebraic_ada : Cert.algebraic_AdaIdeal_AdaRefIdeal_pre_finite (hPre_finite := Cert.Pre_finite.Gen.facts) := by
  intro m g m' g' hp ha
  refine ⟨fun c => Cert.AdaIdeal.Hand.REF (m ((c.tc : Thread Cert.AdaIdeal.nD Cert.AdaIdeal.τ).loc Cert.AdaIdeal.main_arg0))
    (m ((c.tc : Thread Cert.AdaIdeal.nD Cert.AdaIdeal.τ).loc Cert.AdaIdeal.main_arg1))
    (m ((c.tc : Thread Cert.AdaIdeal.nD Cert.AdaIdeal.τ).loc Cert.AdaIdeal.main_arg2)), ?_, ?_⟩
  · refine (θ_run Cert.AdaIdeal.defs _ _).mono (fun r h c => ?_) (Cert.AdaIdeal.Value.run_blocks (F := Ideal) m g)
    obtain ⟨hr, hargs⟩ := h c
    obtain ⟨f0, f1⟩ := Cert.AdaIdeal.Hand.fin_of_pre m hp c
    exact ⟨hr.trans (Cert.AdaIdeal.Hand.final m c f0 f1), hargs⟩
  · refine (θ_run Cert.AdaRefIdeal.defs _ _).mono (fun r h c => ?_) (Cert.AdaRefIdeal.Value.run (F := Ideal) m' g')
    obtain ⟨a0, a1, a2⟩ := ha c
    obtain ⟨hr, hargs⟩ := h c
    rw [a0, a1, a2] at hr
    exact ⟨hr, hargs⟩

theorem claim : Cert.Claim :=
  ⟨Cert.Proj.Gen.facts, Cert.ProjIdeal.Gen.facts, Cert.ProjRefIdeal.Gen.facts, Cert.Out.Gen.facts, Cert.OutIdeal.Gen.facts,
    Cert.OutRefIdeal.Gen.facts, Cert.Ada.Gen.facts, Cert.AdaIdeal.Gen.facts, Cert.AdaRefIdeal.Gen.facts, Cert.Mix.Gen.facts, Cert.MixIdeal.Gen.facts,
    Cert.Pre_finite.Gen.facts,
    fun m ρ _ => Cert.Proj.Hand.frame m ρ, fun m ρ _ => Cert.ProjIdeal.Hand.frame m ρ, frame_projref,
    fun m ρ _ => Cert.Out.Gen.frame m ρ, fun m ρ _ => Cert.OutIdeal.Gen.frame m ρ, frame_outref,
    fun m ρ _ => Cert.Ada.Gen.frame m ρ, fun m ρ _ => Cert.AdaIdeal.Gen.frame m ρ, fun m ρ _ => Cert.AdaIdeal.Gen.frame m ρ,
    frame_adaref, fun m ρ _ => frame_adaref m ρ trivial,
    fun m ρ _ => Cert.Mix.Hand.frame m ρ, fun m ρ _ => Cert.MixIdeal.Hand.frame m ρ,
    preserves_proj, algebraic_proj, trivial, algebraic_out, trivial, algebraic_ada, trivial⟩

end Cert.Proof

end
